-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_qk [hPre_finite_qk : Cert.Pre_finite_qk.Facts] (m : (ℓ : Loc Cert.GqaIdeal.nD Cert.GqaIdeal.τ Cert.GqaIdeal.sig) → Buf (Elt Ideal) ℓ) : Prop :=
  ∀ c : Dev Cert.GqaIdeal.nD,
    (Cert.Pre_finite_qk.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_qk [hPre_finite_qk : Cert.Pre_finite_qk.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_qk.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_gate [hPre_finite_gate : Cert.Pre_finite_gate.Facts] (m : (ℓ : Loc Cert.UpIdeal.nD Cert.UpIdeal.τ Cert.UpIdeal.sig) → Buf (Elt Ideal) ℓ) : Prop :=
  ∀ c : Dev Cert.UpIdeal.nD,
    (Cert.Pre_finite_gate.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite_gate [hPre_finite_gate : Cert.Pre_finite_gate.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite_gate.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_CdIn (m : (ℓ : Loc Cert.CdIn.nD Cert.CdIn.τ Cert.CdIn.sig) → Buf (Elt Bits) ℓ) : Prop :=
  True

def Pre_CdInIdeal (m : (ℓ : Loc Cert.CdInIdeal.nD Cert.CdInIdeal.τ Cert.CdInIdeal.sig) → Buf (Elt Ideal) ℓ) : Prop :=
  True

def Pre_CdInRefIdeal (m : (ℓ : Loc Cert.CdInRefIdeal.nD Cert.CdInRefIdeal.τ Cert.CdInRefIdeal.sig) → Buf (Elt Ideal) ℓ) : Prop :=
  True

def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_finite_na [hPre_finite_na : Cert.Pre_finite_na.Facts] (m : (ℓ : Loc Cert.NaIdeal.nD Cert.NaIdeal.τ Cert.NaIdeal.sig) → Buf (Elt Ideal) ℓ) : Prop :=
  ∀ c : Dev Cert.NaIdeal.nD,
    (Cert.Pre_finite_na.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1))) = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_finite_na [hPre_finite_na : Cert.Pre_finite_na.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_finite_na.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_pool [hPre_finite_pool : Cert.Pre_finite_pool.Facts] (m : (ℓ : Loc Cert.PoolIdeal.nD Cert.PoolIdeal.τ Cert.PoolIdeal.sig) → Buf (Elt Ideal) ℓ) : Prop :=
  ∀ c : Dev Cert.PoolIdeal.nD,
    (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_pool [hPre_finite_pool : Cert.Pre_finite_pool.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_finite_qk [hGqaIdeal : Cert.GqaIdeal.Facts] [hPre_finite_qk : Cert.Pre_finite_qk.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_qk m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_finite_qk [hGqaRefIdeal : Cert.GqaRefIdeal.Facts] [hPre_finite_qk : Cert.Pre_finite_qk.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_qk m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpIdeal_pre_finite_gate [hUpIdeal : Cert.UpIdeal.Facts] [hPre_finite_gate : Cert.Pre_finite_gate.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_gate m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_UpRefIdeal_pre_finite_gate [hUpRefIdeal : Cert.UpRefIdeal.Facts] [hPre_finite_gate : Cert.Pre_finite_gate.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite_gate m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1))
      ∧ r.2.sem = fun _ => 0)

def quiescent_CdIn [hCdIn : Cert.CdIn.Facts] : Prop :=
  ∀ (m : (ℓ : Loc Cert.CdIn.nD Cert.CdIn.τ Cert.CdIn.sig) → Buf (Elt Bits) ℓ) (g : Dev Cert.CdIn.nD → PrngReg), Pre_CdIn m →
    θ_run (Cert.CdIn.defs (F := Bits)) (onTc (τ := Cert.CdIn.τ) (Cert.CdIn.main (F := Bits))) ⟨m, fun _ => 0, g⟩ (fun r => (∀ c : Dev Cert.CdIn.nD,
      r.2.mem ((c.tc : Thread Cert.CdIn.nD Cert.CdIn.τ).loc Cert.CdIn.main_arg0) = m ((c.tc : Thread Cert.CdIn.nD Cert.CdIn.τ).loc Cert.CdIn.main_arg0)
      ∧ r.2.mem ((c.tc : Thread Cert.CdIn.nD Cert.CdIn.τ).loc Cert.CdIn.main_arg1) = m ((c.tc : Thread Cert.CdIn.nD Cert.CdIn.τ).loc Cert.CdIn.main_arg1))
      ∧ r.2.sem = fun _ => 0)

def quiescent_CdInIdeal [hCdInIdeal : Cert.CdInIdeal.Facts] : Prop :=
  ∀ (m : (ℓ : Loc Cert.CdInIdeal.nD Cert.CdInIdeal.τ Cert.CdInIdeal.sig) → Buf (Elt Ideal) ℓ) (g : Dev Cert.CdInIdeal.nD → PrngReg), Pre_CdInIdeal m →
    θ_run (Cert.CdInIdeal.defs (F := Ideal)) (onTc (τ := Cert.CdInIdeal.τ) (Cert.CdInIdeal.main (F := Ideal))) ⟨m, fun _ => 0, g⟩ (fun r => (∀ c : Dev Cert.CdInIdeal.nD,
      r.2.mem ((c.tc : Thread Cert.CdInIdeal.nD Cert.CdInIdeal.τ).loc Cert.CdInIdeal.main_arg0) = m ((c.tc : Thread Cert.CdInIdeal.nD Cert.CdInIdeal.τ).loc Cert.CdInIdeal.main_arg0)
      ∧ r.2.mem ((c.tc : Thread Cert.CdInIdeal.nD Cert.CdInIdeal.τ).loc Cert.CdInIdeal.main_arg1) = m ((c.tc : Thread Cert.CdInIdeal.nD Cert.CdInIdeal.τ).loc Cert.CdInIdeal.main_arg1))
      ∧ r.2.sem = fun _ => 0)

def quiescent_CdInRefIdeal [hCdInRefIdeal : Cert.CdInRefIdeal.Facts] : Prop :=
  ∀ (m : (ℓ : Loc Cert.CdInRefIdeal.nD Cert.CdInRefIdeal.τ Cert.CdInRefIdeal.sig) → Buf (Elt Ideal) ℓ) (g : Dev Cert.CdInRefIdeal.nD → PrngReg), Pre_CdInRefIdeal m →
    θ_run (Cert.CdInRefIdeal.defs (F := Ideal)) (onTc (τ := Cert.CdInRefIdeal.τ) (Cert.CdInRefIdeal.main (F := Ideal))) ⟨m, fun _ => 0, g⟩ (fun r => (∀ c : Dev Cert.CdInRefIdeal.nD,
      r.2.mem ((c.tc : Thread Cert.CdInRefIdeal.nD Cert.CdInRefIdeal.τ).loc Cert.CdInRefIdeal.main_arg0) = m ((c.tc : Thread Cert.CdInRefIdeal.nD Cert.CdInRefIdeal.τ).loc Cert.CdInRefIdeal.main_arg0)
      ∧ r.2.mem ((c.tc : Thread Cert.CdInRefIdeal.nD Cert.CdInRefIdeal.τ).loc Cert.CdInRefIdeal.main_arg1) = m ((c.tc : Thread Cert.CdInRefIdeal.nD Cert.CdInRefIdeal.τ).loc Cert.CdInRefIdeal.main_arg1))
      ∧ r.2.sem = fun _ => 0)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaIdeal_pre_finite_na [hNaIdeal : Cert.NaIdeal.Facts] [hPre_finite_na : Cert.Pre_finite_na.Facts] : Prop :=
  ∀ (m : (ℓ : Loc Cert.NaIdeal.nD Cert.NaIdeal.τ Cert.NaIdeal.sig) → Buf (Elt Ideal) ℓ) (g : Dev Cert.NaIdeal.nD → PrngReg), Pre_NaIdeal_finite_na m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def quiescent_NaRefIdeal_pre_finite_na [hNaRefIdeal : Cert.NaRefIdeal.Facts] [hPre_finite_na : Cert.Pre_finite_na.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_finite_na m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_finite_pool [hPoolIdeal : Cert.PoolIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_pool m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_PoolRefIdeal_pre_finite_pool [hPoolRefIdeal : Cert.PoolRefIdeal.Facts] [hPre_finite_pool : Cert.Pre_finite_pool.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_pool m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def preserves_Gqa_GqaIdeal : Prop :=
  True

def algebraic_GqaIdeal_GqaRefIdeal_pre_finite_qk [hGqaIdeal : Cert.GqaIdeal.Facts] [hGqaRefIdeal : Cert.GqaRefIdeal.Facts] [hPre_finite_qk : Cert.Pre_finite_qk.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_qk m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v15)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v15) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v21) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Up_UpIdeal : Prop :=
  True

def algebraic_UpIdeal_UpRefIdeal_pre_finite_gate [hUpIdeal : Cert.UpIdeal.Facts] [hUpRefIdeal : Cert.UpRefIdeal.Facts] [hPre_finite_gate : Cert.Pre_finite_gate.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite_gate m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v8) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v7_0)) (v1 : (c : Dev Cert.DownIdeal.nD) → Buf (Elt Ideal) ((c.tc : Thread Cert.DownIdeal.nD Cert.DownIdeal.τ).loc Cert.DownIdeal.main_v7_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v7_0) = v0 c
          ∧ r.2.mem ((c.tc : Thread Cert.DownIdeal.nD Cert.DownIdeal.τ).loc Cert.DownIdeal.main_v7_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v34) = v0 c
          ∧ r.2.mem ((c.tc : Thread Cert.DownRefIdeal.nD Cert.DownRefIdeal.τ).loc Cert.DownRefIdeal.main_v35) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v7_0)) (v1 : (c : Dev Cert.MixIdeal.nD) → Buf (Elt Ideal) ((c.tc : Thread Cert.MixIdeal.nD Cert.MixIdeal.τ).loc Cert.MixIdeal.main_v7_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7_0) = v0 c
          ∧ r.2.mem ((c.tc : Thread Cert.MixIdeal.nD Cert.MixIdeal.τ).loc Cert.MixIdeal.main_v7_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v35) = v0 c
          ∧ r.2.mem ((c.tc : Thread Cert.MixRefIdeal.nD Cert.MixRefIdeal.τ).loc Cert.MixRefIdeal.main_v36) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)) →
    ∃ (v0 : (c : Dev Cert.AbInIdeal.nD) → Buf (Elt Ideal) ((c.tc : Thread Cert.AbInIdeal.nD Cert.AbInIdeal.τ).loc Cert.AbInIdeal.main_v0)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v0) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v2) = v0 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1))

def preserves_CdIn_CdInIdeal : Prop :=
  True

def algebraic_CdInIdeal_CdInRefIdeal [hCdInIdeal : Cert.CdInIdeal.Facts] [hCdInRefIdeal : Cert.CdInRefIdeal.Facts] : Prop :=
  ∀ (m : (ℓ : Loc Cert.CdInIdeal.nD Cert.CdInIdeal.τ Cert.CdInIdeal.sig) → Buf (Elt Ideal) ℓ) (g : Dev Cert.CdInIdeal.nD → PrngReg)
    (m' : (ℓ : Loc Cert.CdInRefIdeal.nD Cert.CdInRefIdeal.τ Cert.CdInRefIdeal.sig) → Buf (Elt Ideal) ℓ) (g' : Dev Cert.CdInRefIdeal.nD → PrngReg), Pre_CdInIdeal m →
    (∀ c : Dev Cert.CdInIdeal.nD,
      m' ((c.tc : Thread Cert.CdInRefIdeal.nD Cert.CdInRefIdeal.τ).loc Cert.CdInRefIdeal.main_arg0) = m ((c.tc : Thread Cert.CdInIdeal.nD Cert.CdInIdeal.τ).loc Cert.CdInIdeal.main_arg0)
      ∧ m' ((c.tc : Thread Cert.CdInRefIdeal.nD Cert.CdInRefIdeal.τ).loc Cert.CdInRefIdeal.main_arg1) = m ((c.tc : Thread Cert.CdInIdeal.nD Cert.CdInIdeal.τ).loc Cert.CdInIdeal.main_arg1)) →
    ∃ (v0 : (c : Dev Cert.CdInIdeal.nD) → Buf (Elt Ideal) ((c.tc : Thread Cert.CdInIdeal.nD Cert.CdInIdeal.τ).loc Cert.CdInIdeal.main_v0)),
      θ_run (Cert.CdInIdeal.defs (F := Ideal)) (onTc (τ := Cert.CdInIdeal.τ) (Cert.CdInIdeal.main (F := Ideal))) ⟨m, fun _ => 0, g⟩ (fun r => ∀ c : Dev Cert.CdInIdeal.nD,
          r.2.mem ((c.tc : Thread Cert.CdInIdeal.nD Cert.CdInIdeal.τ).loc Cert.CdInIdeal.main_v0) = v0 c
          ∧ r.2.mem ((c.tc : Thread Cert.CdInIdeal.nD Cert.CdInIdeal.τ).loc Cert.CdInIdeal.main_arg0) = m ((c.tc : Thread Cert.CdInIdeal.nD Cert.CdInIdeal.τ).loc Cert.CdInIdeal.main_arg0)
          ∧ r.2.mem ((c.tc : Thread Cert.CdInIdeal.nD Cert.CdInIdeal.τ).loc Cert.CdInIdeal.main_arg1) = m ((c.tc : Thread Cert.CdInIdeal.nD Cert.CdInIdeal.τ).loc Cert.CdInIdeal.main_arg1))
      ∧ θ_run (Cert.CdInRefIdeal.defs (F := Ideal)) (onTc (τ := Cert.CdInRefIdeal.τ) (Cert.CdInRefIdeal.main (F := Ideal))) ⟨m', fun _ => 0, g'⟩ (fun r => ∀ c : Dev Cert.CdInRefIdeal.nD,
          r.2.mem ((c.tc : Thread Cert.CdInRefIdeal.nD Cert.CdInRefIdeal.τ).loc Cert.CdInRefIdeal.main_v3) = v0 c
          ∧ r.2.mem ((c.tc : Thread Cert.CdInRefIdeal.nD Cert.CdInRefIdeal.τ).loc Cert.CdInRefIdeal.main_arg0) = m' ((c.tc : Thread Cert.CdInRefIdeal.nD Cert.CdInRefIdeal.τ).loc Cert.CdInRefIdeal.main_arg0)
          ∧ r.2.mem ((c.tc : Thread Cert.CdInRefIdeal.nD Cert.CdInRefIdeal.τ).loc Cert.CdInRefIdeal.main_arg1) = m' ((c.tc : Thread Cert.CdInRefIdeal.nD Cert.CdInRefIdeal.τ).loc Cert.CdInRefIdeal.main_arg1))

def preserves_Na_NaIdeal : Prop :=
  IdealRules.named_const.Statement Cert.NaIdeal.κ "score_scale" .f32 0x3E0293EE#32 (((Real.sqrt 128)⁻¹ * (Real.log 2)⁻¹ : ℝ) : EReal)

def algebraic_NaIdeal_NaRefIdeal_pre_finite_na [hNaIdeal : Cert.NaIdeal.Facts] [hNaRefIdeal : Cert.NaRefIdeal.Facts] [hPre_finite_na : Cert.Pre_finite_na.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_finite_na m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)) →
    ∃ (v0 : (c : Dev Cert.NaIdeal.nD) → Buf (Elt Ideal) ((c.tc : Thread Cert.NaIdeal.nD Cert.NaIdeal.τ).loc Cert.NaIdeal.main_v80)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v80) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v105) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1))

def preserves_Pool_PoolIdeal : Prop :=
  True

def algebraic_PoolIdeal_PoolRefIdeal_pre_finite_pool [hPoolIdeal : Cert.PoolIdeal.Facts] [hPoolRefIdeal : Cert.PoolRefIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_pool m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v6)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v6) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v136) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Prep_PrepIdeal : Prop :=
  IdealRules.named_const.Statement Cert.PrepIdeal.κ "score_scale" .f32 0x3E0293EE#32 (((Real.sqrt 128)⁻¹ * (Real.log 2)⁻¹ : ℝ) : EReal)

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v43_0)) (v1 : (c : Dev Cert.PrepIdeal.nD) → Buf (Elt Ideal) ((c.tc : Thread Cert.PrepIdeal.nD Cert.PrepIdeal.τ).loc Cert.PrepIdeal.main_v43_1)) (v2 : (c : Dev Cert.PrepIdeal.nD) → Buf (Elt Ideal) ((c.tc : Thread Cert.PrepIdeal.nD Cert.PrepIdeal.τ).loc Cert.PrepIdeal.main_v43_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v43_0) = v0 c
          ∧ r.2.mem ((c.tc : Thread Cert.PrepIdeal.nD Cert.PrepIdeal.τ).loc Cert.PrepIdeal.main_v43_1) = v1 c
          ∧ r.2.mem ((c.tc : Thread Cert.PrepIdeal.nD Cert.PrepIdeal.τ).loc Cert.PrepIdeal.main_v43_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v140) = v0 c
          ∧ r.2.mem ((c.tc : Thread Cert.PrepRefIdeal.nD Cert.PrepRefIdeal.τ).loc Cert.PrepRefIdeal.main_v141) = v1 c
          ∧ r.2.mem ((c.tc : Thread Cert.PrepRefIdeal.nD Cert.PrepRefIdeal.τ).loc Cert.PrepRefIdeal.main_v142) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2))

def Claim : Prop :=
  ∃ (hGqa : Cert.Gqa.Facts) (hGqaIdeal : Cert.GqaIdeal.Facts) (hGqaRefIdeal : Cert.GqaRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMix : Cert.Mix.Facts) (hMixIdeal : Cert.MixIdeal.Facts) (hMixRefIdeal : Cert.MixRefIdeal.Facts) (hAbIn : Cert.AbIn.Facts) (hAbInIdeal : Cert.AbInIdeal.Facts) (hAbInRefIdeal : Cert.AbInRefIdeal.Facts) (hCdIn : Cert.CdIn.Facts) (hCdInIdeal : Cert.CdInIdeal.Facts) (hCdInRefIdeal : Cert.CdInRefIdeal.Facts) (hNa : Cert.Na.Facts) (hNaIdeal : Cert.NaIdeal.Facts) (hNaRefIdeal : Cert.NaRefIdeal.Facts) (hPool : Cert.Pool.Facts) (hPoolIdeal : Cert.PoolIdeal.Facts) (hPoolRefIdeal : Cert.PoolRefIdeal.Facts) (hPrep : Cert.Prep.Facts) (hPrepIdeal : Cert.PrepIdeal.Facts) (hPrepRefIdeal : Cert.PrepRefIdeal.Facts) (hPre_finite_qk : Cert.Pre_finite_qk.Facts) (hPre_finite_gate : Cert.Pre_finite_gate.Facts) (hPre_finite_na : Cert.Pre_finite_na.Facts) (hPre_finite_pool : Cert.Pre_finite_pool.Facts),
    quiescent_Gqa (hGqa := hGqa)
    ∧ quiescent_GqaIdeal (hGqaIdeal := hGqaIdeal)
    ∧ quiescent_GqaIdeal_pre_finite_qk (hGqaIdeal := hGqaIdeal) (hPre_finite_qk := hPre_finite_qk)
    ∧ quiescent_GqaRefIdeal (hGqaRefIdeal := hGqaRefIdeal)
    ∧ quiescent_GqaRefIdeal_pre_finite_qk (hGqaRefIdeal := hGqaRefIdeal) (hPre_finite_qk := hPre_finite_qk)
    ∧ quiescent_Up (hUp := hUp)
    ∧ quiescent_UpIdeal (hUpIdeal := hUpIdeal)
    ∧ quiescent_UpIdeal_pre_finite_gate (hUpIdeal := hUpIdeal) (hPre_finite_gate := hPre_finite_gate)
    ∧ quiescent_UpRefIdeal (hUpRefIdeal := hUpRefIdeal)
    ∧ quiescent_UpRefIdeal_pre_finite_gate (hUpRefIdeal := hUpRefIdeal) (hPre_finite_gate := hPre_finite_gate)
    ∧ quiescent_Down (hDown := hDown)
    ∧ quiescent_DownIdeal (hDownIdeal := hDownIdeal)
    ∧ quiescent_DownRefIdeal (hDownRefIdeal := hDownRefIdeal)
    ∧ quiescent_Mix (hMix := hMix)
    ∧ quiescent_MixIdeal (hMixIdeal := hMixIdeal)
    ∧ quiescent_MixRefIdeal (hMixRefIdeal := hMixRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_CdIn (hCdIn := hCdIn)
    ∧ quiescent_CdInIdeal (hCdInIdeal := hCdInIdeal)
    ∧ quiescent_CdInRefIdeal (hCdInRefIdeal := hCdInRefIdeal)
    ∧ quiescent_Na (hNa := hNa)
    ∧ quiescent_NaIdeal (hNaIdeal := hNaIdeal)
    ∧ quiescent_NaIdeal_pre_finite_na (hNaIdeal := hNaIdeal) (hPre_finite_na := hPre_finite_na)
    ∧ quiescent_NaRefIdeal (hNaRefIdeal := hNaRefIdeal)
    ∧ quiescent_NaRefIdeal_pre_finite_na (hNaRefIdeal := hNaRefIdeal) (hPre_finite_na := hPre_finite_na)
    ∧ quiescent_Pool (hPool := hPool)
    ∧ quiescent_PoolIdeal (hPoolIdeal := hPoolIdeal)
    ∧ quiescent_PoolIdeal_pre_finite_pool (hPoolIdeal := hPoolIdeal) (hPre_finite_pool := hPre_finite_pool)
    ∧ quiescent_PoolRefIdeal (hPoolRefIdeal := hPoolRefIdeal)
    ∧ quiescent_PoolRefIdeal_pre_finite_pool (hPoolRefIdeal := hPoolRefIdeal) (hPre_finite_pool := hPre_finite_pool)
    ∧ quiescent_Prep (hPrep := hPrep)
    ∧ quiescent_PrepIdeal (hPrepIdeal := hPrepIdeal)
    ∧ quiescent_PrepRefIdeal (hPrepRefIdeal := hPrepRefIdeal)
    ∧ preserves_Gqa_GqaIdeal
    ∧ algebraic_GqaIdeal_GqaRefIdeal_pre_finite_qk (hGqaIdeal := hGqaIdeal) (hGqaRefIdeal := hGqaRefIdeal) (hPre_finite_qk := hPre_finite_qk)
    ∧ preserves_Up_UpIdeal
    ∧ algebraic_UpIdeal_UpRefIdeal_pre_finite_gate (hUpIdeal := hUpIdeal) (hUpRefIdeal := hUpRefIdeal) (hPre_finite_gate := hPre_finite_gate)
    ∧ preserves_Down_DownIdeal
    ∧ algebraic_DownIdeal_DownRefIdeal (hDownIdeal := hDownIdeal) (hDownRefIdeal := hDownRefIdeal)
    ∧ preserves_Mix_MixIdeal
    ∧ algebraic_MixIdeal_MixRefIdeal (hMixIdeal := hMixIdeal) (hMixRefIdeal := hMixRefIdeal)
    ∧ preserves_AbIn_AbInIdeal
    ∧ algebraic_AbInIdeal_AbInRefIdeal (hAbInIdeal := hAbInIdeal) (hAbInRefIdeal := hAbInRefIdeal)
    ∧ preserves_CdIn_CdInIdeal
    ∧ algebraic_CdInIdeal_CdInRefIdeal (hCdInIdeal := hCdInIdeal) (hCdInRefIdeal := hCdInRefIdeal)
    ∧ preserves_Na_NaIdeal
    ∧ algebraic_NaIdeal_NaRefIdeal_pre_finite_na (hNaIdeal := hNaIdeal) (hNaRefIdeal := hNaRefIdeal) (hPre_finite_na := hPre_finite_na)
    ∧ preserves_Pool_PoolIdeal
    ∧ algebraic_PoolIdeal_PoolRefIdeal_pre_finite_pool (hPoolIdeal := hPoolIdeal) (hPoolRefIdeal := hPoolRefIdeal) (hPre_finite_pool := hPre_finite_pool)
    ∧ preserves_Prep_PrepIdeal
    ∧ algebraic_PrepIdeal_PrepRefIdeal (hPrepIdeal := hPrepIdeal) (hPrepRefIdeal := hPrepRefIdeal)
-- ==== Pre_finite_gate.lean ====
abbrev S16384x2048 : Shape := ⟨2, ![16384, 2048]⟩
abbrev S4x2048x5632 : Shape := ⟨3, ![4, 2048, 5632]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S4x2048x5632 : S_.BroadcastsInDim S4x2048x5632 (![] : Fin 0 → Fin S4x2048x5632.rank)
  reducesTo_S4x2048x5632_S_d0_1_2 : S4x2048x5632.ReducesTo [0, 1, 2] S_

variable [Facts]

def fn {F : FTy → Type} [FloatOps F] (main_arg0 : FVec F S16384x2048 .f32) (main_arg1 : FVec F S4x2048x5632 .f32) (main_arg2 : FVec F S4x2048x5632 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S4x2048x5632 .f32 := Host.absf main_arg1
  let main_cst_0 : FVec F S_ .f32 := constant S_ .f32 0x7F800000#32
  let main_v5 : FVec F S4x2048x5632 .f32 := broadcastInDim S4x2048x5632 ![] bcast_S_S4x2048x5632 main_cst_0
  let main_v6 : IVec S4x2048x5632 1 := cmpf .olt main_v4 main_v5
  let main_c_1 : IVec S_ 1 := constantI S_ 1 1#1
  let main_v7 : IVec S_ 1 := (fun x v => Host.reduce IntOp.andi x v reducesTo_S4x2048x5632_S_d0_1_2 h_S_) main_v6 main_c_1
  let main_v8 : IVec S_ 1 := andi main_v3 main_v7
  main_v8
-- ==== Pre_finite_na.lean ====
abbrev S8x2048x8192 : Shape := ⟨3, ![8, 2048, 8192]⟩
abbrev S2x8x15x31 : Shape := ⟨4, ![2, 8, 15, 31]⟩
abbrev S8x2048x2048 : Shape := ⟨3, ![8, 2048, 2048]⟩
abbrev S_ : Shape := ⟨0, ![]⟩
abbrev S1x8x15x31 : Shape := ⟨4, ![1, 8, 15, 31]⟩
abbrev S8x15x31 : Shape := ⟨3, ![8, 15, 31]⟩

class Facts : Prop where
  slices_S8x2048x8192_S8x2048x2048_0_0_0 : S8x2048x8192.Slices ![0, 0, 0] S8x2048x2048
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  slices_S2x8x15x31_S1x8x15x31_1_0_0_0 : S2x8x15x31.Slices ![1, 0, 0, 0] S1x8x15x31
  shapeCasts_S1x8x15x31_S8x15x31 : S1x8x15x31.ShapeCasts S8x15x31
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S8x2048x8192 .f32) (main_arg1 : FVec F S2x8x15x31 .f32) : IVec S_ 1 :=
  let main_v0 : FVec F S8x2048x2048 .f32 := (extractStridedSlice S8x2048x2048 ![0, 0, 0] · slices_S8x2048x8192_S8x2048x2048_0_0_0) main_arg0
  let main_v1 : FVec F S8x2048x2048 .f32 := Host.absf main_v0
  let main_cst : FVec F S_ .f32 := constant S_ .f32 0x7F800000#32
  let main_v2 : FVec F S8x2048x2048 .f32 := broadcastInDim S8x2048x2048 ![] bcast_S_S8x2048x2048 main_cst
  let main_v3 : IVec S8x2048x2048 1 := cmpf .olt main_v1 main_v2
  let main_c : IVec S_ 1 := constantI S_ 1 1#1
  let main_v4 : IVec S_ 1 := (fun x v => Host.reduce IntOp.andi x v reducesTo_S8x2048x2048_S_d0_1_2 h_S_) main_v3 main_c
  let main_v5 : FVec F S1x8x15x31 .f32 := (extractStridedSlice S1x8x15x31 ![1, 0, 0, 0] · slices_S2x8x15x31_S1x8x15x31_1_0_0_0) main_arg1
  let main_v6 : FVec F S8x15x31 .f32 := shapeCast S8x15x31 main_v5 shapeCasts_S1x8x15x31_S8x15x31
  let main_v7 : FVec F S8x15x31 .f32 := Host.absf main_v6
  let main_cst_0 : FVec F S_ .f32 := constant S_ .f32 0x7F800000#32
  let main_v8 : FVec F S8x15x31 .f32 := broadcastInDim S8x15x31 ![] bcast_S_S8x15x31 main_cst_0
  let main_v9 : IVec S8x15x31 1 := cmpf .olt main_v7 main_v8
  let main_c_1 : IVec S_ 1 := constantI S_ 1 1#1
  let main_v10 : IVec S_ 1 := (fun x v => Host.reduce IntOp.andi x v reducesTo_S8x15x31_S_d0_1_2 h_S_) main_v9 main_c_1
  let main_v11 : IVec S_ 1 := andi main_v4 main_v10
  main_v11
-- ==== Pre_finite_pool.lean ====
abbrev S8x2048x2560 : Shape := ⟨3, ![8, 2048, 2560]⟩
abbrev S2x4x256x256 : Shape := ⟨4, ![2, 4, 256, 256]⟩
abbrev S2x1024 : Shape := ⟨2, ![2, 1024]⟩
abbrev S8x2048x1024 : Shape := ⟨3, ![8, 2048, 1024]⟩
abbrev S_ : Shape := ⟨0, ![]⟩

class Facts : Prop where
  slices_S8x2048x2560_S8x2048x1024_0_0_0 : S8x2048x2560.Slices ![0, 0, 0] S8x2048x1024
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x2560 .f32) (main_arg1 : FVec F S2x4x256x256 .f32) (main_arg2 : FVec F S2x1024 .f32) : IVec S_ 1 :=
  let main_v0 : FVec F S8x2048x1024 .f32 := (extractStridedSlice S8x2048x1024 ![0, 0, 0] · slices_S8x2048x2560_S8x2048x1024_0_0_0) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  main_v4
-- ==== Pre_finite_qk.lean ====
abbrev S8x2048x8x128 : Shape := ⟨4, ![8, 2048, 8, 128]⟩
abbrev S8x2048x2x128 : Shape := ⟨4, ![8, 2048, 2, 128]⟩
abbrev S_ : Shape := ⟨0, ![]⟩

class Facts : Prop where
  bcast_S_S8x2048x8x128 : S_.BroadcastsInDim S8x2048x8x128 (![] : Fin 0 → Fin S8x2048x8x128.rank)
  reducesTo_S8x2048x8x128_S_d0_1_2_3 : S8x2048x8x128.ReducesTo [0, 1, 2, 3] S_
  h_S_ : 0 < S_.numel
  bcast_S_S8x2048x2x128 : S_.BroadcastsInDim S8x2048x2x128 (![] : Fin 0 → Fin S8x2048x2x128.rank)
  reducesTo_S8x2048x2x128_S_d0_1_2_3 : S8x2048x2x128.ReducesTo [0, 1, 2, 3] S_

variable [Facts]

def fn {F : FTy → Type} [FloatOps F] (main_arg0 : FVec F S8x2048x8x128 .f32) (main_arg1 : FVec F S8x2048x2x128 .f32) (main_arg2 : FVec F S8x2048x2x128 .f32) : IVec S_ 1 :=
  let main_v0 : FVec F S8x2048x8x128 .f32 := Host.absf main_arg0
  let main_cst : FVec F S_ .f32 := constant S_ .f32 0x7F800000#32
  let main_v1 : FVec F S8x2048x8x128 .f32 := broadcastInDim S8x2048x8x128 ![] bcast_S_S8x2048x8x128 main_cst
  let main_v2 : IVec S8x2048x8x128 1 := cmpf .olt main_v0 main_v1
  let main_c : IVec S_ 1 := constantI S_ 1 1#1
  let main_v3 : IVec S_ 1 := (fun x v => Host.reduce IntOp.andi x v reducesTo_S8x2048x8x128_S_d0_1_2_3 h_S_) main_v2 main_c
  let main_v4 : FVec F S8x2048x2x128 .f32 := Host.absf main_arg1
  let main_cst_0 : FVec F S_ .f32 := constant S_ .f32 0x7F800000#32
  let main_v5 : FVec F S8x2048x2x128 .f32 := broadcastInDim S8x2048x2x128 ![] bcast_S_S8x2048x2x128 main_cst_0
  let main_v6 : IVec S8x2048x2x128 1 := cmpf .olt main_v4 main_v5
  let main_c_1 : IVec S_ 1 := constantI S_ 1 1#1
  let main_v7 : IVec S_ 1 := (fun x v => Host.reduce IntOp.andi x v reducesTo_S8x2048x2x128_S_d0_1_2_3 h_S_) main_v6 main_c_1
  let main_v8 : IVec S_ 1 := andi main_v3 main_v7
  main_v8
-- ==== Gqa.lean ====
abbrev S8x2048x8x128 : Shape := ⟨4, ![8, 2048, 8, 128]⟩
abbrev S8x2048x2x128 : Shape := ⟨4, ![8, 2048, 2, 128]⟩
abbrev S_ : Shape := ⟨0, ![]⟩
abbrev S8x2048x1024 : Shape := ⟨3, ![8, 2048, 1024]⟩
abbrev S8x2x128x2048 : Shape := ⟨4, ![8, 2, 128, 2048]⟩
abbrev S8x256x2048 : Shape := ⟨3, ![8, 256, 2048]⟩
abbrev S8x2048x2x256 : Shape := ⟨4, ![8, 2048, 2, 256]⟩
abbrev S8x2048x512 : Shape := ⟨3, ![8, 2048, 512]⟩
abbrev S1x1024x512 : Shape := ⟨3, ![1, 1024, 512]⟩
abbrev S1x128x2048 : Shape := ⟨3, ![1, 128, 2048]⟩
abbrev S1x2048x256 : Shape := ⟨3, ![1, 2048, 256]⟩
abbrev S1x1024x128 : Shape := ⟨3, ![1, 1024, 128]⟩
abbrev S1024x128 : Shape := ⟨2, ![1024, 128]⟩
abbrev S128x2048 : Shape := ⟨2, ![128, 2048]⟩
abbrev S1024x2048 : Shape := ⟨2, ![1024, 2048]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩

abbrev nBuf : Space → Nat
  | .hbm => 23
  | .vmem => 8
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x2x128, .f32⟩
  | .hbm, ⟨2, _⟩ => ⟨S8x2048x2x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x2048x8x128, .f32⟩
  | .hbm, ⟨11, _⟩ => ⟨S8x2048x8x128, .f32⟩
  | .hbm, ⟨12, _⟩ => ⟨S8x2048x8x128, .bf16⟩
  | .hbm, ⟨13, _⟩ => ⟨S8x2048x1024, .bf16⟩
  | .hbm, ⟨14, _⟩ => ⟨S8x2x128x2048, .f32⟩
  | .hbm, ⟨15, _⟩ => ⟨S8x256x2048, .f32⟩
  | .hbm, ⟨16, _⟩ => ⟨S8x256x2048, .bf16⟩
  | .hbm, ⟨17, _⟩ => ⟨S_, .bf16⟩
  | .hbm, ⟨18, _⟩ => ⟨S8x2048x2x128, .bf16⟩
  | .hbm, ⟨19, _⟩ => ⟨S8x2048x2x128, .bf16⟩
  | .hbm, ⟨20, _⟩ => ⟨S8x2048x2x256, .bf16⟩
  | .hbm, ⟨21, _⟩ => ⟨S8x2048x512, .bf16⟩
  | .hbm, ⟨22, _⟩ => ⟨S8x2048x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x1024x512, .bf16⟩
  | .local _ .vmem, ⟨7, _⟩ => ⟨S1x1024x512, .bf16⟩
  | _, _ => ⟨S8x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaRefIdeal.lean ====
abbrev S8x2048x8x128 : Shape := ⟨4, ![8, 2048, 8, 128]⟩
abbrev S8x2048x2x128 : Shape := ⟨4, ![8, 2048, 2, 128]⟩
abbrev S_ : Shape := ⟨0, ![]⟩
abbrev S8x2048x2x4x128 : Shape := ⟨5, ![8, 2048, 2, 4, 128]⟩
abbrev S8x2x2048x2048x4 : Shape := ⟨5, ![8, 2, 2048, 2048, 4]⟩
abbrev S8x2x4x2048x2048 : Shape := ⟨5, ![8, 2, 4, 2048, 2048]⟩
abbrev S8x2x4x2048 : Shape := ⟨4, ![8, 2, 4, 2048]⟩
abbrev S8x2x4x2048x1 : Shape := ⟨5, ![8, 2, 4, 2048, 1]⟩
abbrev S8x2x128x4x2048 : Shape := ⟨5, ![8, 2, 128, 4, 2048]⟩
abbrev S8x2048x1024 : Shape := ⟨3, ![8, 2048, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x8x128, .f32⟩
  | .hbm, ⟨1, _⟩ => ⟨S8x2048x2x128, .f32⟩
  | .hbm, ⟨2, _⟩ => ⟨S8x2048x2x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x2048x8x128, .f32⟩
  | .hbm, ⟨8, _⟩ => ⟨S8x2048x8x128, .f32⟩
  | .hbm, ⟨9, _⟩ => ⟨S8x2048x2x4x128, .f32⟩
  | .hbm, ⟨10, _⟩ => ⟨S8x2x2048x2048x4, .f32⟩
  | .hbm, ⟨11, _⟩ => ⟨S8x2x4x2048x2048, .f32⟩
  | .hbm, ⟨12, _⟩ => ⟨S_, .f32⟩
  | .hbm, ⟨13, _⟩ => ⟨S8x2x4x2048, .f32⟩
  | .hbm, ⟨14, _⟩ => ⟨S_, .f32⟩
  | .hbm, ⟨15, _⟩ => ⟨S8x2x4x2048, .f32⟩
  | .hbm, ⟨16, _⟩ => ⟨S8x2x4x2048, .f32⟩
  | .hbm, ⟨17, _⟩ => ⟨S8x2x4x2048x1, .f32⟩
  | .hbm, ⟨18, _⟩ => ⟨S8x2x4x2048x2048, .f32⟩
  | .hbm, ⟨19, _⟩ => ⟨S8x2x4x2048x2048, .f32⟩
  | .hbm, ⟨20, _⟩ => ⟨S8x2x4x2048x2048, .f32⟩
  | .hbm, ⟨21, _⟩ => ⟨S_, .f32⟩
  | .hbm, ⟨22, _⟩ => ⟨S8x2x4x2048, .f32⟩
  | .hbm, ⟨23, _⟩ => ⟨S8x2x4x2048x1, .f32⟩
  | .hbm, ⟨24, _⟩ => ⟨S8x2x4x2048x2048, .f32⟩
  | .hbm, ⟨25, _⟩ => ⟨S8x2x4x2048x2048, .f32⟩
  | .hbm, ⟨26, _⟩ => ⟨S8x2x128x4x2048, .f32⟩
  | .hbm, ⟨27, _⟩ => ⟨S8x2048x2x4x128, .f32⟩
  | .hbm, ⟨28, _⟩ => ⟨S8x2048x1024, .f32⟩
  | .hbm, ⟨29, _⟩ => ⟨S8x2048x1024, .bf16⟩
  | _, _ => ⟨S8x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Up.lean ====
abbrev S16384x2048 : Shape := ⟨2, ![16384, 2048]⟩
abbrev S4x2048x5632 : Shape := ⟨3, ![4, 2048, 5632]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S4x2048x5632, .f32⟩
  | .hbm, ⟨2, _⟩ => ⟨S4x2048x5632, .f32⟩
  | .hbm, ⟨3, _⟩ => ⟨S16384x2048, .bf16⟩
  | .hbm, ⟨4, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S16384x2048 : Shape := ⟨2, ![16384, 2048]⟩
abbrev S4x2048x5632 : Shape := ⟨3, ![4, 2048, 5632]⟩
abbrev S1x2048x5632 : Shape := ⟨3, ![1, 2048, 5632]⟩
abbrev S2048x5632 : Shape := ⟨2, ![2048, 5632]⟩
abbrev S16384x5632 : Shape := ⟨2, ![16384, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x2048x5632, .f32⟩
  | .hbm, ⟨2, _⟩ => ⟨S4x2048x5632, .f32⟩
  | .hbm, ⟨3, _⟩ => ⟨S1x2048x5632, .f32⟩
  | .hbm, ⟨4, _⟩ => ⟨S2048x5632, .f32⟩
  | .hbm, ⟨5, _⟩ => ⟨S16384x5632, .f32⟩
  | .hbm, ⟨6, _⟩ => ⟨S16384x5632, .f32⟩
  | .hbm, ⟨7, _⟩ => ⟨S16384x5632, .f32⟩
  | .hbm, ⟨8, _⟩ => ⟨S_, .f32⟩
  | .hbm, ⟨9, _⟩ => ⟨S16384x5632, .f32⟩
  | .hbm, ⟨10, _⟩ => ⟨S16384x5632, .f32⟩
  | .hbm, ⟨11, _⟩ => ⟨S_, .f32⟩
  | .hbm, ⟨12, _⟩ => ⟨S16384x5632, .f32⟩
  | .hbm, ⟨13, _⟩ => ⟨S16384x5632, .f32⟩
  | .hbm, ⟨14, _⟩ => ⟨S16384x5632, .f32⟩
  | .hbm, ⟨15, _⟩ => ⟨S1x2048x5632, .f32⟩
  | .hbm, ⟨16, _⟩ => ⟨S2048x5632, .f32⟩
  | .hbm, ⟨17, _⟩ => ⟨S16384x5632, .f32⟩
  | .hbm, ⟨18, _⟩ => ⟨S16384x5632, .f32⟩
  | .hbm, ⟨19, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Down.lean ====
abbrev S16384x5632 : Shape := ⟨2, ![16384, 5632]⟩
abbrev S4x5632x2048 : Shape := ⟨3, ![4, 5632, 2048]⟩
abbrev S16384x2048 : Shape := ⟨2, ![16384, 2048]⟩
abbrev S4x2048 : Shape := ⟨2, ![4, 2048]⟩
abbrev S1x2048 : Shape := ⟨2, ![1, 2048]⟩
abbrev S2048 : Shape := ⟨1, ![2048]⟩
abbrev S256x5632 : Shape := ⟨2, ![256, 5632]⟩
abbrev S1x5632x2048 : Shape := ⟨3, ![1, 5632, 2048]⟩
abbrev S256x2048 : Shape := ⟨2, ![256, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S16384x5632, .bf16⟩
  | .hbm, ⟨1, _⟩ => ⟨S4x5632x2048, .f32⟩
  | .hbm, ⟨2, _⟩ => ⟨S16384x2048, .f32⟩
  | .hbm, ⟨3, _⟩ => ⟨S4x2048, .f32⟩
  | .hbm, ⟨4, _⟩ => ⟨S4x2048, .f32⟩
  | .hbm, ⟨5, _⟩ => ⟨S4x5632x2048, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S16384x5632 : Shape := ⟨2, ![16384, 5632]⟩
abbrev S4x5632x2048 : Shape := ⟨3, ![4, 5632, 2048]⟩
abbrev S16384x2048 : Shape := ⟨2, ![16384, 2048]⟩
abbrev S4x2048 : Shape := ⟨2, ![4, 2048]⟩
abbrev S1x5632x2048 : Shape := ⟨3, ![1, 5632, 2048]⟩
abbrev S5632x2048 : Shape := ⟨2, ![5632, 2048]⟩
abbrev S_ : Shape := ⟨0, ![]⟩
abbrev S1x2048 : Shape := ⟨2, ![1, 2048]⟩
abbrev S2048 : Shape := ⟨1, ![2048]⟩
abbrev S16384 : Shape := ⟨1, ![16384]⟩
abbrev S16384x1 : Shape := ⟨2, ![16384, 1]⟩

abbrev nBuf : Space → Nat
  | .hbm => 47
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S4x5632x2048, .f32⟩
  | .hbm, ⟨2, _⟩ => ⟨S16384x2048, .f32⟩
  | .hbm, ⟨3, _⟩ => ⟨S4x2048, .f32⟩
  | .hbm, ⟨4, _⟩ => ⟨S4x2048, .f32⟩
  | .hbm, ⟨5, _⟩ => ⟨S16384x5632, .f32⟩
  | .hbm, ⟨6, _⟩ => ⟨S1x5632x2048, .f32⟩
  | .hbm, ⟨7, _⟩ => ⟨S5632x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S1x2048, .f32⟩
  | .hbm, ⟨44, _⟩ => ⟨S16384x2048, .f32⟩
  | .hbm, ⟨45, _⟩ => ⟨S16384x2048, .f32⟩
  | .hbm, ⟨46, _⟩ => ⟨S16384x2048, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Mix.lean ====
abbrev S16384x1024 : Shape := ⟨2, ![16384, 1024]⟩
abbrev S2x2048x2048 : Shape := ⟨3, ![2, 2048, 2048]⟩
abbrev S16384x2048 : Shape := ⟨2, ![16384, 2048]⟩
abbrev S4x2048 : Shape := ⟨2, ![4, 2048]⟩
abbrev S1x2048 : Shape := ⟨2, ![1, 2048]⟩
abbrev S2048 : Shape := ⟨1, ![2048]⟩
abbrev S512x1024 : Shape := ⟨2, ![512, 1024]⟩
abbrev S1x2048x2048 : Shape := ⟨3, ![1, 2048, 2048]⟩
abbrev S512x2048 : Shape := ⟨2, ![512, 2048]⟩
abbrev S128x1024 : Shape := ⟨2, ![128, 1024]⟩
abbrev S1x1024x2048 : Shape := ⟨3, ![1, 1024, 2048]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩

abbrev nBuf : Space → Nat
  | .hbm => 15
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S16384x2048, .f32⟩
  | .hbm, ⟨4, _⟩ => ⟨S4x2048, .f32⟩
  | .hbm, ⟨5, _⟩ => ⟨S4x2048, .f32⟩
  | .hbm, ⟨6, _⟩ => ⟨S2x2048x2048, .bf16⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S16384x2048, .f32⟩
  | .hbm, ⟨14, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixRefIdeal.lean ====
abbrev S16384x1024 : Shape := ⟨2, ![16384, 1024]⟩
abbrev S2x2048x2048 : Shape := ⟨3, ![2, 2048, 2048]⟩
abbrev S16384x2048 : Shape := ⟨2, ![16384, 2048]⟩
abbrev S4x2048 : Shape := ⟨2, ![4, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S16384 : Shape := ⟨1, ![16384]⟩
abbrev S16384x1 : Shape := ⟨2, ![16384, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S16384x2048, .f32⟩
  | .hbm, ⟨4, _⟩ => ⟨S4x2048, .f32⟩
  | .hbm, ⟨5, _⟩ => ⟨S4x2048, .f32⟩
  | .hbm, ⟨6, _⟩ => ⟨S16384x2048, .bf16⟩
  | .hbm, ⟨7, _⟩ => ⟨S16384x2048, .f32⟩
  | .hbm, ⟨8, _⟩ => ⟨S1x2048x2048, .f32⟩
  | .hbm, ⟨9, _⟩ => ⟨S2048x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x2048, .f32⟩
  | .hbm, ⟨41, _⟩ => ⟨S16384x2048, .f32⟩
  | .hbm, ⟨42, _⟩ => ⟨S1x2048, .f32⟩
  | .hbm, ⟨43, _⟩ => ⟨S16384x2048, .f32⟩
  | .hbm, ⟨44, _⟩ => ⟨S16384x2048, .f32⟩
  | .hbm, ⟨45, _⟩ => ⟨S1x2048, .f32⟩
  | .hbm, ⟨46, _⟩ => ⟨S16384x2048, .f32⟩
  | .hbm, ⟨47, _⟩ => ⟨S16384x2048, .f32⟩
  | .hbm, ⟨48, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== AbIn.lean ====
abbrev S16384x2048 : Shape := ⟨2, ![16384, 2048]⟩
abbrev S2x2048x8192 : Shape := ⟨3, ![2, 2048, 8192]⟩
abbrev S16384x8192 : Shape := ⟨2, ![16384, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2x2048x8192, .f32⟩
  | .hbm, ⟨2, _⟩ => ⟨S16384x8192, .f32⟩
  | .local _ .vmem, ⟨0, _⟩ => ⟨S1024x2048, .f32⟩
  | .local _ .vmem, ⟨1, _⟩ => ⟨S1024x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AbInRefIdeal.lean ====
abbrev S16384x2048 : Shape := ⟨2, ![16384, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S16384x8192 : Shape := ⟨2, ![16384, 8192]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048x8192, .f32⟩
  | .hbm, ⟨2, _⟩ => ⟨S1x2048x8192, .f32⟩
  | .hbm, ⟨3, _⟩ => ⟨S2048x8192, .f32⟩
  | .hbm, ⟨4, _⟩ => ⟨S16384x8192, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CdIn.lean ====
abbrev S16384x2048 : Shape := ⟨2, ![16384, 2048]⟩
abbrev S2x2048x2560 : Shape := ⟨3, ![2, 2048, 2560]⟩
abbrev S16384x2560 : Shape := ⟨2, ![16384, 2560]⟩
abbrev S1024x2048 : Shape := ⟨2, ![1024, 2048]⟩
abbrev S1x2048x1280 : Shape := ⟨3, ![1, 2048, 1280]⟩
abbrev S1024x1280 : Shape := ⟨2, ![1024, 1280]⟩
abbrev S2048x1280 : Shape := ⟨2, ![2048, 1280]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2x2048x2560, .f32⟩
  | .hbm, ⟨2, _⟩ => ⟨S16384x2560, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1280, .f32⟩
  | .local _ .vmem, ⟨3, _⟩ => ⟨S1x2048x1280, .f32⟩
  | .local _ .vmem, ⟨4, _⟩ => ⟨S1024x1280, .f32⟩
  | .local _ .vmem, ⟨5, _⟩ => ⟨S1024x1280, .f32⟩
  | .local _ .vmem, ⟨6, _⟩ => ⟨S2048x1280, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CdInRefIdeal.lean ====
abbrev S16384x2048 : Shape := ⟨2, ![16384, 2048]⟩
abbrev S2x2048x2560 : Shape := ⟨3, ![2, 2048, 2560]⟩
abbrev S1x2048x2560 : Shape := ⟨3, ![1, 2048, 2560]⟩
abbrev S2048x2560 : Shape := ⟨2, ![2048, 2560]⟩
abbrev S16384x2560 : Shape := ⟨2, ![16384, 2560]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2560, .f32⟩
  | .hbm, ⟨2, _⟩ => ⟨S16384x2048, .f32⟩
  | .hbm, ⟨3, _⟩ => ⟨S1x2048x2560, .f32⟩
  | .hbm, ⟨4, _⟩ => ⟨S2048x2560, .f32⟩
  | .hbm, ⟨5, _⟩ => ⟨S16384x2560, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Na.lean ====
abbrev S8x2048x8192 : Shape := ⟨3, ![8, 2048, 8192]⟩
abbrev S2x8x15x31 : Shape := ⟨4, ![2, 8, 15, 31]⟩
abbrev S1x8x15x31 : Shape := ⟨4, ![1, 8, 15, 31]⟩
abbrev S8x15x31 : Shape := ⟨3, ![8, 15, 31]⟩
abbrev S12 : Shape := ⟨1, ![12]⟩
abbrev S64 : Shape := ⟨1, ![64]⟩
abbrev S_ : Shape := ⟨0, ![]⟩
abbrev S12x1 : Shape := ⟨2, ![12, 1]⟩
abbrev S64x1 : Shape := ⟨2, ![64, 1]⟩
abbrev S1x12 : Shape := ⟨2, ![1, 12]⟩
abbrev S12x12 : Shape := ⟨2, ![12, 12]⟩
abbrev S1x64 : Shape := ⟨2, ![1, 64]⟩
abbrev S64x64 : Shape := ⟨2, ![64, 64]⟩
abbrev S12x1x12x1 : Shape := ⟨4, ![12, 1, 12, 1]⟩
abbrev S1x64x1x64 : Shape := ⟨4, ![1, 64, 1, 64]⟩
abbrev S12x64x12x64 : Shape := ⟨4, ![12, 64, 12, 64]⟩
abbrev S12x64x12x64x1 : Shape := ⟨5, ![12, 64, 12, 64, 1]⟩
abbrev S12x64x12x64x2 : Shape := ⟨5, ![12, 64, 12, 64, 2]⟩
abbrev S8x12x64x12x64 : Shape := ⟨5, ![8, 12, 64, 12, 64]⟩
abbrev S8x12x64x768 : Shape := ⟨4, ![8, 12, 64, 768]⟩
abbrev S8x2048x1024 : Shape := ⟨3, ![8, 2048, 1024]⟩
abbrev S1x2048x128 : Shape := ⟨3, ![1, 2048, 128]⟩
abbrev S1x12x64x768 : Shape := ⟨4, ![1, 12, 64, 768]⟩
abbrev S128x2048 : Shape := ⟨2, ![128, 2048]⟩
abbrev S2048x256 : Shape := ⟨2, ![2048, 256]⟩
abbrev S1x256x128 : Shape := ⟨3, ![1, 256, 128]⟩
abbrev S256x128 : Shape := ⟨2, ![256, 128]⟩
abbrev S128x256 : Shape := ⟨2, ![128, 256]⟩
abbrev S2048x128 : Shape := ⟨2, ![2048, 128]⟩
abbrev S1x1x64x768 : Shape := ⟨4, ![1, 1, 64, 768]⟩
abbrev S64x768 : Shape := ⟨2, ![64, 768]⟩
abbrev S256x768 : Shape := ⟨2, ![256, 768]⟩
abbrev S128x768 : Shape := ⟨2, ![128, 768]⟩
abbrev S256 : Shape := ⟨1, ![256]⟩
abbrev S256x1 : Shape := ⟨2, ![256, 1]⟩
abbrev S768x256 : Shape := ⟨2, ![768, 256]⟩
abbrev S256x256 : Shape := ⟨2, ![256, 256]⟩

abbrev nBuf : Space → Nat
  | .hbm => 127
  | .vmem => 12
  | .smem => 0
  | _ => 0

abbrev bufTy : (tb : Table) → Fin (tcTables nBuf tb) → BufTy
  | .hbm, ⟨0, _⟩ => ⟨S8x2048x8192, .f32⟩
  | .hbm, ⟨1, _⟩ => ⟨S2x8x15x31, .f32⟩
  | .hbm, ⟨2, _⟩ => ⟨S1x8x15x31, .f32⟩
  | .hbm, ⟨3, _⟩ => ⟨S8x15x31, .f32⟩
  | .hbm, ⟨4, _⟩ => ⟨S12, .i32⟩
  | .hbm, ⟨5, _⟩ => ⟨S12, .i32⟩
  | .hbm, ⟨6, _⟩ => ⟨S64, .i32⟩
  | .hbm, ⟨7, _⟩ => ⟨S_, .i32⟩
  | .hbm, ⟨8, _⟩ => ⟨S12, .i32⟩
  | .hbm, ⟨9, _⟩ => ⟨S12, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S12, .i32⟩
  | .hbm, ⟨14, _⟩ => ⟨S12, .i32⟩
  | .hbm, ⟨15, _⟩ => ⟨S_, .i32⟩
  | .hbm, ⟨16, _⟩ => ⟨S12, .i32⟩
  | .hbm, ⟨17, _⟩ => ⟨S12, .i32⟩
  | .hbm, ⟨18, _⟩ => ⟨S12x1, .i32⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S_, .i32⟩
  | .hbm, ⟨28, _⟩ => ⟨S64, .i32⟩
  | .hbm, ⟨29, _⟩ => ⟨S64, .i32⟩
  | .hbm, ⟨30, _⟩ => ⟨S64x1, .i32⟩
  | .hbm, ⟨31, _⟩ => ⟨S1x12, .i32⟩
  | .hbm, ⟨32, _⟩ => ⟨S12x12, .i32⟩
  | .hbm, ⟨33, _⟩ => ⟨S12x12, .i32⟩
  | .hbm, ⟨34, _⟩ => ⟨S12x12, .i1⟩
  | .hbm, ⟨35, _⟩ => ⟨S_, .i32⟩
  | .hbm, ⟨36, _⟩ => ⟨S12x1, .i32⟩
  | .hbm, ⟨37, _⟩ => ⟨S12x1, .i32⟩
  | .hbm, ⟨38, _⟩ => ⟨S1x12, .i32⟩
  | .hbm, ⟨39, _⟩ => ⟨S12x12, .i32⟩
  | .hbm, ⟨40, _⟩ => ⟨S12x12, .i32⟩
  | .hbm, ⟨41, _⟩ => ⟨S12x12, .i1⟩
  | .hbm, ⟨42, _⟩ => ⟨S12x12, .i1⟩
  | .hbm, ⟨43, _⟩ => ⟨S1x64, .i32⟩
  | .hbm, ⟨44, _⟩ => ⟨S64x64, .i32⟩
  | .hbm, ⟨45, _⟩ => ⟨S64x64, .i32⟩
  | .hbm, ⟨46, _⟩ => ⟨S64x64, .i1⟩
  | .hbm, ⟨47, _⟩ => ⟨S_, .i32⟩
  | .hbm, ⟨48, _⟩ => ⟨S64x1, .i32⟩
  | .hbm, ⟨49, _⟩ => ⟨S64x1, .i32⟩
  | .hbm, ⟨50, _⟩ => ⟨S1x64, .i32⟩
  | .hbm, ⟨51, _⟩ => ⟨S64x64, .i32⟩
  | .hbm, ⟨52, _⟩ => ⟨S64x64, .i32⟩
  | .hbm, ⟨53, _⟩ => ⟨S64x64, .i1⟩
  | .hbm, ⟨54, _⟩ => ⟨S64x64, .i1⟩
  | .hbm, ⟨55, _⟩ => ⟨S12x1, .i32⟩
  | .hbm, ⟨56, _⟩ => ⟨S1x12, .i32⟩
  | .hbm, ⟨57, _⟩ => ⟨S12x12, .i32⟩
  | .hbm, ⟨58, _⟩ => ⟨S12x12, .i32⟩
  | .hbm, ⟨59, _⟩ => ⟨S12x12, .i32⟩
  | .hbm, ⟨60, _⟩ => ⟨S_, .i32⟩
  | .hbm, ⟨61, _⟩ => ⟨S12x12, .i32⟩
  | .hbm, ⟨62, _⟩ => ⟨S12x12, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S12x12, .i32⟩
  | .hbm, ⟨67, _⟩ => ⟨S12x12, .i32⟩
  | .hbm, ⟨68, _⟩ => ⟨S_, .i32⟩
  | .hbm, ⟨69, _⟩ => ⟨S12x12, .i32⟩
  | .hbm, ⟨70, _⟩ => ⟨S12x12, .i32⟩
  | .hbm, ⟨71, _⟩ => ⟨S64x1, .i32⟩
  | .hbm, ⟨72, _⟩ => ⟨S1x64, .i32⟩
  | .hbm, ⟨73, _⟩ => ⟨S64x64, .i32⟩
  | .hbm, ⟨74, _⟩ => ⟨S64x64, .i32⟩
  | .hbm, ⟨75, _⟩ => ⟨S64x64, .i32⟩
  | .hbm, ⟨76, _⟩ => ⟨S_, .i32⟩
  | .hbm, ⟨77, _⟩ => ⟨S64x64, .i32⟩
  | .hbm, ⟨78, _⟩ => ⟨S64x64, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S64x64, .i32⟩
  | .hbm, ⟨83, _⟩ => ⟨S64x64, .i32⟩
  | .hbm, ⟨84, _⟩ => ⟨S_, .i32⟩
  | .hbm, ⟨85, _⟩ => ⟨S64x64, .i32⟩
  | .hbm, ⟨86, _⟩ => ⟨S64x64, .i32⟩
  | .hbm, ⟨87, _⟩ => ⟨S12x1x12x1, .i32⟩
  | .hbm, ⟨88, _⟩ => ⟨S1x64x1x64, .i32⟩
  | .hbm, ⟨89, _⟩ => ⟨S_, .i32⟩
  | .hbm, ⟨90, _⟩ => ⟨S12x1x12x1, .i32⟩
  | .hbm, ⟨91, _⟩ => ⟨S12x1x12x1, .i1⟩
  | .hbm, ⟨92, _⟩ => ⟨S_, .i32⟩
  | .hbm, ⟨93, _⟩ => ⟨S12x1x12x1, .i32⟩
  | .hbm, ⟨94, _⟩ => ⟨S12x1x12x1, .i32⟩
  | .hbm, ⟨95, _⟩ => ⟨S12x1x12x1, .i32⟩
  | .hbm, ⟨96, _⟩ => ⟨S_, .i32⟩
  | .hbm, ⟨97, _⟩ => ⟨S1x64x1x64, .i32⟩
  | .hbm, ⟨98, _⟩ => ⟨S1x64x1x64, .i1⟩
  | .hbm, ⟨99, _⟩ => ⟨S_, .i32⟩
  | .hbm, ⟨100, _⟩ => ⟨S1x64x1x64, .i32⟩
  | .hbm, ⟨101, _⟩ => ⟨S1x64x1x64, .i32⟩
  | .hbm, ⟨102, _⟩ => ⟨S1x64x1x64, .i32⟩
  | .hbm, ⟨103, _⟩ => ⟨S12x64x12x64, .i32⟩
  | .hbm, ⟨104, _⟩ => ⟨S12x64x12x64, .i32⟩
  | .hbm, ⟨105, _⟩ => ⟨S12x64x12x64x1, .i32⟩
  | .hbm, ⟨106, _⟩ => ⟨S12x64x12x64x1, .i32⟩
  | .hbm, ⟨107, _⟩ => ⟨S12x64x12x64x2, .i32⟩
  | .hbm, ⟨108, _⟩ => ⟨S8x12x64x12x64, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S8x12x64x12x64, .f32⟩
  | .hbm, ⟨114, _⟩ => ⟨S8x12x64x12x64, .f32⟩
  | .hbm, ⟨115, _⟩ => ⟨S12x1x12x1, .i1⟩
  | .hbm, ⟨116, _⟩ => ⟨S1x64x1x64, .i1⟩
  | .hbm, ⟨117, _⟩ => ⟨S12x64x12x64, .i1⟩
  | .hbm, ⟨118, _⟩ => ⟨S12x64x12x64, .i1⟩
  | .hbm, ⟨119, _⟩ => ⟨S12x64x12x64, .i1⟩
  | .hbm, ⟨120, _⟩ => ⟨S_, .f32⟩
  | .hbm, ⟨121, _⟩ => ⟨S_, .f32⟩
  | .hbm, ⟨122, _⟩ => ⟨S8x12x64x12x64, .i1⟩
  | .hbm, ⟨123, _⟩ => ⟨S8x12x64x12x64, .f32⟩
  | .hbm, ⟨124, _⟩ => ⟨S8x12x64x12x64, .f32⟩
  | .hbm, ⟨125, _⟩ => ⟨S8x12x64x768, .f32⟩
  | .hbm, ⟨126, _⟩ => ⟨S8x2048x1024, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x12x64x768, .f32⟩
  | .local _ .vmem, ⟨7, _⟩ => ⟨S1x12x64x768, .f32⟩
  | .local _ .vmem, ⟨8, _⟩ => ⟨S1x2048x128, .bf16⟩
  | .local _ .vmem, ⟨9, _⟩ => ⟨S1x2048x128, .bf16⟩
  | .local _ .vmem, ⟨10, _⟩ => ⟨S128x2048, .bf16⟩
  | .local _ .vmem, ⟨11, _⟩ => ⟨S2048x256, .bf16⟩
  | _, _ => ⟨S8x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_c_4 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_c_9 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_10 : Ref sig .tc := ⟨.hbm, 76, rfl⟩
abbrev main_v48 : Ref sig .tc := ⟨.hbm, 77, rfl⟩
abbrev main_v49 : Ref sig .tc := ⟨.hbm, 78, rfl⟩
abbrev main_c_11 : Ref sig .tc := ⟨.hbm, 79, rfl⟩
abbrev main_c_12 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_13 : Ref sig .tc := ⟨.hbm, 89, rfl⟩
abbrev main_v53 : Ref sig .tc := ⟨.hbm, 90, rfl⟩
abbrev main_v54 : Ref sig .tc := ⟨.hbm, 91, rfl⟩
abbrev main_c_14 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_15 : Ref sig .tc := ⟨.hbm, 96, rfl⟩
abbrev main_v58 : Ref sig .tc := ⟨.hbm, 97, rfl⟩
abbrev main_v59 : Ref sig .tc := ⟨.hbm, 98, rfl⟩
abbrev main_c_16 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst : Ref sig .tc := ⟨.hbm, 109, rfl⟩
abbrev main_v69 : Ref sig .tc := ⟨.hbm, 110, rfl⟩
abbrev main_cst_17 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_18 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x12x64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NaIdeal.lean ====
variable {F : FTy → Type} [FloatOps F] [Named F]
def κ : String → Option EReal := fun
  | "score_scale" => some (((Real.sqrt 128)⁻¹ * (Real.log 2)⁻¹ : ℝ) : EReal)
  | _ => none
-- ==== NaRefIdeal.lean ====
abbrev S8x2048x8192 : Shape := ⟨3, ![8, 2048, 8192]⟩
abbrev S2x8x15x31 : Shape := ⟨4, ![2, 8, 15, 31]⟩
abbrev S8x2048x3072 : Shape := ⟨3, ![8, 2048, 3072]⟩
abbrev S8x2048x1024 : Shape := ⟨3, ![8, 2048, 1024]⟩
abbrev S8x2048x8x128 : Shape := ⟨4, ![8, 2048, 8, 128]⟩
abbrev S32 : Shape := ⟨1, ![32]⟩
abbrev S64 : Shape := ⟨1, ![64]⟩
abbrev S_ : Shape := ⟨0, ![]⟩
abbrev S32x1 : Shape := ⟨2, ![32, 1]⟩
abbrev S64x1 : Shape := ⟨2, ![64, 1]⟩
abbrev S1x32 : Shape := ⟨2, ![1, 32]⟩
abbrev S32x32 : Shape := ⟨2, ![32, 32]⟩
abbrev S1x64 : Shape := ⟨2, ![1, 64]⟩
abbrev S64x64 : Shape := ⟨2, ![64, 64]⟩
abbrev S32x1x32x1 : Shape := ⟨4, ![32, 1, 32, 1]⟩
abbrev S1x64x1x64 : Shape := ⟨4, ![1, 64, 1, 64]⟩
abbrev S32x64x32x64 : Shape := ⟨4, ![32, 64, 32, 64]⟩
abbrev S2048x2048 : Shape := ⟨2, ![2048, 2048]⟩
abbrev S1x8x15x31 : Shape := ⟨4, ![1, 8, 15, 31]⟩
abbrev S8x15x31 : Shape := ⟨3, ![8, 15, 31]⟩
abbrev S32x64x32x64x1 : Shape := ⟨5, ![32, 64, 32, 64, 1]⟩
abbrev S32x64x32x64x2 : Shape := ⟨5, ![32, 64, 32, 64, 2]⟩
abbrev S8x32x64x32x64 : Shape := ⟨5, ![8, 32, 64, 32, 64]⟩
abbrev S8x2048x2048 : Shape := ⟨3, ![8, 2048, 2048]⟩
abbrev S8x8x2048x2048 : Shape := ⟨4, ![8, 8, 2048, 2048]⟩
abbrev S1x8x2048x2048 : Shape := ⟨4, ![1, 8, 2048, 2048]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩

abbrev nBuf : Space → Nat
  | .hbm => 155
  | .vmem => 0
  | .smem => 0
  | _ => 0

abbrev hbmTy0_0 (i : Nat) : BufTy := match i % 128 with
  | 0 => ⟨S8x2048x8192, .f32⟩
  | 1 => ⟨S2x8x15x31, .f32⟩
  | 2 => ⟨S8x2048x3072, .f32⟩
  | 3 => ⟨S8x2048x1024, .f32⟩
  | 4 => ⟨S8x2048x1024, .f32⟩
  | 5 => ⟨S8x2048x1024, .f32⟩
  | 6 => ⟨S8x2048x8x128, .f32⟩
  | 7 => ⟨S8x2048x8x128, .f32⟩
  | 8 => ⟨S8x2048x8x128, .f32⟩
  | 9 => ⟨S32, .i32⟩
  | 10 => ⟨S64, .i32⟩
  | 11 => ⟨S_, .i32⟩
  | 12 => ⟨S32, .i32⟩
  | 13 => ⟨S32, .i32⟩
  | 14 => ⟨S_, .i32⟩
  | 15 => ⟨S_, .i32⟩
  | 16 => ⟨S_, .i32⟩
  | 17 => ⟨S32, .i32⟩
  | 18 => ⟨S32, .i32⟩
  | 19 => ⟨S_, .i32⟩
  | 20 => ⟨S32, .i32⟩
  | 21 => ⟨S32, .i32⟩
  | 22 => ⟨S32x1, .i32⟩
  | 23 => ⟨S_, .i32⟩
  | 24 => ⟨S64, .i32⟩
  | 25 => ⟨S64, .i32⟩
  | 26 => ⟨S_, .i32⟩
  | 27 => ⟨S_, .i32⟩
  | 28 => ⟨S_, .i32⟩
  | 29 => ⟨S64, .i32⟩
  | 30 => ⟨S64, .i32⟩
  | 31 => ⟨S_, .i32⟩
  | 32 => ⟨S64, .i32⟩
  | 33 => ⟨S64, .i32⟩
  | 34 => ⟨S64x1, .i32⟩
  | 35 => ⟨S1x32, .i32⟩
  | 36 => ⟨S32x32, .i32⟩
  | 37 => ⟨S32x32, .i32⟩
  | 38 => ⟨S32x32, .i1⟩
  | 39 => ⟨S_, .i32⟩
  | 40 => ⟨S32x1, .i32⟩
  | 41 => ⟨S32x1, .i32⟩
  | 42 => ⟨S1x32, .i32⟩
  | 43 => ⟨S32x32, .i32⟩
  | 44 => ⟨S32x32, .i32⟩
  | 45 => ⟨S32x32, .i1⟩
  | 46 => ⟨S32x32, .i1⟩
  | 47 => ⟨S1x64, .i32⟩
  | 48 => ⟨S64x64, .i32⟩
  | 49 => ⟨S64x64, .i32⟩
  | 50 => ⟨S64x64, .i1⟩
  | 51 => ⟨S_, .i32⟩
  | 52 => ⟨S64x1, .i32⟩
  | 53 => ⟨S64x1, .i32⟩
  | 54 => ⟨S1x64, .i32⟩
  | 55 => ⟨S64x64, .i32⟩
  | 56 => ⟨S64x64, .i32⟩
  | 57 => ⟨S64x64, .i1⟩
  | 58 => ⟨S64x64, .i1⟩
  | 59 => ⟨S32x1x32x1, .i1⟩
  | 60 => ⟨S1x64x1x64, .i1⟩
  | 61 => ⟨S32x64x32x64, .i1⟩
  | 62 => ⟨S32x64x32x64, .i1⟩
  | 63 => ⟨S32x64x32x64, .i1⟩
  | 64 => ⟨S2048x2048, .i1⟩
  | 65 => ⟨S32x1, .i32⟩
  | 66 => ⟨S1x32, .i32⟩
  | 67 => ⟨S32x32, .i32⟩
  | 68 => ⟨S32x32, .i32⟩
  | 69 => ⟨S32x32, .i32⟩
  | 70 => ⟨S_, .i32⟩
  | 71 => ⟨S32x32, .i32⟩
  | 72 => ⟨S32x32, .i32⟩
  | 73 => ⟨S_, .i32⟩
  | 74 => ⟨S_, .i32⟩
  | 75 => ⟨S_, .i32⟩
  | 76 => ⟨S32x32, .i32⟩
  | 77 => ⟨S32x32, .i32⟩
  | 78 => ⟨S_, .i32⟩
  | 79 => ⟨S32x32, .i32⟩
  | 80 => ⟨S32x32, .i32⟩
  | 81 => ⟨S64x1, .i32⟩
  | 82 => ⟨S1x64, .i32⟩
  | 83 => ⟨S64x64, .i32⟩
  | 84 => ⟨S64x64, .i32⟩
  | 85 => ⟨S64x64, .i32⟩
  | 86 => ⟨S_, .i32⟩
  | 87 => ⟨S64x64, .i32⟩
  | 88 => ⟨S64x64, .i32⟩
  | 89 => ⟨S_, .i32⟩
  | 90 => ⟨S_, .i32⟩
  | 91 => ⟨S_, .i32⟩
  | 92 => ⟨S64x64, .i32⟩
  | 93 => ⟨S64x64, .i32⟩
  | 94 => ⟨S_, .i32⟩
  | 95 => ⟨S64x64, .i32⟩
  | 96 => ⟨S64x64, .i32⟩
  | 97 => ⟨S1x8x15x31, .f32⟩
  | 98 => ⟨S8x15x31, .f32⟩
  | 99 => ⟨S32x1x32x1, .i32⟩
  | 100 => ⟨S1x64x1x64, .i32⟩
  | 101 => ⟨S_, .i32⟩
  | 102 => ⟨S32x1x32x1, .i32⟩
  | 103 => ⟨S32x1x32x1, .i1⟩
  | 104 => ⟨S_, .i32⟩
  | 105 => ⟨S32x1x32x1, .i32⟩
  | 106 => ⟨S32x1x32x1, .i32⟩
  | 107 => ⟨S32x1x32x1, .i32⟩
  | 108 => ⟨S_, .i32⟩
  | 109 => ⟨S1x64x1x64, .i32⟩
  | 110 => ⟨S1x64x1x64, .i1⟩
  | 111 => ⟨S_, .i32⟩
  | 112 => ⟨S1x64x1x64, .i32⟩
  | 113 => ⟨S1x64x1x64, .i32⟩
  | 114 => ⟨S1x64x1x64, .i32⟩
  | 115 => ⟨S32x64x32x64, .i32⟩
  | 116 => ⟨S32x64x32x64, .i32⟩
  | 117 => ⟨S32x64x32x64x1, .i32⟩
  | 118 => ⟨S32x64x32x64x1, .i32⟩
  | 119 => ⟨S32x64x32x64x2, .i32⟩
  | 120 => ⟨S8x32x64x32x64, .f32⟩
  | 121 => ⟨S8x2048x2048, .f32⟩
  | 122 => ⟨S_, .f32⟩
  | 123 => ⟨S_, .f32⟩
  | 124 => ⟨S_, .f32⟩
  | 125 => ⟨S_, .f32⟩
  | 126 => ⟨S8x2048x8x128, .f32⟩
  | 127 => ⟨S8x2048x8x128, .f32⟩
  | _ => ⟨S8x2048x8192, .f32⟩

abbrev hbmTy0_1 (i : Nat) : BufTy := match i % 128 with
  | 0 => ⟨S8x8x2048x2048, .f32⟩
  | 1 => ⟨S1x8x2048x2048, .f32⟩
  | 2 => ⟨S8x8x2048x2048, .f32⟩
  | 3 => ⟨S8x8x2048x2048, .f32⟩
  | 4 => ⟨S_, .f32⟩
  | 5 => ⟨S_, .f32⟩
  | 6 => ⟨S8x8x2048x2048, .i1⟩
  | 7 => ⟨S8x8x2048x2048, .f32⟩
  | 8 => ⟨S8x8x2048x2048, .f32⟩
  | 9 => ⟨S_, .f32⟩
  | 10 => ⟨S8x8x2048, .f32⟩
  | 11 => ⟨S_, .f32⟩
  | 12 => ⟨S8x8x2048, .f32⟩
  | 13 => ⟨S8x8x2048, .f32⟩
  | 14 => ⟨S8x8x2048x1, .f32⟩
  | 15 => ⟨S8x8x2048x2048, .f32⟩
  | 16 => ⟨S8x8x2048x2048, .f32⟩
  | 17 => ⟨S8x8x2048x2048, .f32⟩
  | 18 => ⟨S_, .f32⟩
  | 19 => ⟨S8x8x2048, .f32⟩
  | 20 => ⟨S8x8x2048x1, .f32⟩
  | 21 => ⟨S8x8x2048x2048, .f32⟩
  | 22 => ⟨S8x8x2048x2048, .f32⟩
  | 23 => ⟨S8x8x128x2048, .f32⟩
  | 24 => ⟨S8x2048x8x128, .f32⟩
  | 25 => ⟨S8x2048x1024, .f32⟩
  | 26 => ⟨S8x2048x1024, .bf16⟩
  | _ => ⟨S8x2048x8192, .f32⟩

abbrev hbmTy (i : Nat) : BufTy := match i / 128 with
  | 0 => hbmTy0_0 i
  | 1 => hbmTy0_1 i
  | _ => ⟨S8x2048x8192, .f32⟩

abbrev bufTy : (tb : Table) → Fin (tcTables nBuf tb) → BufTy
  | .hbm, ⟨i, _⟩ => hbmTy i
  | _, _ => ⟨S8x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_7 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_c_9 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_10 : Ref sig .tc := ⟨.hbm, 86, rfl⟩
abbrev main_v58 : Ref sig .tc := ⟨.hbm, 87, rfl⟩
abbrev main_v59 : Ref sig .tc := ⟨.hbm, 88, rfl⟩
abbrev main_c_11 : Ref sig .tc := ⟨.hbm, 89, rfl⟩
abbrev main_c_12 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_13 : Ref sig .tc := ⟨.hbm, 101, rfl⟩
abbrev main_v65 : Ref sig .tc := ⟨.hbm, 102, rfl⟩
abbrev main_v66 : Ref sig .tc := ⟨.hbm, 103, rfl⟩
abbrev main_c_14 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_15 : Ref sig .tc := ⟨.hbm, 108, rfl⟩
abbrev main_v70 : Ref sig .tc := ⟨.hbm, 109, rfl⟩
abbrev main_v71 : Ref sig .tc := ⟨.hbm, 110, rfl⟩
abbrev main_c_16 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst : Ref sig .tc := ⟨.hbm, 122, rfl⟩
abbrev main_v82 : Ref sig .tc := ⟨.hbm, 123, rfl⟩
abbrev main_cst_17 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_18 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_v90 : Ref sig .tc := ⟨.hbm, 136, rfl⟩
abbrev main_cst_19 : Ref sig .tc := ⟨.hbm, 137, rfl⟩
abbrev main_v91 : Ref sig .tc := ⟨.hbm, 138, rfl⟩
abbrev main_cst_20 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_21 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩

abbrev nD : Nat := 1
abbrev τ : Topo := Topo.v7x

variable {F : FTy → Type} [FloatOps F]
-- ==== Pool.lean ====
abbrev S8x2048x2560 : Shape := ⟨3, ![8, 2048, 2560]⟩
abbrev S2x4x256x256 : Shape := ⟨4, ![2, 4, 256, 256]⟩
abbrev S2x1024 : Shape := ⟨2, ![2, 1024]⟩
abbrev S1x4x256x256 : Shape := ⟨4, ![1, 4, 256, 256]⟩
abbrev S4x256x256 : Shape := ⟨3, ![4, 256, 256]⟩
abbrev S1x1024 : Shape := ⟨2, ![1, 1024]⟩
abbrev S1024 : Shape := ⟨1, ![1024]⟩
abbrev S8x2048x1024 : Shape := ⟨3, ![8, 2048, 1024]⟩
abbrev S1x2048x1024 : Shape := ⟨3, ![1, 2048, 1024]⟩
abbrev S2080x1024 : Shape := ⟨2, ![2080, 1024]⟩
abbrev S2080x256 : Shape := ⟨2, ![2080, 256]⟩
abbrev S16x1024 : Shape := ⟨2, ![16, 1024]⟩
abbrev S2048x1024 : Shape := ⟨2, ![2048, 1024]⟩
abbrev S8x256 : Shape := ⟨2, ![8, 256]⟩
abbrev S2064x256 : Shape := ⟨2, ![2064, 256]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 10
  | .vmem => 9
  | .smem => 0
  | _ => 0

abbrev bufTy : (tb : Table) → Fin (tcTables nBuf tb) → BufTy
  | .hbm, ⟨0, _⟩ => ⟨S8x2048x2560, .f32⟩
  | .hbm, ⟨1, _⟩ => ⟨S2x4x256x256, .f32⟩
  | .hbm, ⟨2, _⟩ => ⟨S2x1024, .f32⟩
  | .hbm, ⟨3, _⟩ => ⟨S2x4x256x256, .bf16⟩
  | .hbm, ⟨4, _⟩ => ⟨S1x4x256x256, .bf16⟩
  | .hbm, ⟨5, _⟩ => ⟨S4x256x256, .bf16⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S8x2048x1024, .bf16⟩
  | .local _ .vmem, ⟨0, _⟩ => ⟨S1x2048x1024, .f32⟩
  | .local _ .vmem, ⟨1, _⟩ => ⟨S1x2048x1024, .f32⟩
  | .local _ .vmem, ⟨2, _⟩ => ⟨S4x256x256, .bf16⟩
  | .local _ .vmem, ⟨3, _⟩ => ⟨S1x1024, .f32⟩
  | .local _ .vmem, ⟨4, _⟩ => ⟨S1x2048x1024, .bf16⟩
  | .local _ .vmem, ⟨5, _⟩ => ⟨S1x2048x1024, .bf16⟩
  | .local _ .vmem, ⟨6, _⟩ => ⟨S2080x1024, .f32⟩
  | .local _ .vmem, ⟨7, _⟩ => ⟨S2080x256, .f32⟩
  | .local _ .vmem, ⟨8, _⟩ => ⟨S2080x256, .f32⟩
  | _, _ => ⟨S8x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolRefIdeal.lean ====
abbrev S8x2048x2560 : Shape := ⟨3, ![8, 2048, 2560]⟩
abbrev S2x4x256x256 : Shape := ⟨4, ![2, 4, 256, 256]⟩
abbrev S2x1024 : Shape := ⟨2, ![2, 1024]⟩
abbrev S8x2048x1024 : Shape := ⟨3, ![8, 2048, 1024]⟩
abbrev S_ : Shape := ⟨0, ![]⟩
abbrev S8x1x1024 : Shape := ⟨3, ![8, 1, 1024]⟩
abbrev S8x2049x1024 : Shape := ⟨3, ![8, 2049, 1024]⟩
abbrev S2048 : Shape := ⟨1, ![2048]⟩
abbrev S8x2049x256 : Shape := ⟨3, ![8, 2049, 256]⟩
abbrev S2048x1 : Shape := ⟨2, ![2048, 1]⟩
abbrev S8x2048x256 : Shape := ⟨3, ![8, 2048, 256]⟩
abbrev S1x2048x1 : Shape := ⟨3, ![1, 2048, 1]⟩
abbrev S8x2048x1x256 : Shape := ⟨4, ![8, 2048, 1, 256]⟩
abbrev S8x2048x4x256 : Shape := ⟨4, ![8, 2048, 4, 256]⟩
abbrev S1x4x256x256 : Shape := ⟨4, ![1, 4, 256, 256]⟩
abbrev S4x256x256 : Shape := ⟨3, ![4, 256, 256]⟩
abbrev S4x256x8x2048 : Shape := ⟨4, ![4, 256, 8, 2048]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 223
  | .vmem => 0
  | .smem => 0
  | _ => 0

abbrev hbmTy0_0 (i : Nat) : BufTy := match i % 128 with
  | 0 => ⟨S8x2048x2560, .f32⟩
  | 1 => ⟨S2x4x256x256, .f32⟩
  | 2 => ⟨S2x1024, .f32⟩
  | 3 => ⟨S8x2048x1024, .f32⟩
  | 4 => ⟨S_, .f32⟩
  | 5 => ⟨S8x1x1024, .f32⟩
  | 6 => ⟨S_, .f32⟩
  | 7 => ⟨S_, .f32⟩
  | 8 => ⟨S8x2048x1024, .f32⟩
  | 9 => ⟨S8x2049x1024, .f32⟩
  | 10 => ⟨S2048, .i32⟩
  | 11 => ⟨S_, .i32⟩
  | 12 => ⟨S2048, .i32⟩
  | 13 => ⟨S2048, .i32⟩
  | 14 => ⟨S_, .i32⟩
  | 15 => ⟨S_, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S_, .i32⟩
  | 26 => ⟨S_, .i32⟩
  | 27 => ⟨S_, .i32⟩
  | 28 => ⟨S2048, .i32⟩
  | 29 => ⟨S2048, .i32⟩
  | 30 => ⟨S_, .i32⟩
  | 31 => ⟨S2048, .i32⟩
  | 32 => ⟨S2048, .i32⟩
  | 33 => ⟨S8x2049x256, .f32⟩
  | 34 => ⟨S_, .i32⟩
  | 35 => ⟨S2048, .i32⟩
  | 36 => ⟨S2048, .i1⟩
  | 37 => ⟨S_, .i32⟩
  | 38 => ⟨S2048, .i32⟩
  | 39 => ⟨S2048, .i32⟩
  | 40 => ⟨S2048, .i32⟩
  | 41 => ⟨S2048x1, .i32⟩
  | 42 => ⟨S8x2048x256, .f32⟩
  | 43 => ⟨S_, .i32⟩
  | 44 => ⟨S2048, .i32⟩
  | 45 => ⟨S2048, .i1⟩
  | 46 => ⟨S_, .i32⟩
  | 47 => ⟨S2048, .i32⟩
  | 48 => ⟨S2048, .i32⟩
  | 49 => ⟨S2048, .i32⟩
  | 50 => ⟨S2048x1, .i32⟩
  | 51 => ⟨S8x2048x256, .f32⟩
  | 52 => ⟨S8x2048x256, .f32⟩
  | 53 => ⟨S2048, .i32⟩
  | 54 => ⟨S2048, .f32⟩
  | 55 => ⟨S1x2048x1, .f32⟩
  | 56 => ⟨S8x2048x256, .f32⟩
  | 57 => ⟨S8x2048x256, .f32⟩
  | 58 => ⟨S8x2048x256, .f32⟩
  | 59 => ⟨S8x2048x256, .f32⟩
  | 60 => ⟨S_, .i32⟩
  | 61 => ⟨S2048, .i32⟩
  | 62 => ⟨S2048, .i32⟩
  | 63 => ⟨S_, .i32⟩
  | 64 => ⟨S_, .i32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S_, .i32⟩
  | 75 => ⟨S_, .i32⟩
  | 76 => ⟨S_, .i32⟩
  | 77 => ⟨S2048, .i32⟩
  | 78 => ⟨S2048, .i32⟩
  | 79 => ⟨S_, .i32⟩
  | 80 => ⟨S2048, .i32⟩
  | 81 => ⟨S2048, .i32⟩
  | 82 => ⟨S8x2049x256, .f32⟩
  | 83 => ⟨S_, .i32⟩
  | 84 => ⟨S2048, .i32⟩
  | 85 => ⟨S2048, .i1⟩
  | 86 => ⟨S_, .i32⟩
  | 87 => ⟨S2048, .i32⟩
  | 88 => ⟨S2048, .i32⟩
  | 89 => ⟨S2048, .i32⟩
  | 90 => ⟨S2048x1, .i32⟩
  | 91 => ⟨S8x2048x256, .f32⟩
  | 92 => ⟨S_, .i32⟩
  | 93 => ⟨S2048, .i32⟩
  | 94 => ⟨S2048, .i1⟩
  | 95 => ⟨S_, .i32⟩
  | 96 => ⟨S2048, .i32⟩
  | 97 => ⟨S2048, .i32⟩
  | 98 => ⟨S2048, .i32⟩
  | 99 => ⟨S2048x1, .i32⟩
  | 100 => ⟨S8x2048x256, .f32⟩
  | 101 => ⟨S8x2048x256, .f32⟩
  | 102 => ⟨S2048, .i32⟩
  | 103 => ⟨S2048, .f32⟩
  | 104 => ⟨S1x2048x1, .f32⟩
  | 105 => ⟨S8x2048x256, .f32⟩
  | 106 => ⟨S8x2048x256, .f32⟩
  | 107 => ⟨S8x2048x256, .f32⟩
  | 108 => ⟨S8x2048x256, .f32⟩
  | 109 => ⟨S_, .i32⟩
  | 110 => ⟨S2048, .i32⟩
  | 111 => ⟨S2048, .i32⟩
  | 112 => ⟨S_, .i32⟩
  | 113 => ⟨S_, .i32⟩
  | 114 => ⟨S_, .i32⟩
  | 115 => ⟨S2048, .i32⟩
  | 116 => ⟨S2048, .i32⟩
  | 117 => ⟨S_, .i32⟩
  | 118 => ⟨S2048, .i32⟩
  | 119 => ⟨S2048, .i32⟩
  | 120 => ⟨S_, .i32⟩
  | 121 => ⟨S2048, .i32⟩
  | 122 => ⟨S2048, .i32⟩
  | 123 => ⟨S_, .i32⟩
  | 124 => ⟨S_, .i32⟩
  | 125 => ⟨S_, .i32⟩
  | 126 => ⟨S2048, .i32⟩
  | 127 => ⟨S2048, .i32⟩
  | _ => ⟨S8x2048x2560, .f32⟩

abbrev hbmTy0_1 (i : Nat) : BufTy := match i % 128 with
  | 0 => ⟨S_, .i32⟩
  | 1 => ⟨S2048, .i32⟩
  | 2 => ⟨S2048, .i32⟩
  | 3 => ⟨S8x2049x256, .f32⟩
  | 4 => ⟨S_, .i32⟩
  | 5 => ⟨S2048, .i32⟩
  | 6 => ⟨S2048, .i1⟩
  | 7 => ⟨S_, .i32⟩
  | 8 => ⟨S2048, .i32⟩
  | 9 => ⟨S2048, .i32⟩
  | 10 => ⟨S2048, .i32⟩
  | 11 => ⟨S2048x1, .i32⟩
  | 12 => ⟨S8x2048x256, .f32⟩
  | 13 => ⟨S_, .i32⟩
  | 14 => ⟨S2048, .i32⟩
  | 15 => ⟨S2048, .i1⟩
  | 16 => ⟨S_, .i32⟩
  | 17 => ⟨S2048, .i32⟩
  | 18 => ⟨S2048, .i32⟩
  | 19 => ⟨S2048, .i32⟩
  | 20 => ⟨S2048x1, .i32⟩
  | 21 => ⟨S8x2048x256, .f32⟩
  | 22 => ⟨S8x2048x256, .f32⟩
  | 23 => ⟨S2048, .i32⟩
  | 24 => ⟨S2048, .f32⟩
  | 25 => ⟨S1x2048x1, .f32⟩
  | 26 => ⟨S8x2048x256, .f32⟩
  | 27 => ⟨S8x2048x256, .f32⟩
  | 28 => ⟨S8x2048x256, .f32⟩
  | 29 => ⟨S8x2048x256, .f32⟩
  | 30 => ⟨S_, .i32⟩
  | 31 => ⟨S2048, .i32⟩
  | 32 => ⟨S2048, .i32⟩
  | 33 => ⟨S_, .i32⟩
  | 34 => ⟨S_, .i32⟩
  | 35 => ⟨S_, .i32⟩
  | 36 => ⟨S2048, .i32⟩
  | 37 => ⟨S2048, .i32⟩
  | 38 => ⟨S_, .i32⟩
  | 39 => ⟨S2048, .i32⟩
  | 40 => ⟨S2048, .i32⟩
  | 41 => ⟨S_, .i32⟩
  | 42 => ⟨S2048, .i32⟩
  | 43 => ⟨S2048, .i32⟩
  | 44 => ⟨S_, .i32⟩
  | 45 => ⟨S_, .i32⟩
  | 46 => ⟨S_, .i32⟩
  | 47 => ⟨S2048, .i32⟩
  | 48 => ⟨S2048, .i32⟩
  | 49 => ⟨S_, .i32⟩
  | 50 => ⟨S2048, .i32⟩
  | 51 => ⟨S2048, .i32⟩
  | 52 => ⟨S8x2049x256, .f32⟩
  | 53 => ⟨S_, .i32⟩
  | 54 => ⟨S2048, .i32⟩
  | 55 => ⟨S2048, .i1⟩
  | 56 => ⟨S_, .i32⟩
  | 57 => ⟨S2048, .i32⟩
  | 58 => ⟨S2048, .i32⟩
  | 59 => ⟨S2048, .i32⟩
  | 60 => ⟨S2048x1, .i32⟩
  | 61 => ⟨S8x2048x256, .f32⟩
  | 62 => ⟨S_, .i32⟩
  | 63 => ⟨S2048, .i32⟩
  | 64 => ⟨S2048, .i1⟩
  | 65 => ⟨S_, .i32⟩
  | 66 => ⟨S2048, .i32⟩
  | 67 => ⟨S2048, .i32⟩
  | 68 => ⟨S2048, .i32⟩
  | 69 => ⟨S2048x1, .i32⟩
  | 70 => ⟨S8x2048x256, .f32⟩
  | 71 => ⟨S8x2048x256, .f32⟩
  | 72 => ⟨S2048, .i32⟩
  | 73 => ⟨S2048, .f32⟩
  | 74 => ⟨S1x2048x1, .f32⟩
  | 75 => ⟨S8x2048x256, .f32⟩
  | 76 => ⟨S8x2048x256, .f32⟩
  | 77 => ⟨S8x2048x256, .f32⟩
  | 78 => ⟨S8x2048x256, .f32⟩
  | 79 => ⟨S8x2048x1x256, .f32⟩
  | 80 => ⟨S8x2048x1x256, .f32⟩
  | 81 => ⟨S8x2048x1x256, .f32⟩
  | 82 => ⟨S8x2048x1x256, .f32⟩
  | 83 => ⟨S8x2048x4x256, .f32⟩
  | 84 => ⟨S1x4x256x256, .f32⟩
  | 85 => ⟨S4x256x256, .f32⟩
  | 86 => ⟨S4x256x8x2048, .f32⟩
  | 87 => ⟨S8x2048x4x256, .f32⟩
  | 88 => ⟨S8x2048x1024, .f32⟩
  | 89 => ⟨S1x1024, .f32⟩
  | 90 => ⟨S1024, .f32⟩
  | 91 => ⟨S1x1x1024, .f32⟩
  | 92 => ⟨S8x2048x1024, .f32⟩
  | 93 => ⟨S8x2048x1024, .f32⟩
  | 94 => ⟨S8x2048x1024, .bf16⟩
  | _ => ⟨S8x2048x2560, .f32⟩

abbrev hbmTy (i : Nat) : BufTy := match i / 128 with
  | 0 => hbmTy0_0 i
  | 1 => hbmTy0_1 i
  | _ => ⟨S8x2048x2560, .f32⟩

abbrev bufTy : (tb : Table) → Fin (tcTables nBuf tb) → BufTy
  | .hbm, ⟨i, _⟩ => hbmTy i
  | _, _ => ⟨S8x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_c_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v10 : Ref sig .tc := ⟨.hbm, 32, rfl⟩
abbrev main_v11 : Ref sig .tc := ⟨.hbm, 33, rfl⟩
abbrev main_c_5 : Ref sig .tc := ⟨.hbm, 34, rfl⟩
abbrev main_v12 : Ref sig .tc := ⟨.hbm, 35, rfl⟩
abbrev main_v13 : Ref sig .tc := ⟨.hbm, 36, rfl⟩
abbrev main_c_6 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_7 : Ref sig .tc := ⟨.hbm, 43, rfl⟩
abbrev main_v19 : Ref sig .tc := ⟨.hbm, 44, rfl⟩
abbrev main_v20 : Ref sig .tc := ⟨.hbm, 45, rfl⟩
abbrev main_c_8 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_9 : Ref sig .tc := ⟨.hbm, 60, rfl⟩
abbrev main_v34 : Ref sig .tc := ⟨.hbm, 61, rfl⟩
abbrev main_v35 : Ref sig .tc := ⟨.hbm, 62, rfl⟩
abbrev main_c_10 : Ref sig .tc := ⟨.hbm, 63, rfl⟩
abbrev main_c_11 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v36 : Ref sig .tc := ⟨.hbm, 70, rfl⟩
abbrev main_c_12 : Ref sig .tc := ⟨.hbm, 71, rfl⟩
abbrev main_v37 : Ref sig .tc := ⟨.hbm, 72, rfl⟩
abbrev main_v38 : Ref sig .tc := ⟨.hbm, 73, rfl⟩
abbrev main_c_13 : Ref sig .tc := ⟨.hbm, 74, rfl⟩
abbrev main_c_14 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_v39 : Ref sig .tc := ⟨.hbm, 81, rfl⟩
abbrev main_v40 : Ref sig .tc := ⟨.hbm, 82, rfl⟩
abbrev main_c_15 : Ref sig .tc := ⟨.hbm, 83, rfl⟩
abbrev main_v41 : Ref sig .tc := ⟨.hbm, 84, rfl⟩
abbrev main_v42 : Ref sig .tc := ⟨.hbm, 85, rfl⟩
abbrev main_c_16 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_c_17 : Ref sig .tc := ⟨.hbm, 92, rfl⟩
abbrev main_v48 : Ref sig .tc := ⟨.hbm, 93, rfl⟩
abbrev main_v49 : Ref sig .tc := ⟨.hbm, 94, rfl⟩
abbrev main_c_18 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_c_19 : Ref sig .tc := ⟨.hbm, 109, rfl⟩
abbrev main_v63 : Ref sig .tc := ⟨.hbm, 110, rfl⟩
abbrev main_v64 : Ref sig .tc := ⟨.hbm, 111, rfl⟩
abbrev main_c_20 : Ref sig .tc := ⟨.hbm, 112, rfl⟩
abbrev main_c_21 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_v65 : Ref sig .tc := ⟨.hbm, 119, rfl⟩
abbrev main_c_22 : Ref sig .tc := ⟨.hbm, 120, rfl⟩
abbrev main_v66 : Ref sig .tc := ⟨.hbm, 121, rfl⟩
abbrev main_v67 : Ref sig .tc := ⟨.hbm, 122, rfl⟩
abbrev main_c_23 : Ref sig .tc := ⟨.hbm, 123, rfl⟩
abbrev main_c_24 : Ref sig .tc := ⟨.hbm, 124, rfl⟩
abbrev main_call6_v0 : Ref sig .tc := ⟨.hbm, 125, rfl⟩
abbrev main_call6_v1 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_v68 : Ref sig .tc := ⟨.hbm, 130, rfl⟩
abbrev main_v69 : Ref sig .tc := ⟨.hbm, 131, rfl⟩
abbrev main_c_25 : Ref sig .tc := ⟨.hbm, 132, rfl⟩
abbrev main_v70 : Ref sig .tc := ⟨.hbm, 133, rfl⟩
abbrev main_v71 : Ref sig .tc := ⟨.hbm, 134, rfl⟩
abbrev main_c_26 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_c_27 : Ref sig .tc := ⟨.hbm, 141, rfl⟩
abbrev main_v77 : Ref sig .tc := ⟨.hbm, 142, rfl⟩
abbrev main_v78 : Ref sig .tc := ⟨.hbm, 143, rfl⟩
abbrev main_c_28 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_c_29 : Ref sig .tc := ⟨.hbm, 158, rfl⟩
abbrev main_v92 : Ref sig .tc := ⟨.hbm, 159, rfl⟩
abbrev main_v93 : Ref sig .tc := ⟨.hbm, 160, rfl⟩
abbrev main_c_30 : Ref sig .tc := ⟨.hbm, 161, rfl⟩
abbrev main_c_31 : Ref sig .tc := ⟨.hbm, 162, rfl⟩
abbrev main_call7_v0 : Ref sig .tc := ⟨.hbm, 163, rfl⟩
abbrev main_call7_v1 : Ref sig .tc := ⟨.hbm, 164, rfl⟩
abbrev main_call7_v2 : Ref sig .tc := ⟨.hbm, 165, rfl⟩
abbrev main_call7_v3 : Ref sig .tc := ⟨.hbm, 166, rfl⟩
abbrev main_call7_v4 : Ref sig .tc := ⟨.hbm, 167, rfl⟩
abbrev main_v94 : Ref sig .tc := ⟨.hbm, 168, rfl⟩
abbrev main_c_32 : Ref sig .tc := ⟨.hbm, 169, rfl⟩
abbrev main_v95 : Ref sig .tc := ⟨.hbm, 170, rfl⟩
abbrev main_v96 : Ref sig .tc := ⟨.hbm, 171, rfl⟩
abbrev main_c_33 : Ref sig .tc := ⟨.hbm, 172, rfl⟩
abbrev main_c_34 : Ref sig .tc := ⟨.hbm, 173, rfl⟩
abbrev main_call8_v0 : Ref sig .tc := ⟨.hbm, 174, rfl⟩
abbrev main_call8_v1 : Ref sig .tc := ⟨.hbm, 175, rfl⟩
abbrev main_call8_v2 : Ref sig .tc := ⟨.hbm, 176, rfl⟩
abbrev main_call8_v3 : Ref sig .tc := ⟨.hbm, 177, rfl⟩
abbrev main_call8_v4 : Ref sig .tc := ⟨.hbm, 178, rfl⟩
abbrev main_v97 : Ref sig .tc := ⟨.hbm, 179, rfl⟩
abbrev main_v98 : Ref sig .tc := ⟨.hbm, 180, rfl⟩
abbrev main_c_35 : Ref sig .tc := ⟨.hbm, 181, rfl⟩
abbrev main_v99 : Ref sig .tc := ⟨.hbm, 182, rfl⟩
abbrev main_v100 : Ref sig .tc := ⟨.hbm, 183, rfl⟩
abbrev main_c_36 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_c_37 : Ref sig .tc := ⟨.hbm, 190, rfl⟩
abbrev main_v106 : Ref sig .tc := ⟨.hbm, 191, rfl⟩
abbrev main_v107 : Ref sig .tc := ⟨.hbm, 192, rfl⟩
abbrev main_c_38 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩

abbrev nD : Nat := 1
abbrev τ : Topo := Topo.v7x

variable {F : FTy → Type} [FloatOps F]
-- ==== Prep.lean ====
abbrev S16384x2560 : Shape := ⟨2, ![16384, 2560]⟩
abbrev S2x128 : Shape := ⟨2, ![2, 128]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x64x2 : Shape := ⟨3, ![2048, 64, 2]⟩
abbrev S2048x128 : Shape := ⟨2, ![2048, 128]⟩
abbrev S128 : Shape := ⟨1, ![128]⟩
abbrev S1x128 : Shape := ⟨2, ![1, 128]⟩
abbrev S16384x1024 : Shape := ⟨2, ![16384, 1024]⟩
abbrev S8x256x2048 : Shape := ⟨3, ![8, 256, 2048]⟩
abbrev S16384x512 : Shape := ⟨2, ![16384, 512]⟩
abbrev S512x1024 : Shape := ⟨2, ![512, 1024]⟩
abbrev S512x256 : Shape := ⟨2, ![512, 256]⟩
abbrev S512x128 : Shape := ⟨2, ![512, 128]⟩
abbrev S1x256x512 : Shape := ⟨3, ![1, 256, 512]⟩
abbrev S512x512 : Shape := ⟨2, ![512, 512]⟩
abbrev S512 : Shape := ⟨1, ![512]⟩
abbrev S512x1 : Shape := ⟨2, ![512, 1]⟩
abbrev S128x512 : Shape := ⟨2, ![128, 512]⟩
abbrev S1x128x512 : Shape := ⟨3, ![1, 128, 512]⟩

abbrev nBuf : Space → Nat
  | .hbm => 115
  | .vmem => 18
  | .smem => 0
  | _ => 0

abbrev bufTy : (tb : Table) → Fin (tcTables nBuf tb) → BufTy
  | .hbm, ⟨0, _⟩ => ⟨S16384x2560, .f32⟩
  | .hbm, ⟨1, _⟩ => ⟨S2x128, .f32⟩
  | .hbm, ⟨2, _⟩ => ⟨S2x128, .f32⟩
  | .hbm, ⟨3, _⟩ => ⟨S2048, .i32⟩
  | .hbm, ⟨4, _⟩ => ⟨S_, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S_, .i1⟩
  | .hbm, ⟨39, _⟩ => ⟨S2048, .i1⟩
  | .hbm, ⟨40, _⟩ => ⟨S2048, .i1⟩
  | .hbm, ⟨41, _⟩ => ⟨S2048, .i1⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S2048x1, .f32⟩
  | .hbm, ⟨55, _⟩ => ⟨S1x32, .f32⟩
  | .hbm, ⟨56, _⟩ => ⟨S2048x32, .f32⟩
  | .hbm, ⟨57, _⟩ => ⟨S2048x32, .f32⟩
  | .hbm, ⟨58, _⟩ => ⟨S2048x32, .f32⟩
  | .hbm, ⟨59, _⟩ => ⟨S2048x1, .f32⟩
  | .hbm, ⟨60, _⟩ => ⟨S1x32, .f32⟩
  | .hbm, ⟨61, _⟩ => ⟨S2048x32, .f32⟩
  | .hbm, ⟨62, _⟩ => ⟨S2048x32, .f32⟩
  | .hbm, ⟨63, _⟩ => ⟨S2048x32, .f32⟩
  | .hbm, ⟨64, _⟩ => ⟨S2048x64, .f32⟩
  | .hbm, ⟨65, _⟩ => ⟨S2048x64, .f32⟩
  | .hbm, ⟨66, _⟩ => ⟨S2048x64x2, .f32⟩
  | .hbm, ⟨67, _⟩ => ⟨S2048x128, .f32⟩
  | .hbm, ⟨68, _⟩ => ⟨S2048x64, .f32⟩
  | .hbm, ⟨69, _⟩ => ⟨S2048x64x2, .f32⟩
  | .hbm, ⟨70, _⟩ => ⟨S2048x128, .f32⟩
  | .hbm, ⟨71, _⟩ => ⟨S128, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S128, .i32⟩
  | .hbm, ⟨79, _⟩ => ⟨S128, .i32⟩
  | .hbm, ⟨80, _⟩ => ⟨S_, .i32⟩
  | .hbm, ⟨81, _⟩ => ⟨S128, .i32⟩
  | .hbm, ⟨82, _⟩ => ⟨S128, .i1⟩
  | .hbm, ⟨83, _⟩ => ⟨S_, .i32⟩
  | .hbm, ⟨84, _⟩ => ⟨S128, .i32⟩
  | .hbm, ⟨85, _⟩ => ⟨S128, .i1⟩
  | .hbm, ⟨86, _⟩ => ⟨S_, .i32⟩
  | .hbm, ⟨87, _⟩ => ⟨S_, .i1⟩
  | .hbm, ⟨88, _⟩ => ⟨S128, .i1⟩
  | .hbm, ⟨89, _⟩ => ⟨S128, .i1⟩
  | .hbm, ⟨90, _⟩ => ⟨S128, .i1⟩
  | .hbm, ⟨91, _⟩ => ⟨S128, .i32⟩
  | .hbm, ⟨92, _⟩ => ⟨S128, .i32⟩
  | .hbm, ⟨93, _⟩ => ⟨S128, .i32⟩
  | .hbm, ⟨94, _⟩ => ⟨S_, .i32⟩
  | .hbm, ⟨95, _⟩ => ⟨S128, .i32⟩
  | .hbm, ⟨96, _⟩ => ⟨S128, .i1⟩
  | .hbm, ⟨97, _⟩ => ⟨S_, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S128, .f32⟩
  | .hbm, ⟨103, _⟩ => ⟨S1x128, .f32⟩
  | .hbm, ⟨104, _⟩ => ⟨S2048x128, .f32⟩
  | .hbm, ⟨105, _⟩ => ⟨S2048x128, .f32⟩
  | .hbm, ⟨106, _⟩ => ⟨S1x128, .f32⟩
  | .hbm, ⟨107, _⟩ => ⟨S128, .f32⟩
  | .hbm, ⟨108, _⟩ => ⟨S1x128, .f32⟩
  | .hbm, ⟨109, _⟩ => ⟨S128, .f32⟩
  | .hbm, ⟨110, _⟩ => ⟨S1x128, .f32⟩
  | .hbm, ⟨111, _⟩ => ⟨S1x128, .f32⟩
  | .hbm, ⟨112, _⟩ => ⟨S16384x1024, .bf16⟩
  | .hbm, ⟨113, _⟩ => ⟨S8x256x2048, .bf16⟩
  | .hbm, ⟨114, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S1x256x512, .bf16⟩
  | .local _ .vmem, ⟨15, _⟩ => ⟨S1x256x512, .bf16⟩
  | .local _ .vmem, ⟨16, _⟩ => ⟨S512x512, .bf16⟩
  | .local _ .vmem, ⟨17, _⟩ => ⟨S512x512, .bf16⟩
  | _, _ => ⟨S16384x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst : Ref sig .tc := ⟨.hbm, 48, rfl⟩
abbrev main_v7 : Ref sig .tc := ⟨.hbm, 49, rfl⟩
abbrev main_v8 : Ref sig .tc := ⟨.hbm, 50, rfl⟩
abbrev main_cst_1 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_c_2 : Ref sig .tc := ⟨.hbm, 72, rfl⟩
abbrev main_call2_v0 : Ref sig .tc := ⟨.hbm, 73, rfl⟩
abbrev main_call2_c : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_c_1 : Ref sig .tc := ⟨.hbm, 80, rfl⟩
abbrev main_call2_v5 : Ref sig .tc := ⟨.hbm, 81, rfl⟩
abbrev main_call2_v6 : Ref sig .tc := ⟨.hbm, 82, rfl⟩
abbrev main_call2_c_2 : Ref sig .tc := ⟨.hbm, 83, rfl⟩
abbrev main_call2_v7 : Ref sig .tc := ⟨.hbm, 84, rfl⟩
abbrev main_call2_v8 : Ref sig .tc := ⟨.hbm, 85, rfl⟩
abbrev main_call2_c_3 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_v29 : Ref sig .tc := ⟨.hbm, 93, rfl⟩
abbrev main_c_3 : Ref sig .tc := ⟨.hbm, 94, rfl⟩
abbrev main_v30 : Ref sig .tc := ⟨.hbm, 95, rfl⟩
abbrev main_v31 : Ref sig .tc := ⟨.hbm, 96, rfl⟩
abbrev main_cst_4 : Ref sig .tc := ⟨.hbm, 97, rfl⟩
abbrev main_cst_5 : Ref sig .tc := ⟨.hbm, 98, rfl⟩
abbrev main_call3_v0 : Ref sig .tc := ⟨.hbm, 99, rfl⟩
abbrev main_call3_v1 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43_0 : Ref sig .tc := ⟨.hbm, 112, rfl⟩
abbrev main_v43_1 : Ref sig .tc := ⟨.hbm, 113, rfl⟩
abbrev main_v43_2 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PrepIdeal.lean ====
variable {F : FTy → Type} [FloatOps F] [Named F]
def κ : String → Option EReal := fun
  | "score_scale" => some (((Real.sqrt 128)⁻¹ * (Real.log 2)⁻¹ : ℝ) : EReal)
  | _ => none
-- ==== PrepRefIdeal.lean ====
abbrev S16384x2560 : Shape := ⟨2, ![16384, 2560]⟩
abbrev S2x128 : Shape := ⟨2, ![2, 128]⟩
abbrev S8x2048x2560 : Shape := ⟨3, ![8, 2048, 2560]⟩
abbrev S8x2048x1024 : Shape := ⟨3, ![8, 2048, 1024]⟩
abbrev S8x2048x256 : Shape := ⟨3, ![8, 2048, 256]⟩
abbrev S8x2048x8x128 : Shape := ⟨4, ![8, 2048, 8, 128]⟩
abbrev S1x128 : Shape := ⟨2, ![1, 128]⟩
abbrev S128 : Shape := ⟨1, ![128]⟩
abbrev S_ : Shape := ⟨0, ![]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S8x2048x8x64x2 : Shape := ⟨5, ![8, 2048, 8, 64, 2]⟩
abbrev S8x2048x8x64x1 : Shape := ⟨5, ![8, 2048, 8, 64, 1]⟩
abbrev S8x2048x8x64 : Shape := ⟨4, ![8, 2048, 8, 64]⟩
abbrev S8x2048x2x128 : Shape := ⟨4, ![8, 2048, 2, 128]⟩
abbrev S8x2048x2 : Shape := ⟨3, ![8, 2048, 2]⟩
abbrev S8x2048x2x1 : Shape := ⟨4, ![8, 2048, 2, 1]⟩
abbrev S8x2048x2x64x2 : Shape := ⟨5, ![8, 2048, 2, 64, 2]⟩
abbrev S8x2048x2x64x1 : Shape := ⟨5, ![8, 2048, 2, 64, 1]⟩
abbrev S8x2048x2x64 : Shape := ⟨4, ![8, 2048, 2, 64]⟩
abbrev S8x2x128x2048 : Shape := ⟨4, ![8, 2, 128, 2048]⟩
abbrev S8x256x2048 : Shape := ⟨3, ![8, 256, 2048]⟩
abbrev S8x2048x2x256 : Shape := ⟨4, ![8, 2048, 2, 256]⟩
abbrev S16384x512 : Shape := ⟨2, ![16384, 512]⟩
abbrev S16384x1024 : Shape := ⟨2, ![16384, 1024]⟩

abbrev nBuf : Space → Nat
  | .hbm => 236
  | .vmem => 0
  | .smem => 0
  | _ => 0

abbrev hbmTy0_0 (i : Nat) : BufTy := match i % 128 with
  | 0 => ⟨S16384x2560, .f32⟩
  | 1 => ⟨S2x128, .f32⟩
  | 2 => ⟨S2x128, .f32⟩
  | 3 => ⟨S8x2048x2560, .f32⟩
  | 4 => ⟨S8x2048x1024, .f32⟩
  | 5 => ⟨S8x2048x1024, .f32⟩
  | 6 => ⟨S8x2048x256, .f32⟩
  | 7 => ⟨S8x2048x256, .f32⟩
  | 8 => ⟨S8x2048x8x128, .f32⟩
  | 9 => ⟨S1x128, .f32⟩
  | 10 => ⟨S128, .f32⟩
  | 11 => ⟨S8x2048x8x128, .f32⟩
  | 12 => ⟨S_, .f32⟩
  | 13 => ⟨S8x2048x8, .f32⟩
  | 14 => ⟨S8x2048x8x1, .f32⟩
  | 15 => ⟨S_, .f32⟩
  | 16 => ⟨S8x2048x8x1, .f32⟩
  | 17 => ⟨S8x2048x8x1, .f32⟩
  | 18 => ⟨S_, .f32⟩
  | 19 => ⟨S8x2048x8x1, .f32⟩
  | 20 => ⟨S8x2048x8x1, .f32⟩
  | 21 => ⟨S8x2048x8x1, .f32⟩
  | 22 => ⟨S8x2048x8x128, .f32⟩
  | 23 => ⟨S8x2048x8x128, .f32⟩
  | 24 => ⟨S1x1x1x128, .f32⟩
  | 25 => ⟨S8x2048x8x128, .f32⟩
  | 26 => ⟨S8x2048x8x128, .f32⟩
  | 27 => ⟨S2048, .i32⟩
  | 28 => ⟨S_, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048, .i32⟩
  | 37 => ⟨S2048, .i32⟩
  | 38 => ⟨S_, .i32⟩
  | 39 => ⟨S2048, .i32⟩
  | 40 => ⟨S2048, .i1⟩
  | 41 => ⟨S2048, .i1⟩
  | 42 => ⟨S_, .i32⟩
  | 43 => ⟨S2048, .i32⟩
  | 44 => ⟨S2048, .i32⟩
  | 45 => ⟨S2048, .i32⟩
  | 46 => ⟨S2048, .f32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S2048, .i32⟩
  | 54 => ⟨S2048, .i32⟩
  | 55 => ⟨S_, .i32⟩
  | 56 => ⟨S2048, .i32⟩
  | 57 => ⟨S2048, .i1⟩
  | 58 => ⟨S_, .i32⟩
  | 59 => ⟨S2048, .i32⟩
  | 60 => ⟨S2048, .i1⟩
  | 61 => ⟨S_, .i32⟩
  | 62 => ⟨S_, .i1⟩
  | 63 => ⟨S2048, .i1⟩
  | 64 => ⟨S2048, .i1⟩
  | 65 => ⟨S2048, .i1⟩
  | 66 => ⟨S2048, .i32⟩
  | 67 => ⟨S2048, .i32⟩
  | 68 => ⟨S2048, .i32⟩
  | 69 => ⟨S2048, .f32⟩
  | 70 => ⟨S32, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S2048x1, .f32⟩
  | 79 => ⟨S1x32, .f32⟩
  | 80 => ⟨S2048x32, .f32⟩
  | 81 => ⟨S2048x32, .f32⟩
  | 82 => ⟨S2048x32, .f32⟩
  | 83 => ⟨S2048x1, .f32⟩
  | 84 => ⟨S1x32, .f32⟩
  | 85 => ⟨S2048x32, .f32⟩
  | 86 => ⟨S2048x32, .f32⟩
  | 87 => ⟨S2048x32, .f32⟩
  | 88 => ⟨S2048x64, .f32⟩
  | 89 => ⟨S2048x64, .f32⟩
  | 90 => ⟨S1x2048x1x64, .f32⟩
  | 91 => ⟨S2048x64, .f32⟩
  | 92 => ⟨S1x2048x1x64, .f32⟩
  | 93 => ⟨S8x2048x8x64x2, .f32⟩
  | 94 => ⟨S8x2048x8x64x1, .f32⟩
  | 95 => ⟨S8x2048x8x64, .f32⟩
  | 96 => ⟨S8x2048x8x64x1, .f32⟩
  | 97 => ⟨S8x2048x8x64, .f32⟩
  | 98 => ⟨S8x2048x8x64, .f32⟩
  | 99 => ⟨S8x2048x8x64, .f32⟩
  | 100 => ⟨S8x2048x8x64, .f32⟩
  | 101 => ⟨S8x2048x8x64, .f32⟩
  | 102 => ⟨S8x2048x8x64, .f32⟩
  | 103 => ⟨S8x2048x8x64, .f32⟩
  | 104 => ⟨S8x2048x8x64, .f32⟩
  | 105 => ⟨S8x2048x8x64, .f32⟩
  | 106 => ⟨S8x2048x8x64, .f32⟩
  | 107 => ⟨S8x2048x8x64, .f32⟩
  | 108 => ⟨S8x2048x8x64x1, .f32⟩
  | 109 => ⟨S8x2048x8x64x1, .f32⟩
  | 110 => ⟨S8x2048x8x64x2, .f32⟩
  | 111 => ⟨S8x2048x8x128, .f32⟩
  | 112 => ⟨S8x2048x2x128, .f32⟩
  | 113 => ⟨S1x128, .f32⟩
  | 114 => ⟨S128, .f32⟩
  | 115 => ⟨S8x2048x2x128, .f32⟩
  | 116 => ⟨S_, .f32⟩
  | 117 => ⟨S8x2048x2, .f32⟩
  | 118 => ⟨S8x2048x2x1, .f32⟩
  | 119 => ⟨S_, .f32⟩
  | 120 => ⟨S8x2048x2x1, .f32⟩
  | 121 => ⟨S8x2048x2x1, .f32⟩
  | 122 => ⟨S_, .f32⟩
  | 123 => ⟨S8x2048x2x1, .f32⟩
  | 124 => ⟨S8x2048x2x1, .f32⟩
  | 125 => ⟨S8x2048x2x1, .f32⟩
  | 126 => ⟨S8x2048x2x128, .f32⟩
  | 127 => ⟨S8x2048x2x128, .f32⟩
  | _ => ⟨S16384x2560, .f32⟩

abbrev hbmTy0_1 (i : Nat) : BufTy := match i % 128 with
  | 0 => ⟨S1x1x1x128, .f32⟩
  | 1 => ⟨S8x2048x2x128, .f32⟩
  | 2 => ⟨S8x2048x2x128, .f32⟩
  | 3 => ⟨S2048, .i32⟩
  | 4 => ⟨S_, .i32⟩
  | 5 => ⟨S_, .i32⟩
  | 6 => ⟨S2048, .i32⟩
  | 7 => ⟨S2048, .i32⟩
  | 8 => ⟨S2048, .i32⟩
  | 9 => ⟨S_, .i32⟩
  | 10 => ⟨S2048, .i32⟩
  | 11 => ⟨S2048, .i1⟩
  | 12 => ⟨S2048, .i32⟩
  | 13 => ⟨S2048, .i32⟩
  | 14 => ⟨S_, .i32⟩
  | 15 => ⟨S2048, .i32⟩
  | 16 => ⟨S2048, .i1⟩
  | 17 => ⟨S2048, .i1⟩
  | 18 => ⟨S_, .i32⟩
  | 19 => ⟨S2048, .i32⟩
  | 20 => ⟨S2048, .i32⟩
  | 21 => ⟨S2048, .i32⟩
  | 22 => ⟨S2048, .f32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S2048, .i32⟩
  | 30 => ⟨S2048, .i32⟩
  | 31 => ⟨S_, .i32⟩
  | 32 => ⟨S2048, .i32⟩
  | 33 => ⟨S2048, .i1⟩
  | 34 => ⟨S_, .i32⟩
  | 35 => ⟨S2048, .i32⟩
  | 36 => ⟨S2048, .i1⟩
  | 37 => ⟨S_, .i32⟩
  | 38 => ⟨S_, .i1⟩
  | 39 => ⟨S2048, .i1⟩
  | 40 => ⟨S2048, .i1⟩
  | 41 => ⟨S2048, .i1⟩
  | 42 => ⟨S2048, .i32⟩
  | 43 => ⟨S2048, .i32⟩
  | 44 => ⟨S2048, .i32⟩
  | 45 => ⟨S2048, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S2048x1, .f32⟩
  | 55 => ⟨S1x32, .f32⟩
  | 56 => ⟨S2048x32, .f32⟩
  | 57 => ⟨S2048x32, .f32⟩
  | 58 => ⟨S2048x32, .f32⟩
  | 59 => ⟨S2048x1, .f32⟩
  | 60 => ⟨S1x32, .f32⟩
  | 61 => ⟨S2048x32, .f32⟩
  | 62 => ⟨S2048x32, .f32⟩
  | 63 => ⟨S2048x32, .f32⟩
  | 64 => ⟨S2048x64, .f32⟩
  | 65 => ⟨S2048x64, .f32⟩
  | 66 => ⟨S1x2048x1x64, .f32⟩
  | 67 => ⟨S2048x64, .f32⟩
  | 68 => ⟨S1x2048x1x64, .f32⟩
  | 69 => ⟨S8x2048x2x64x2, .f32⟩
  | 70 => ⟨S8x2048x2x64x1, .f32⟩
  | 71 => ⟨S8x2048x2x64, .f32⟩
  | 72 => ⟨S8x2048x2x64x1, .f32⟩
  | 73 => ⟨S8x2048x2x64, .f32⟩
  | 74 => ⟨S8x2048x2x64, .f32⟩
  | 75 => ⟨S8x2048x2x64, .f32⟩
  | 76 => ⟨S8x2048x2x64, .f32⟩
  | 77 => ⟨S8x2048x2x64, .f32⟩
  | 78 => ⟨S8x2048x2x64, .f32⟩
  | 79 => ⟨S8x2048x2x64, .f32⟩
  | 80 => ⟨S8x2048x2x64, .f32⟩
  | 81 => ⟨S8x2048x2x64, .f32⟩
  | 82 => ⟨S8x2048x2x64, .f32⟩
  | 83 => ⟨S8x2048x2x64, .f32⟩
  | 84 => ⟨S8x2048x2x64x1, .f32⟩
  | 85 => ⟨S8x2048x2x64x1, .f32⟩
  | 86 => ⟨S8x2048x2x64x2, .f32⟩
  | 87 => ⟨S8x2048x2x128, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S8x2048x8x128, .f32⟩
  | 96 => ⟨S8x2048x8x128, .f32⟩
  | 97 => ⟨S8x2x128x2048, .f32⟩
  | 98 => ⟨S8x256x2048, .f32⟩
  | 99 => ⟨S8x2048x2x128, .f32⟩
  | 100 => ⟨S_, .f32⟩
  | 101 => ⟨S8x2048x2x128, .f32⟩
  | 102 => ⟨S8x2048x2x256, .f32⟩
  | 103 => ⟨S16384x512, .f32⟩
  | 104 => ⟨S16384x1024, .f32⟩
  | 105 => ⟨S16384x1024, .bf16⟩
  | 106 => ⟨S8x256x2048, .bf16⟩
  | 107 => ⟨S16384x512, .bf16⟩
  | _ => ⟨S16384x2560, .f32⟩

abbrev hbmTy (i : Nat) : BufTy := match i / 128 with
  | 0 => hbmTy0_0 i
  | 1 => hbmTy0_1 i
  | _ => ⟨S16384x2560, .f32⟩

abbrev bufTy : (tb : Table) → Fin (tcTables nBuf tb) → BufTy
  | .hbm, ⟨i, _⟩ => hbmTy i
  | _, _ => ⟨S16384x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v22 : Ref sig .tc := ⟨.hbm, 45, rfl⟩
abbrev main_v23 : Ref sig .tc := ⟨.hbm, 46, rfl⟩
abbrev main_c_2 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_1 : Ref sig .tc := ⟨.hbm, 55, rfl⟩
abbrev main_call1_v5 : Ref sig .tc := ⟨.hbm, 56, rfl⟩
abbrev main_call1_v6 : Ref sig .tc := ⟨.hbm, 57, rfl⟩
abbrev main_call1_c_2 : Ref sig .tc := ⟨.hbm, 58, rfl⟩
abbrev main_call1_v7 : Ref sig .tc := ⟨.hbm, 59, rfl⟩
abbrev main_call1_v8 : Ref sig .tc := ⟨.hbm, 60, rfl⟩
abbrev main_call1_c_3 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_3 : Ref sig .tc := ⟨.hbm, 72, rfl⟩
abbrev main_v28 : Ref sig .tc := ⟨.hbm, 73, rfl⟩
abbrev main_v29 : Ref sig .tc := ⟨.hbm, 74, rfl⟩
abbrev main_cst_4 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_5 : Ref sig .tc := ⟨.hbm, 116, rfl⟩
abbrev main_v70 : Ref sig .tc := ⟨.hbm, 117, rfl⟩
abbrev main_v71 : Ref sig .tc := ⟨.hbm, 118, rfl⟩
abbrev main_cst_6 : Ref sig .tc := ⟨.hbm, 119, rfl⟩
abbrev main_v72 : Ref sig .tc := ⟨.hbm, 120, rfl⟩
abbrev main_v73 : Ref sig .tc := ⟨.hbm, 121, rfl⟩
abbrev main_cst_7 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_c_8 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_call2_v5 : Ref sig .tc := ⟨.hbm, 138, rfl⟩
abbrev main_call2_v6 : Ref sig .tc := ⟨.hbm, 139, rfl⟩
abbrev main_call2_v7 : Ref sig .tc := ⟨.hbm, 140, rfl⟩
abbrev main_call2_v8 : Ref sig .tc := ⟨.hbm, 141, rfl⟩
abbrev main_call2_c : Ref sig .tc := ⟨.hbm, 142, rfl⟩
abbrev main_call2_v9 : Ref sig .tc := ⟨.hbm, 143, rfl⟩
abbrev main_call2_v10 : Ref sig .tc := ⟨.hbm, 144, rfl⟩
abbrev main_call2_v11 : Ref sig .tc := ⟨.hbm, 145, rfl⟩
abbrev main_call2_c_0 : Ref sig .tc := ⟨.hbm, 146, rfl⟩
abbrev main_call2_v12 : Ref sig .tc := ⟨.hbm, 147, rfl⟩
abbrev main_call2_v13 : Ref sig .tc := ⟨.hbm, 148, rfl⟩
abbrev main_v83 : Ref sig .tc := ⟨.hbm, 149, rfl⟩
abbrev main_v84 : Ref sig .tc := ⟨.hbm, 150, rfl⟩
abbrev main_c_9 : Ref sig .tc := ⟨.hbm, 151, rfl⟩
abbrev main_call3_v0 : Ref sig .tc := ⟨.hbm, 152, rfl⟩
abbrev main_call3_c : Ref sig .tc := ⟨.hbm, 153, rfl⟩
abbrev main_call3_v1 : Ref sig .tc := ⟨.hbm, 154, rfl⟩
abbrev main_call3_c_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_c_1 : Ref sig .tc := ⟨.hbm, 159, rfl⟩
abbrev main_call3_v5 : Ref sig .tc := ⟨.hbm, 160, rfl⟩
abbrev main_call3_v6 : Ref sig .tc := ⟨.hbm, 161, rfl⟩
abbrev main_call3_c_2 : Ref sig .tc := ⟨.hbm, 162, rfl⟩
abbrev main_call3_v7 : Ref sig .tc := ⟨.hbm, 163, rfl⟩
abbrev main_call3_v8 : Ref sig .tc := ⟨.hbm, 164, rfl⟩
abbrev main_call3_c_3 : Ref sig .tc := ⟨.hbm, 165, rfl⟩
abbrev main_call3_v9 : Ref sig .tc := ⟨.hbm, 166, rfl⟩
abbrev main_call3_v10 : Ref sig .tc := ⟨.hbm, 167, rfl⟩
abbrev main_call3_v11 : Ref sig .tc := ⟨.hbm, 168, rfl⟩
abbrev main_call3_v12 : Ref sig .tc := ⟨.hbm, 169, rfl⟩
abbrev main_call3_v13 : Ref sig .tc := ⟨.hbm, 170, rfl⟩
abbrev main_call3_v14 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_cst_10 : Ref sig .tc := ⟨.hbm, 176, rfl⟩
abbrev main_v89 : Ref sig .tc := ⟨.hbm, 177, rfl⟩
abbrev main_v90 : Ref sig .tc := ⟨.hbm, 178, rfl⟩
abbrev main_cst_11 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_cst_12 : Ref sig .tc := ⟨.hbm, 216, rfl⟩
abbrev main_v127 : Ref sig .tc := ⟨.hbm, 217, rfl⟩
abbrev main_cst_13 : Ref sig .tc := ⟨.hbm, 218, rfl⟩
abbrev main_v128 : Ref sig .tc := ⟨.hbm, 219, rfl⟩
abbrev main_v129 : Ref sig .tc := ⟨.hbm, 220, rfl⟩
abbrev main_cst_14 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_cst_15 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩

abbrev nD : Nat := 1
abbrev τ : Topo := Topo.v7x

variable {F : FTy → Type} [FloatOps F]
-- ==== Proof.Numbers.lean ====
/- Facts about the extended reals that the value proofs use: when a number is a real one, a sum scaled by a
   positive real, a row's largest score, a softmax row with the division before or after the sum, and the two
   spellings of `x · σ(x)`. Nothing here mentions a program. -/
module

public import Idealize.ShloMosaic.Lib.Pointwise
public import Idealize.ShloMosaic.PureOps.Ideal

@[expose] public section

noncomputable section

namespace Cert.Numbers

open Idealize.ShloMosaic

/-- A number that is below `⊤` together with its negative is a real. -/
theorem real_of_abs_lt_top (a : EReal) (h : max a (-a) < ⊤) : ∃ r : ℝ, a = (r : EReal) := by
  induction a with
  | bot => simp at h
  | top => simp at h
  | coe r => exact ⟨r, rfl⟩

/-- A comparison word `|a| < ⊤` that reads 1 says that `a` is a real. -/
theorem real_of_cmp (a : EReal) (h : Ideal.cmp .olt (max a (-a)) ⊤ = 1#1) : ∃ r : ℝ, a = (r : EReal) := by
  refine real_of_abs_lt_top a ?_
  by_contra hn
  simp [Ideal.cmp, hn] at h

/-- A sum of reals, taken among the extended reals, is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A positive real factor goes under a sum, whatever the summands are. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The running maximum from `⊥` of reals that are all at most one of them is that one. -/
theorem fold_max_coe {n : ℕ} (f : Fin n → ℝ) (i : Fin n) (h : ∀ j, f j ≤ f i) :
    Finset.univ.fold max (⊥ : EReal) (fun j => (f j : EReal)) = (f i : EReal) := by
  refine le_antisymm (Finset.fold_max_le _ |>.2 ⟨bot_le, fun j _ => by exact_mod_cast h j⟩) ?_
  exact (Finset.le_fold_max _).2 (.inr ⟨i, Finset.mem_univ i, le_rfl⟩)

/-- `2` to the power of a difference of logarithms to base two is the exponential of the difference. -/
theorem exp2_div_log (x y : ℝ) :
    Ideal.exp2 (((x / Real.log 2 : ℝ) : EReal) - ((y / Real.log 2 : ℝ) : EReal)) = ((Real.exp (x - y) : ℝ) : EReal) := by
  rw [← EReal.coe_sub, Ideal.exp2_coe]
  congr 1
  show (2 : ℝ) ^ (x / Real.log 2 - y / Real.log 2) = _
  rw [Real.rpow_def_of_pos (by norm_num)]
  congr 1
  have : Real.log 2 ≠ 0 := (Real.log_pos (by norm_num)).ne'
  field_simp

/-- A SOFTMAX ROW, TWICE: weights to base two of scores scaled by `1 / log 2`, the weighted sum divided by the sum of
    the weights at the end, is the sum of the values weighted by the normalised exponentials. The scores are reals; the
    values are any extended reals. -/
theorem attend {n : ℕ} [NeZero n] (x : Fin n → ℝ) (v : Fin n → EReal) :
    Ideal.div
        (∑ s, Ideal.exp2 (((x s / Real.log 2 : ℝ) : EReal) - Finset.univ.fold max ⊥ fun s => ((x s / Real.log 2 : ℝ) : EReal)) * v s)
        (∑ s, Ideal.exp2 (((x s / Real.log 2 : ℝ) : EReal) - Finset.univ.fold max ⊥ fun s => ((x s / Real.log 2 : ℝ) : EReal)))
      = ∑ s, v s * Ideal.div (Ideal.exp ((x s : EReal) - max ⊥ (Finset.univ.fold max ⊥ fun s => (x s : EReal))))
          (∑ s, Ideal.exp ((x s : EReal) - max ⊥ (Finset.univ.fold max ⊥ fun s => (x s : EReal)))) := by
  obtain ⟨i, hi⟩ := Finite.exists_max x
  have hl : 0 < Real.log 2 := Real.log_pos (by norm_num)
  rw [fold_max_coe x i hi, fold_max_coe (fun s => x s / Real.log 2) i fun j => div_le_div_of_nonneg_right (hi j) hl.le]
  have he (s) : Ideal.exp ((x s : EReal) - max ⊥ (x i : EReal)) = ((Real.exp (x s - x i) : ℝ) : EReal) := by
    rw [max_eq_right bot_le, ← EReal.coe_sub, Ideal.exp_coe]
  simp only [exp2_div_log, he, coe_sum]
  have hp : 0 < ∑ s, Real.exp (x s - x i) := Finset.sum_pos (fun _ _ => Real.exp_pos _) Finset.univ_nonempty
  simp only [Ideal.div_coe hp.ne']
  rw [sum_mul_coe _ _ _ (by positivity)]
  exact Finset.sum_congr rfl fun s _ => by rw [mul_comm (v s), mul_assoc, mul_assoc, mul_comm (v s)]

/-- `x/2 + x/2 · tanh (x/2) = x · σ(x)` for a real `x`. -/
theorem half_tanh (x : ℝ) : x * (1 / 2) + x * (1 / 2) * Real.tanh (x * (1 / 2)) = x * (1 + Real.exp (-x))⁻¹ := by
  rw [Real.tanh_eq_sinh_div_cosh, Real.sinh_eq, Real.cosh_eq]
  have h : Real.exp (-x) = Real.exp (-(x * (1 / 2))) * Real.exp (-(x * (1 / 2))) := by rw [← Real.exp_add]; congr 1; ring
  have h1 : Real.exp (x * (1 / 2)) * Real.exp (-(x * (1 / 2))) = 1 := by rw [← Real.exp_add]; simp
  have ha := Real.exp_pos (x * (1 / 2))
  have hb := Real.exp_pos (-(x * (1 / 2)))
  rw [h]
  generalize Real.exp (x * (1 / 2)) = a at *
  generalize Real.exp (-(x * (1 / 2))) = b at *
  have : 0 < a + b := by positivity
  have : 0 < 1 + b * b := by positivity
  field_simp
  linear_combination 2 * b * x * h1

end Cert.Numbers

end
-- ==== Proof.GqaValue.lean ====
/- The attention call: what one grid point computes, and the array after the run as one function of the arguments. -/
module

public import proofs.«01_k».proof.Proof.Gen.GqaIdeal.Value
public import proofs.«01_k».proof.Proof.Numbers
public import Idealize.ShloMosaic.Lib.Pointwise
public import Idealize.ShloMosaic.Lib.Pipeline.ValueKit

@[expose] public section

set_option maxRecDepth 16384

noncomputable section

namespace Cert.GqaIdeal.Value

open Idealize.ShloMosaic Idealize.ShloMosaic.TcCoe Idealize.SL.Sem
open Idealize.ShloMosaic.Pipeline (Dat)
open Cert.GqaIdeal Cert.GqaIdeal.Gen

/-! ## One head's tile -/

/-- Attention of one row as the kernel computes it: weights to base two of the scores less their largest, the
    weighted sum over the sum of the weights. -/
def row (sc v w : Fin 2048 → EReal) : EReal :=
  Ideal.div (∑ s, Ideal.exp2 (sc s - Finset.univ.fold max (Ideal.ofBits .f32 0xFF800000#32) sc) * v s)
    (∑ s, Ideal.exp2 (sc s - Finset.univ.fold max (Ideal.ofBits .f32 0xFF800000#32) sc) * w s)

/-- A head's stored tile at a position: row `r` of the queries against all keys, lane `e` of the values over the
    lane of ones beside it. -/
theorem tile_at (q : Vec Ideal S1x1024x128 .bf16) (k : Vec Ideal S1x128x2048 .bf16) (v : Vec Ideal S1x2048x256 .bf16)
    (r : Fin 1024) (e : Fin 128) :
    k0_pay4 (F := Ideal) q k v (ix3 0 r e) = row (fun s => ∑ d : Fin 128, q (ix3 0 r d) * k (ix3 0 d s))
      (fun s => v (ix3 0 s ⟨e, by omega⟩)) (fun s => v (ix3 0 s ⟨128 + e, by omega⟩)) := by
  pointwise [k0_pay4, row, show ∀ x : EReal, FloatOps.exp2 (F := Ideal) (φ := .f32) x = Ideal.exp2 x from fun _ => rfl]

/-- The other three heads' tiles are the first head's function of their own columns of the queries. -/
theorem tile2 (q : Vec Ideal S1x1024x128 .bf16) (k : Vec Ideal S1x128x2048 .bf16) (v : Vec Ideal S1x2048x256 .bf16) :
    k0_pay6 (F := Ideal) (k0_pay3 q k) v = k0_pay4 q k v := rfl
theorem tile3 (q : Vec Ideal S1x1024x128 .bf16) (k : Vec Ideal S1x128x2048 .bf16) (v : Vec Ideal S1x2048x256 .bf16) :
    k0_pay1 (F := Ideal) (k0_pay8 (k0_pay5 q) k v) = k0_pay4 q k v := rfl
theorem tile4 (q : Vec Ideal S1x1024x128 .bf16) (k : Vec Ideal S1x128x2048 .bf16) (v : Vec Ideal S1x2048x256 .bf16) :
    k0_pay2 (F := Ideal) (k0_pay7 q k) v = k0_pay4 q k v := rfl

/-! ## The operands the launch finds -/

variable (m : (ℓ : Loc nD τ sig) → Buf (Elt Ideal) ℓ)

/-- The queries, keys and values the program is called with. -/
abbrev argQ (c : Dev nD) : FVec Ideal S8x2048x8x128 .f32 := m ((c : Thread nD τ).loc main_arg0)
abbrev argK (c : Dev nD) : FVec Ideal S8x2048x2x128 .f32 := m ((c : Thread nD τ).loc main_arg1)
abbrev argV (c : Dev nD) : FVec Ideal S8x2048x2x128 .f32 := m ((c : Thread nD τ).loc main_arg2)

/-- The factor on the queries: `1 / (√128 · log 2)`, computed on the host. -/
def scale : EReal := Ideal.div 1 (Ideal.sqrt (Ideal.ofBits .f32 0x43000000#32) * Ideal.log (Ideal.ofBits .f32 0x40000000#32))

/-- The queries as the launch finds them: scaled, the heads side by side. -/
theorem entry_q (c : Dev nD) (b : Fin 8) (t : Fin 2048) (h : Fin 8) (d : Fin 128) :
    (V m c main_v7 : FVec Ideal S8x2048x1024 .bf16) (ix3 b t ⟨h * 128 + d, by omega⟩) = argQ m c (ix4 b t h d) * scale := by
  entry_read
  pointwise [scale]

/-- The keys as the launch finds them: transposed, the two key heads one under the other. -/
theorem entry_k (c : Dev nD) (b : Fin 8) (n : Fin 2) (d : Fin 128) (s : Fin 2048) :
    (V m c main_v10 : FVec Ideal S8x256x2048 .bf16) (ix3 b ⟨n * 128 + d, by omega⟩ s) = argK m c (ix4 b s n d) := by
  entry_read
  pointwise
  have e0 : (⟨(n * 128 + d) / 128, by omega⟩ : Fin 2) = n := Fin.ext (by show (n * 128 + d : ℕ) / 128 = n; omega)
  have e1 : (⟨(n * 128 + d) % 128, by omega⟩ : Fin 128) = d := Fin.ext (by show (n * 128 + d : ℕ) % 128 = d; omega)
  rw [e0, e1]

/-- The values as the launch finds them, in the first half of each key head's 256 lanes. -/
theorem entry_v (c : Dev nD) (b : Fin 8) (s : Fin 2048) (n : Fin 2) (e : Fin 128) :
    (V m c main_v14 : FVec Ideal S8x2048x512 .bf16) (ix3 b s ⟨n * 256 + e, by omega⟩)
      = argV m c (ix4 b s n e) := by
  entry_read
  pointwise
  rw [dif_pos (by omega)]
  congr 2
  exact Fin.ext (by simp only; omega)

/-- The second half of each key head's lanes holds ones. -/
theorem entry_one (c : Dev nD) (b : Fin 8) (s : Fin 2048) (n : Fin 2) (e : Fin 128) :
    (V m c main_v14 : FVec Ideal S8x2048x512 .bf16) (ix3 b s ⟨n * 256 + (128 + e), by omega⟩) = (1 : EReal) := by
  entry_read
  pointwise
  rw [dif_neg (by omega)]

/-! ## The result array -/

theorem idx : ∀ t : Fin cfg0.N, win0_0.index t = ![t.val / 4, t.val % 2, t.val / 2 % 2]
    ∧ win0_1.index t = ![t.val / 4, t.val / 2 % 2, 0]
    ∧ win0_2.index t = ![t.val / 4, 0, t.val / 2 % 2]
    ∧ win0_3.index t = ![t.val / 4, t.val % 2, t.val / 2 % 2] :=
  (by decide +kernel : ∀ t : Fin grid0.N, _)

/-- The result as one function of the arguments: position `(b, t, j)` is lane `j % 128` of head `j / 128`. -/
def result (Q : FVec Ideal S8x2048x8x128 .f32) (K W : FVec Ideal S8x2048x2x128 .f32) : FVec Ideal S8x2048x1024 .bf16 :=
  fun i => row
    (fun s => ∑ d : Fin 128, Q (ix4 (i 0) (i 1) ⟨(i 2 : ℕ) / 128, Nat.div_lt_of_lt_mul (i 2).isLt⟩ d) * scale
      * K (ix4 (i 0) s ⟨(i 2 : ℕ) / 512, Nat.div_lt_of_lt_mul (i 2).isLt⟩ d))
    (fun s => W (ix4 (i 0) s ⟨(i 2 : ℕ) / 512, Nat.div_lt_of_lt_mul (i 2).isLt⟩ ⟨(i 2 : ℕ) % 128, Nat.mod_lt _ (by decide)⟩))
    (fun _ => 1)

/-- One stored tile is the result's at its place, once its three operands are read out of the arrays. -/
theorem piece (c : Dev nD) (b n rb g : ℕ) (hb : b < 8) (hn : n < 2) (hr : rb < 2) (hg : g < 4)
    (q : Vec Ideal S1x1024x128 .bf16) (k : Vec Ideal S1x128x2048 .bf16) (v : Vec Ideal S1x2048x256 .bf16)
    (hq : ∀ (r : Fin 1024) (d : Fin 128), q (ix3 0 r d) = (V m c main_v7 : FVec Ideal S8x2048x1024 .bf16)
      (ix3 ⟨b, hb⟩ ⟨rb * 1024 + r, by omega⟩ ⟨(n * 4 + g) * 128 + d, by omega⟩))
    (hk : ∀ (d : Fin 128) (s : Fin 2048), k (ix3 0 d s) = (V m c main_v10 : FVec Ideal S8x256x2048 .bf16)
      (ix3 ⟨b, hb⟩ ⟨n * 128 + d, by omega⟩ s))
    (hv : ∀ (s : Fin 2048) (j : Fin 256), v (ix3 0 s j) = (V m c main_v14 : FVec Ideal S8x2048x512 .bf16)
      (ix3 ⟨b, hb⟩ s ⟨n * 256 + j, by omega⟩))
    (r : Fin 1024) (e : Fin 128) (i : S8x2048x1024.Idx) (h0 : (i 0 : ℕ) = b) (h1 : (i 1 : ℕ) = rb * 1024 + r)
    (h2 : (i 2 : ℕ) = n * 512 + g * 128 + e) :
    k0_pay4 (F := Ideal) q k v (ix3 0 r e)
      = result (argQ m c) (argK m c) (argV m c) i := by
  rw [tile_at]
  unfold result
  have e0 : i 0 = ⟨b, hb⟩ := Fin.ext h0
  have e1 : i 1 = ⟨rb * 1024 + r, by omega⟩ := Fin.ext h1
  have e2 : i 2 = ⟨n * 512 + g * 128 + e, by omega⟩ := Fin.ext h2
  have a1 : (n * 512 + g * 128 + e : ℕ) / 512 = n := by omega
  have a2 : (n * 512 + g * 128 + e : ℕ) % 128 = e := by omega
  have a3 : (n * 512 + g * 128 + e : ℕ) / 128 = n * 4 + g := by omega
  have fs : (fun s => ∑ d : Fin 128, q (ix3 0 r d) * k (ix3 0 d s))
      = fun s => ∑ d : Fin 128, argQ m c (ix4 ⟨b, hb⟩ ⟨rb * 1024 + r, by omega⟩ ⟨n * 4 + g, by omega⟩ d) * scale
        * argK m c (ix4 ⟨b, hb⟩ s ⟨n, hn⟩ d) := by
    funext s
    refine Finset.sum_congr rfl fun d _ => ?_
    rw [hq, hk]
    exact congrArg₂ _ (entry_q m c ⟨b, hb⟩ ⟨rb * 1024 + r, by omega⟩ ⟨n * 4 + g, by omega⟩ d) (entry_k m c ⟨b, hb⟩ ⟨n, hn⟩ d s)
  have fv : (fun s => v (ix3 0 s ⟨e, by omega⟩))
      = fun s => argV m c (ix4 ⟨b, hb⟩ s ⟨n, hn⟩ e) := by
    funext s
    rw [hv]
    exact entry_v m c ⟨b, hb⟩ s ⟨n, hn⟩ e
  have fw : (fun s => v (ix3 0 s ⟨128 + e, by omega⟩)) = fun _ => (1 : EReal) := by
    funext s
    rw [hv]
    exact entry_one m c ⟨b, hb⟩ s ⟨n, hn⟩ e
  rw [fs, fv, fw]
  simp only [e0, e1, e2, a1, a2, a3]
  rfl

/-- The three input blocks of a grid point, read out of any array. -/
theorem block_q (A : FVec Ideal S8x2048x1024 .bf16) (t : Fin cfg0.N) (ht : t.val < 32) (r : Fin 1024) (j : Fin 512) :
    ((cfg0.win 0).blk t).view.read (Elt Ideal) A (ix3 0 r j : S1x1024x512.Idx)
      = A (ix3 ⟨t / 4, by omega⟩ ⟨t % 2 * 1024 + r, by omega⟩ ⟨t / 2 % 2 * 512 + j, by omega⟩) := by
  blk_ext [idx t]
theorem block_k (A : FVec Ideal S8x256x2048 .bf16) (t : Fin cfg0.N) (ht : t.val < 32) (d : Fin 128) (s : Fin 2048) :
    ((cfg0.win 1).blk t).view.read (Elt Ideal) A (ix3 0 d s : S1x128x2048.Idx)
      = A (ix3 ⟨t / 4, by omega⟩ ⟨t / 2 % 2 * 128 + d, by omega⟩ s) := by
  blk_ext [idx t]
theorem block_v (A : FVec Ideal S8x2048x512 .bf16) (t : Fin cfg0.N) (ht : t.val < 32) (s : Fin 2048) (j : Fin 256) :
    ((cfg0.win 2).blk t).view.read (Elt Ideal) A (ix3 0 s j : S1x2048x256.Idx)
      = A (ix3 ⟨t / 4, by omega⟩ s ⟨t / 2 % 2 * 256 + j, by omega⟩) := by
  blk_ext [idx t]

/-- What a grid point stores is the result under its block. -/
theorem point (c : Dev nD) (t : Fin cfg0.N) (y : S1x1024x512.Idx) :
    out0_3 (F := Ideal) (iblk m c 0 t) (iblk m c 1 t) (iblk m c 2 t) y
      = result (argQ m c) (argK m c) (argV m c) (((cfg0.win 3).blk t).view.emb y) := by
  have ht : t.val < 32 := lt_of_lt_of_eq t.isLt N_0
  have bq : ∀ r j, (iblk m c 0 t : Vec Ideal S1x1024x512 .bf16) (ix3 0 r j) = _ := block_q (V m c main_v7) t ht
  have bk : ∀ d s, (iblk m c 1 t : Vec Ideal S1x128x2048 .bf16) (ix3 0 d s) = _ := block_k (V m c main_v10) t ht
  have bv : ∀ s j, (iblk m c 2 t : Vec Ideal S1x2048x256 .bf16) (ix3 0 s j) = _ := block_v (V m c main_v14) t ht
  have i0 : ((((cfg0.win 3).blk t).view.emb y 0 : Fin _) : ℕ) = t / 4 + (y 0 : ℕ) := by blk_simp [idx t]
  have i1 : ((((cfg0.win 3).blk t).view.emb y 1 : Fin _) : ℕ) = t % 2 * 1024 + (y 1 : ℕ) := by blk_simp [idx t]
  have i2 : ((((cfg0.win 3).blk t).view.emb y 2 : Fin _) : ℕ) = t / 2 % 2 * 512 + (y 2 : ℕ) := by blk_simp [idx t]
  generalize ((cfg0.win 3).blk t).view.emb y = i at i0 i1 i2 ⊢
  generalize (iblk m c 0 t : Vec Ideal S1x1024x512 .bf16) = q at bq ⊢
  generalize (iblk m c 1 t : Vec Ideal S1x128x2048 .bf16) = k at bk ⊢
  generalize (iblk m c 2 t : Vec Ideal S1x2048x256 .bf16) = v at bv ⊢
  canon_tiles x h
  case piece0 =>
    obtain ⟨r, e, rfl⟩ : ∃ r e, x = ix3 0 r e := ⟨x 1, x 2, by idx_vars x; obtain rfl : x0 = 0 := Subsingleton.elim _ _; rfl⟩
    rw [tile4]
    refine piece m c (t / 4) (t / 2 % 2) (t % 2) 3 (by omega) (by omega) (by omega) (by omega) _ _ _ ?_ ?_ ?_ r e _ ?_ ?_ ?_
    · intro r d
      pointwise
      exact (bq _ _).trans (congrArg (fun j => V m c main_v7 (ix3 _ _ j)) (Fin.ext (by show t.val / 2 % 2 * 512 + (384 + (d : ℕ)) = (t.val / 2 % 2 * 4 + 3) * 128 + d; omega)))
    · intro r d; pointwise; exact bk _ _
    · intro r d; pointwise; exact bv _ _
    · rw [i0, h0]; rfl
    · rw [i1, h1]; rfl
    · rw [i2, h2]; show t.val / 2 % 2 * 512 + (384 + (e : ℕ)) = t.val / 2 % 2 * 512 + 3 * 128 + e; omega
  case piece1 =>
    obtain ⟨r, e, rfl⟩ : ∃ r e, x = ix3 0 r e := ⟨x 1, x 2, by idx_vars x; obtain rfl : x0 = 0 := Subsingleton.elim _ _; rfl⟩
    rw [tile3]
    refine piece m c (t / 4) (t / 2 % 2) (t % 2) 2 (by omega) (by omega) (by omega) (by omega) _ _ _ ?_ ?_ ?_ r e _ ?_ ?_ ?_
    · intro r d
      pointwise
      exact (bq _ _).trans (congrArg (fun j => V m c main_v7 (ix3 _ _ j)) (Fin.ext (by show t.val / 2 % 2 * 512 + (256 + (d : ℕ)) = (t.val / 2 % 2 * 4 + 2) * 128 + d; omega)))
    · intro r d; pointwise; exact bk _ _
    · intro r d; pointwise; exact bv _ _
    · rw [i0, h0]; rfl
    · rw [i1, h1]; rfl
    · rw [i2, h2]; show t.val / 2 % 2 * 512 + (256 + (e : ℕ)) = t.val / 2 % 2 * 512 + 2 * 128 + e; omega
  case piece2 =>
    obtain ⟨r, e, rfl⟩ : ∃ r e, x = ix3 0 r e := ⟨x 1, x 2, by idx_vars x; obtain rfl : x0 = 0 := Subsingleton.elim _ _; rfl⟩
    rw [tile2]
    refine piece m c (t / 4) (t / 2 % 2) (t % 2) 1 (by omega) (by omega) (by omega) (by omega) _ _ _ ?_ ?_ ?_ r e _ ?_ ?_ ?_
    · intro r d
      pointwise
      exact (bq _ _).trans (congrArg (fun j => V m c main_v7 (ix3 _ _ j)) (Fin.ext (by show t.val / 2 % 2 * 512 + (128 + (d : ℕ)) = (t.val / 2 % 2 * 4 + 1) * 128 + d; omega)))
    · intro r d; pointwise; exact bk _ _
    · intro r d; pointwise; exact bv _ _
    · rw [i0, h0]; rfl
    · rw [i1, h1]; rfl
    · rw [i2, h2]; show t.val / 2 % 2 * 512 + (128 + (e : ℕ)) = t.val / 2 % 2 * 512 + 1 * 128 + e; omega
  case piece3 =>
    obtain ⟨r, e, rfl⟩ : ∃ r e, x = ix3 0 r e := ⟨x 1, x 2, by idx_vars x; obtain rfl : x0 = 0 := Subsingleton.elim _ _; rfl⟩
    refine piece m c (t / 4) (t / 2 % 2) (t % 2) 0 (by omega) (by omega) (by omega) (by omega) _ _ _ ?_ ?_ ?_ r e _ ?_ ?_ ?_
    · intro r d
      pointwise
      exact (bq _ _).trans (congrArg (fun j => V m c main_v7 (ix3 _ _ j)) (Fin.ext (by show t.val / 2 % 2 * 512 + (d : ℕ) = (t.val / 2 % 2 * 4 + 0) * 128 + d; omega)))
    · intro r d; pointwise; exact bk _ _
    · intro r d; pointwise; exact bv _ _
    · rw [i0, h0]; rfl
    · rw [i1, h1]; rfl
    · rw [i2, h2]; show t.val / 2 % 2 * 512 + (e : ℕ) = t.val / 2 % 2 * 512 + 0 * 128 + e; omega

/-- The result array after the run. -/
theorem final (c : Dev nD) : (dats m 0 c).arrAt 3 (cfgs 0).N = result (argQ m c) (argK m c) (argV m c) := by
  refine (dats m 0 c).arrAt_eq_of_covers 3 _ (by decide +kernel) fun t _ y => ?_
  blk_simp
  rw [after0_3]
  exact point m c t y

end Cert.GqaIdeal.Value
end
-- ==== Proof.GqaRef.lean ====
/- The attention call's reference, read at one position: its scores are one sum over the head's lanes, its weights
   the exponentials of the scores less the row's largest, its result the normalised weights times the values. -/
module

public import proofs.«01_k».proof.Proof.Gen.GqaRefIdeal.Run
public import proofs.«01_k».proof.Proof.Numbers
public import Idealize.ShloMosaic.Lib.Pointwise
public import Idealize.ShloMosaic.Lib.Pipeline.ValueKit

@[expose] public section

set_option maxRecDepth 16384

noncomputable section

namespace Cert.GqaRefIdeal.Value

open Idealize.ShloMosaic Idealize.ShloMosaic.TcCoe Idealize.SL.Sem
open Cert.GqaRefIdeal Cert.GqaRefIdeal.Gen

/-- The scores of every query head against every key. -/
def scores (q : FVec Ideal S8x2048x8x128 .f32) (k : FVec Ideal S8x2048x2x128 .f32) : FVec Ideal S8x2x4x2048x2048 .f32 :=
  transpose S8x2x4x2048x2048 [0, 1, 4, 3, 2] (Host.dotGeneral dot_S8x2048x2x128_S8x2048x2x4x128_S8x2x2048x2048x4_3_4_1_13_02_02 none k (shapeCast _ (mulf q (broadcastInDim S8x2048x8x128 ![] bcast_S_S8x2048x8x128 (Host.divf (constant S_ .f32 0x3F800000#32) (Host.sqrt (constant S_ .f32 0x43000000#32))))) shapeCasts_S8x2048x8x128_S8x2048x2x4x128)) transposes_S8x2x2048x2048x4_S8x2x4x2048x2048_0_1_4_3_2

/-- The largest score of every row. -/
def rowMax (S : FVec Ideal S8x2x4x2048x2048 .f32) : FVec Ideal S8x2x4x2048 .f32 :=
  Host.reduce FloatOps.maximumf S (constant S_ .f32 0xFF800000#32) reducesTo_S8x2x4x2048x2048_S8x2x4x2048_d4 h_S_

/-- The exponentials of scores less a bound of their row. -/
def weights (S : FVec Ideal S8x2x4x2048x2048 .f32) (R : FVec Ideal S8x2x4x2048 .f32) : FVec Ideal S8x2x4x2048x2048 .f32 :=
  Host.exp (subf S (broadcastInDim S8x2x4x2048x2048 ![0, 1, 2, 3, 4] bcast_S8x2x4x2048x1_S8x2x4x2048x2048_0_1_2_3_4 (broadcastInDim S8x2x4x2048x1 ![0, 1, 2, 3] bcast_S8x2x4x2048_S8x2x4x2048x1_0_1_2_3 (maximumf (broadcastInDim S8x2x4x2048 ![] bcast_S_S8x2x4x2048 (constant S_ .f32 0xFF800000#32)) R))))

/-- The values weighted by the normalised weights, heads side by side. -/
def mixed (E : FVec Ideal S8x2x4x2048x2048 .f32) (v : FVec Ideal S8x2048x2x128 .f32) : FVec Ideal S8x2048x1024 .bf16 :=
  truncf .bf16 (shapeCast _ (transpose S8x2048x2x4x128 [0, 4, 1, 3, 2] (Host.dotGeneral dot_S8x2048x2x128_S8x2x4x2048x2048_S8x2x128x4x2048_1_4_3_23_02_01 none v (Host.divf E (broadcastInDim S8x2x4x2048x2048 ![0, 1, 2, 3, 4] bcast_S8x2x4x2048x1_S8x2x4x2048x2048_0_1_2_3_4 (broadcastInDim S8x2x4x2048x1 ![0, 1, 2, 3] bcast_S8x2x4x2048_S8x2x4x2048x1_0_1_2_3 (Host.reduceAdd E (constant S_ .f32 0x00000000#32) reducesTo_S8x2x4x2048x2048_S8x2x4x2048_d4 h_S_))))) transposes_S8x2x128x4x2048_S8x2048x2x4x128_0_4_1_3_2) shapeCasts_S8x2048x2x4x128_S8x2048x1024) bitsLt_bf16_f32

/-- The reference's result as a function of its arguments. -/
def REF (q : FVec Ideal S8x2048x8x128 .f32) (k v : FVec Ideal S8x2048x2x128 .f32) : FVec Ideal S8x2048x1024 .bf16 :=
  mixed (weights (scores q k) (rowMax (scores q k))) v

/-- One over the root of the head's width, as the reference computes it. -/
def scale : EReal := Ideal.div 1 (Ideal.sqrt (Ideal.ofBits .f32 0x43000000#32))

theorem scores_at (q : FVec Ideal S8x2048x8x128 .f32) (k : FVec Ideal S8x2048x2x128 .f32) (b : Fin 8) (n : Fin 2)
    (g : Fin 4) (t s : Fin 2048) :
    scores q k (ix5 b n g t s) = ∑ d : Fin 128, k (ix4 b s n d) * (q (ix4 b t ⟨n * 4 + g, by omega⟩ d) * scale) := by
  pointwise [scores, scale]

theorem rowMax_at (S : FVec Ideal S8x2x4x2048x2048 .f32) (b : Fin 8) (n : Fin 2) (g : Fin 4) (t : Fin 2048) :
    rowMax S (ix4 b n g t) = Finset.univ.fold max (Ideal.ofBits .f32 0xFF800000#32) fun s : Fin 2048 => S (ix5 b n g t s) := by
  pointwise [rowMax]

theorem weights_at (S : FVec Ideal S8x2x4x2048x2048 .f32) (R : FVec Ideal S8x2x4x2048 .f32) (b : Fin 8) (n : Fin 2)
    (g : Fin 4) (t s : Fin 2048) :
    weights S R (ix5 b n g t s)
      = Ideal.exp (S (ix5 b n g t s) - max (Ideal.ofBits .f32 0xFF800000#32) (R (ix4 b n g t))) := by
  pointwise [weights]

theorem mixed_at (E : FVec Ideal S8x2x4x2048x2048 .f32) (v : FVec Ideal S8x2048x2x128 .f32) (b : Fin 8) (t : Fin 2048)
    (c : Fin 1024) :
    mixed E v (ix3 b t c) = ∑ s : Fin 2048, v (ix4 b s ⟨c / 512, by omega⟩ ⟨c % 128, by omega⟩)
      * Ideal.div (E (ix5 b ⟨c / 512, by omega⟩ ⟨c / 128 % 4, by omega⟩ t s))
          (∑ s : Fin 2048, E (ix5 b ⟨c / 512, by omega⟩ ⟨c / 128 % 4, by omega⟩ t s)) := by
  pointwise [mixed]

end Cert.GqaRefIdeal.Value
end
-- ==== Proof.GqaEq.lean ====
/- The attention call: on finite queries and keys the kernel's result is the reference's. -/
module

public import proofs.«01_k».proof.Proof.GqaValue
public import proofs.«01_k».proof.Proof.GqaRef
public import proofs.«01_k».proof.Proof.Gen.Pre_finite_qk
public import Idealize.ShloMosaic.Lib.ReduceAll

@[expose] public section

set_option maxRecDepth 16384

noncomputable section

namespace Cert.GqaEq

open Idealize.ShloMosaic
open Cert.Numbers

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]
theorem ofBits_128 : Ideal.ofBits .f32 0x43000000#32 = ((128 : ℝ) : EReal) := by
  simp [Ideal.ofBits, Ideal.ieee, ← EReal.coe_mul]
  norm_num
theorem ofBits_2 : Ideal.ofBits .f32 0x40000000#32 = ((2 : ℝ) : EReal) := by
  simp [Ideal.ofBits, Ideal.ieee, ← EReal.coe_mul]
  norm_num

theorem sqrt_128 : Ideal.sqrt (Ideal.ofBits .f32 0x43000000#32) = ((√128 : ℝ) : EReal) := by
  rw [ofBits_128, Ideal.sqrt_coe, if_neg (by norm_num)]

theorem refScale : Cert.GqaRefIdeal.Value.scale = ((1 / √128 : ℝ) : EReal) := by
  unfold Cert.GqaRefIdeal.Value.scale
  rw [sqrt_128, Ideal.div_coe (by positivity), one_mul]

theorem scale_eq : Cert.GqaIdeal.Value.scale = ((1 / (√128 * Real.log 2) : ℝ) : EReal) := by
  unfold Cert.GqaIdeal.Value.scale
  have h2 : Real.log 2 ≠ 0 := (Real.log_pos (by norm_num)).ne'
  rw [sqrt_128, ofBits_2, Ideal.log_coe, if_neg (by norm_num), ← EReal.coe_mul, Ideal.div_coe (by positivity), one_mul]

/-- Both programs' scores of one row are one list of reals, the kernel's divided by `log 2`. -/
theorem scores_real (q k : Fin 128 → ℝ) :
    (∑ d, (k d : EReal) * ((q d : EReal) * Cert.GqaRefIdeal.Value.scale) = ((∑ d, k d * (q d * (1 / √128)) : ℝ) : EReal))
    ∧ (∑ d, (q d : EReal) * Cert.GqaIdeal.Value.scale * (k d : EReal)
        = (((∑ d, k d * (q d * (1 / √128))) / Real.log 2 : ℝ) : EReal)) := by
  rw [refScale, scale_eq]
  refine ⟨?_, ?_⟩
  · simp only [← EReal.coe_mul]
    exact coe_sum _ _
  · simp only [← EReal.coe_mul]
    rw [coe_sum, Finset.sum_div]
    refine congrArg _ (Finset.sum_congr rfl fun d _ => ?_)
    have h2 : Real.log 2 ≠ 0 := (Real.log_pos (by norm_num)).ne'
    have h1 : √(128 : ℝ) ≠ 0 := by positivity
    field_simp

/-- The two programs' results agree when the queries and the keys are real numbers. -/
theorem result_eq (Q : FVec Ideal Cert.GqaIdeal.S8x2048x8x128 .f32) (K W : FVec Ideal Cert.GqaIdeal.S8x2048x2x128 .f32)
    (hQ : ∀ i, ∃ r : ℝ, Q i = (r : EReal)) (hK : ∀ i, ∃ r : ℝ, K i = (r : EReal)) :
    Cert.GqaIdeal.Value.result Q K W = Cert.GqaRefIdeal.Value.REF Q K W := by
  choose q hq using hQ
  choose k hk using hK
  funext i
  idx_vars i
  unfold Cert.GqaRefIdeal.Value.REF
  rw [Cert.GqaRefIdeal.Value.mixed_at]
  simp only [Cert.GqaRefIdeal.Value.weights_at, Cert.GqaRefIdeal.Value.rowMax_at, Cert.GqaRefIdeal.Value.scores_at]
  have hd : (⟨(i2 : ℕ) / 512 * 4 + (i2 : ℕ) / 128 % 4, by omega⟩ : Fin 8) = ⟨(i2 : ℕ) / 128, by omega⟩ :=
    Fin.ext (by show (i2 : ℕ) / 512 * 4 + (i2 : ℕ) / 128 % 4 = (i2 : ℕ) / 128; omega)
  simp only [hd, hq, hk, (scores_real _ _).1, ofBits_bot]
  refine Eq.trans ?_ (attend (fun s : Fin 2048 => ∑ d : Fin 128, k (ix4 i0 s ⟨(i2 : ℕ) / 512, by omega⟩ d)
      * (q (ix4 i0 i1 ⟨(i2 : ℕ) / 128, by omega⟩ d) * (1 / √128))) (fun s => W (ix4 i0 s ⟨(i2 : ℕ) / 512, by omega⟩ ⟨(i2 : ℕ) % 128, by omega⟩)))
  unfold Cert.GqaIdeal.Value.result Cert.GqaIdeal.Value.row
  simp only [hq, hk, (scores_real _ _).2, ofBits_bot, mul_one]
  rfl

/-- What the precondition says of every element. -/
theorem finite (Q : FVec Ideal Cert.GqaIdeal.S8x2048x8x128 .f32) (K W : FVec Ideal Cert.GqaIdeal.S8x2048x2x128 .f32)
    (h : Cert.Pre_finite_qk.fn (F := Ideal) Q K W = fun _ => 1#1) :
    (∀ i, ∃ r : ℝ, Q i = (r : EReal)) ∧ (∀ i, ∃ r : ℝ, K i = (r : EReal)) := by
  have h0 := congrFun h (fun a => a.elim0)
  unfold Cert.Pre_finite_qk.fn at h0
  haveI : Subsingleton Cert.Pre_finite_qk.S_.Idx := ⟨fun a b => funext fun i => i.elim0⟩
  obtain ⟨hq, hk⟩ := IntOp.andi_eq_one.1 h0
  refine ⟨fun i => real_of_cmp _ ?_, fun i => real_of_cmp _ ?_⟩
  · rw [← ofBits_top]
    exact Host.reduce_andi_all _ _ _ _ _ hq i
  · rw [← ofBits_top]
    exact Host.reduce_andi_all _ _ _ _ _ hk i

end Cert.GqaEq
end
-- ==== Proof.ClaimGqa.lean ====
/- The claims about the attention call: the reference leaves its arguments and no signal behind, and the kernel's result
   is the reference's. -/
module

public import proofs.«01_k».proof.Defs
public import proofs.«01_k».proof.Proof.GqaEq
public import proofs.«01_k».proof.Proof.Gen.Gqa.Frame
public import Idealize.ShloMosaic.Lib.Claim
public import Idealize.ShloMosaic.Lib.Quiescent

@[expose] public section

set_option maxRecDepth 16384

noncomputable section

namespace Cert.ClaimGqa

open Idealize.ShloMosaic Idealize.SL.Sem

theorem frame_ref : quiescent_GqaRefIdeal := fun m g _ =>
  (θ_run Cert.GqaRefIdeal.defs _ _).mono
    (fun r h => ⟨fun c => (h c).2, sem_eq_zero_of_no_sems (by decide) r.2⟩)
    (Cert.GqaRefIdeal.Value.run m g)

theorem algebraic : algebraic_GqaIdeal_GqaRefIdeal_pre_finite_qk := by
  pair_intro
  · run_from Cert.GqaIdeal.Gen.run_main m g
  · run_from Cert.GqaRefIdeal.Value.run m' g'
    obtain ⟨h₁, h₂⟩ := Cert.GqaEq.finite _ _ _ (hpre c)
    exact ((Cert.GqaIdeal.Value.final m c).trans (Cert.GqaEq.result_eq _ _ _ h₁ h₂)).symm

end Cert.ClaimGqa
end
-- ==== Proof.UpValue.lean ====
/- The gated product of the feed-forward layer: what one grid point computes, and the array after the run as one
   function of the arguments. -/
module

public import proofs.«01_k».proof.Proof.Gen.UpIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.UpIdeal.Value

open Idealize.ShloMosaic Idealize.ShloMosaic.TcCoe Idealize.SL.Sem
open Idealize.ShloMosaic.Pipeline (Dat)
open Cert.UpIdeal Cert.UpIdeal.Gen

/-- Half of a gate, as the kernel forms it. -/
def half (g : EReal) : EReal := Ideal.ofBits .f32 0x3F000000#32 * g

/-- One result of the kernel from its gate and its factor: `(g/2 + g/2 · tanh(g/2)) · u`. -/
def gated (g u : EReal) : EReal := (half g + half g * Ideal.tanh (half g)) * u

/-- A stored tile at a position. -/
theorem tile_at (x : Vec Ideal S1024x2048 .bf16) (wg wu : Vec Ideal S2048x512 .bf16) (r : Fin 1024) (e : Fin 512) :
    k0_pay3 (F := Ideal) x wg wu (ix2 r e)
      = gated (∑ d : Fin 2048, x (ix2 r d) * wg (ix2 d e)) (∑ d : Fin 2048, x (ix2 r d) * wu (ix2 d e)) := by
  pointwise [k0_pay3, gated, half]

theorem gate_at (w : Vec Ideal S1x2048x512 .f32) (d : Fin 2048) (e : Fin 512) :
    k0_pay1 (F := Ideal) w (ix2 d e) = w (ix3 0 d e) := by pointwise [k0_pay1]
theorem factor_at (w : Vec Ideal S1x2048x512 .f32) (d : Fin 2048) (e : Fin 512) :
    k0_pay2 (F := Ideal) w (ix2 d e) = w (ix3 0 d e) := by pointwise [k0_pay2]

variable (m : (ℓ : Loc nD τ sig) → Buf (Elt Ideal) ℓ)

/-- The layer's input and its two stacks of weights. -/
abbrev argX (c : Dev nD) : FVec Ideal S16384x2048 .f32 := m ((c : Thread nD τ).loc main_arg0)
abbrev argG (c : Dev nD) : FVec Ideal S4x2048x5632 .f32 := m ((c : Thread nD τ).loc main_arg1)
abbrev argU (c : Dev nD) : FVec Ideal S4x2048x5632 .f32 := m ((c : Thread nD τ).loc main_arg2)

theorem entry_x (c : Dev nD) (r : Fin 16384) (d : Fin 2048) :
    (V m c main_v0 : FVec Ideal S16384x2048 .bf16) (ix2 r d) = argX m c (ix2 r d) := by
  entry_read
  pointwise
theorem entry_g (c : Dev nD) : V m c main_arg1 = m ((c : Thread nD τ).loc main_arg1) := by entry_read; rfl
theorem entry_u (c : Dev nD) : V m c main_arg2 = m ((c : Thread nD τ).loc main_arg2) := by entry_read; rfl

theorem idx : ∀ t : Fin cfg0.N, win0_0.index t = ![t.val % 16, 0]
    ∧ win0_1.index t = ![3, 0, t.val / 16] ∧ win0_2.index t = ![3, 0, t.val / 16]
    ∧ win0_3.index t = ![t.val % 16, t.val / 16] :=
  (by decide +kernel : ∀ t : Fin grid0.N, _)

/-- The input blocks of a grid point, read out of any array. -/
theorem block_x (A : FVec Ideal S16384x2048 .bf16) (t : Fin cfg0.N) (ht : t.val < 176) (r : Fin 1024) (d : Fin 2048) :
    ((cfg0.win 0).blk t).view.read (Elt Ideal) A (ix2 r d : S1024x2048.Idx) = A (ix2 ⟨t % 16 * 1024 + r, by omega⟩ d) := by
  blk_ext [idx t]
theorem block_g (A : FVec Ideal S4x2048x5632 .f32) (t : Fin cfg0.N) (ht : t.val < 176) (d : Fin 2048) (e : Fin 512) :
    ((cfg0.win 1).blk t).view.read (Elt Ideal) A (ix3 0 d e : S1x2048x512.Idx) = A (ix3 3 d ⟨t / 16 * 512 + e, by omega⟩) := by
  blk_ext [idx t]
theorem block_u (A : FVec Ideal S4x2048x5632 .f32) (t : Fin cfg0.N) (ht : t.val < 176) (d : Fin 2048) (e : Fin 512) :
    ((cfg0.win 2).blk t).view.read (Elt Ideal) A (ix3 0 d e : S1x2048x512.Idx) = A (ix3 3 d ⟨t / 16 * 512 + e, by omega⟩) := by
  blk_ext [idx t]

/-- The last layer's weights in the columns of one grid column. -/
def columns (A : FVec Ideal S4x2048x5632 .f32) (j : Fin 11) : Vec Ideal S2048x512 .bf16 :=
  fun i => A (ix3 3 (i 0) ⟨j * 512 + (i 1 : ℕ), by have h : (i 1 : ℕ) < 512 := (i 1).isLt; omega⟩)

/-- What the first row of the grid lays down in the two buffers. -/
theorem laid (c : Dev nD) (t : Fin cfg0.N) (j : Fin 11) (hj : (j : ℕ) = t.val / 16) (h0 : t.val % 16 = 0) :
    (outsAt0 m c t.val t.isLt).2 = (columns (argG m c) j, columns (argU m c) j) := by
  have ht : t.val < 176 := lt_of_lt_of_eq t.isLt N_0
  obtain ⟨j, hlt⟩ := j
  obtain rfl : j = t.val / 16 := hj
  rw [outsAt0_A m c t h0]
  refine Prod.ext ?_ ?_
  · dsimp only
    frame_out
    funext i
    idx_vars i
    rw [gate_at]
    exact (block_g (V m c main_arg1) t ht _ _).trans (congrFun (entry_g m c) _)
  · dsimp only
    frame_out
    funext i
    idx_vars i
    rw [factor_at]
    exact (block_u (V m c main_arg2) t ht _ _).trans (congrFun (entry_u m c) _)

/-- The two buffers hold the point's columns of the weights after every point. -/
theorem held (c : Dev nD) : ∀ (n : ℕ) (hn : n < cfg0.N) (j : Fin 11) (hj : (j : ℕ) = n / 16),
    (outsAt0 m c n hn).2 = (columns (argG m c) j, columns (argU m c) j) := by
  intro n
  induction n with
  | zero => exact fun hn j hj => laid m c ⟨0, hn⟩ j hj rfl
  | succ n ih =>
    intro hn j hj
    by_cases h0 : (n + 1) % 16 = 0
    · exact laid m c ⟨n + 1, hn⟩ j hj h0
    · have hp := ih (Nat.lt_of_succ_lt hn) j (by omega)
      rw [← hp, outsAt0_B m c ⟨n + 1, hn⟩ h0]
      refine Prod.ext ?_ ?_
      · rfl
      · rfl

/-- The result as one function of the arguments: the last layer's gate and factor of every row and column. -/
def result (X : FVec Ideal S16384x2048 .f32) (G U : FVec Ideal S4x2048x5632 .f32) : FVec Ideal S16384x5632 .bf16 :=
  fun i => gated (∑ d : Fin 2048, X (ix2 (i 0) d) * G (ix3 3 d (i 1))) (∑ d : Fin 2048, X (ix2 (i 0) d) * U (ix3 3 d (i 1)))

/-- What a grid point stores, the buffers' contents read as the weights' columns. -/
theorem stored (c : Dev nD) (t : Fin cfg0.N) (j : Fin 11) (hj : (j : ℕ) = t.val / 16) :
    (outsAt0 m c t.val t.isLt).1
      = k0_pay3 (F := Ideal) (iblk m c 0 t) (columns (argG m c) j) (columns (argU m c) j) := by
  by_cases h0 : t.val % 16 = 0
  · have hl := laid m c t j hj h0
    rw [outsAt0_A m c t h0] at hl ⊢
    have hg := (Prod.ext_iff.1 hl).1
    have hu := (Prod.ext_iff.1 hl).2
    dsimp only at hg hu ⊢
    rw [← hg, ← hu]
    frame_out
  · have hl := held m c (t.val - 1) (Nat.lt_of_le_of_lt (Nat.sub_le _ _) t.isLt) j (by omega)
    rw [outsAt0_B m c t h0, hl]
    dsimp only
    frame_out
    exact congrArg₂ _ (read_unread_whole _ _ _) (read_unread_whole _ _ _)

/-- What a grid point stores is the result under its block. -/
theorem point (c : Dev nD) (t : Fin cfg0.N) (y : S1024x512.Idx) :
    (outsAt0 m c t.val t.isLt).1 y = result (argX m c) (argG m c) (argU m c) (((cfg0.win 3).blk t).view.emb y) := by
  have ht : t.val < 176 := lt_of_lt_of_eq t.isLt N_0
  have y0lt : (y 0 : ℕ) < 1024 := (y 0).isLt
  have y1lt : (y 1 : ℕ) < 512 := (y 1).isLt
  have i0 : ((((cfg0.win 3).blk t).view.emb y 0 : Fin _) : ℕ) = t % 16 * 1024 + (y 0 : ℕ) := by blk_simp [idx t]
  have i1 : ((((cfg0.win 3).blk t).view.emb y 1 : Fin _) : ℕ) = t / 16 * 512 + (y 1 : ℕ) := by blk_simp [idx t]
  have bx : ∀ r d, (iblk m c 0 t : Vec Ideal S1024x2048 .bf16) (ix2 r d) = _ := fun r d =>
    (block_x (V m c main_v0) t ht r d).trans (entry_x m c _ _)
  rw [stored m c t ⟨t.val / 16, by omega⟩ rfl]
  generalize ((cfg0.win 3).blk t).view.emb y = i at i0 i1 ⊢
  idx_vars y
  rw [tile_at]
  have e0 : i 0 = (⟨t % 16 * 1024 + y0, by omega⟩ : Fin 16384) := Fin.ext i0
  have e1 : i 1 = (⟨t / 16 * 512 + y1, by omega⟩ : Fin 5632) := Fin.ext i1
  unfold result
  rw [e0, e1]
  simp only [bx]
  rfl

/-- The result array after the run. -/
theorem final (c : Dev nD) : (dats m 0 c).arrAt 3 (cfgs 0).N = result (argX m c) (argG m c) (argU m c) := by
  refine (dats m 0 c).arrAt_eq_of_covers 3 _ (by decide +kernel) fun t _ y => ?_
  blk_simp
  rw [after0_3]
  exact point m c t y

end Cert.UpIdeal.Value
end
-- ==== Proof.UpEq.lean ====
/- The gated product: on a finite input and finite gate weights the kernel's result is the reference's. -/
module

public import proofs.«01_k».proof.Proof.UpValue
public import proofs.«01_k».proof.Proof.Numbers
public import proofs.«01_k».proof.Proof.Gen.UpRefIdeal.Run
public import proofs.«01_k».proof.Proof.Gen.Pre_finite_gate
public import Idealize.ShloMosaic.Lib.ReduceAll

@[expose] public section

set_option maxRecDepth 16384

noncomputable section

namespace Cert.UpRefIdeal.Value

open Idealize.ShloMosaic
open Cert.UpRefIdeal Cert.UpRefIdeal.Gen

/-- A product with the last layer's weights of a stack. -/
def prod (x : FVec Ideal S16384x2048 .f32) (w : FVec Ideal S4x2048x5632 .f32) : FVec Ideal S16384x5632 .f32 :=
  Host.dotGeneral dot_S16384x2048_S2048x5632_S16384x5632_1_0_0_1_n_n none x (shapeCast _ (extractStridedSlice S1x2048x5632 ![3, 0, 0] w slices_S4x2048x5632_S1x2048x5632_3_0_0) shapeCasts_S1x2048x5632_S2048x5632)

/-- The gated product of two arrays. -/
def gated (g u : FVec Ideal S16384x5632 .f32) : FVec Ideal S16384x5632 .bf16 :=
  truncf .bf16 (mulf (mulf g (Host.divf (broadcastInDim S16384x5632 ![] bcast_S_S16384x5632 (constant S_ .f32 0x3F800000#32)) (addf (broadcastInDim S16384x5632 ![] bcast_S_S16384x5632 (constant S_ .f32 0x3F800000#32)) (Host.exp (Host.negf g))))) u) bitsLt_bf16_f32

/-- The reference's result as a function of its arguments. -/
def REF (x : FVec Ideal S16384x2048 .f32) (w_gate w_up : FVec Ideal S4x2048x5632 .f32) : FVec Ideal S16384x5632 .bf16 :=
  gated (prod x w_gate) (prod x w_up)

theorem prod_at (x : FVec Ideal S16384x2048 .f32) (w : FVec Ideal S4x2048x5632 .f32) (r : Fin 16384) (j : Fin 5632) :
    prod x w (ix2 r j) = ∑ d : Fin 2048, x (ix2 r d) * w (ix3 3 d j) := by
  pointwise [prod]

theorem gated_at (g u : FVec Ideal S16384x5632 .f32) (r : Fin 16384) (j : Fin 5632) :
    gated g u (ix2 r j) = g (ix2 r j) * Ideal.div 1 (1 + Ideal.exp (-g (ix2 r j))) * u (ix2 r j) := by
  pointwise [gated]

end Cert.UpRefIdeal.Value

namespace Cert.UpEq

open Idealize.ShloMosaic
open Cert.Numbers

theorem ofBits_half : Ideal.ofBits .f32 0x3F000000#32 = ((1 / 2 : ℝ) : EReal) := by
  simp [Ideal.ofBits, Ideal.ieee, ← EReal.coe_mul]
  norm_num
theorem ofBits_top : Ideal.ofBits .f32 0x7F800000#32 = ⊤ := by simp [Ideal.ofBits, Ideal.ieee]

/-- The half-tangent form and the logistic form agree at a real gate, whatever the factor. -/
theorem gated_eq (g : ℝ) (u : EReal) :
    Cert.UpIdeal.Value.gated g u = (g : EReal) * Ideal.div 1 (1 + Ideal.exp (-(g : EReal))) * u := by
  unfold Cert.UpIdeal.Value.gated Cert.UpIdeal.Value.half
  have h1 : (0 : ℝ) < 1 + Real.exp (-g) := by positivity
  have e1 : Ideal.div 1 (1 + Ideal.exp (-(g : EReal))) = (((1 + Real.exp (-g))⁻¹ : ℝ) : EReal) := by
    rw [← EReal.coe_neg, Ideal.exp_coe, ← EReal.coe_one, ← EReal.coe_add, Ideal.div_coe h1.ne', EReal.coe_one, one_mul, one_div]
  rw [e1, ofBits_half, ← EReal.coe_mul, Ideal.tanh_coe, ← EReal.coe_mul, ← EReal.coe_mul, ← EReal.coe_add, ← half_tanh, mul_comm (1 / 2) g]

/-- The two programs' results agree when the input and the gate's weights are real numbers. -/
theorem result_eq (X : FVec Ideal Cert.UpIdeal.S16384x2048 .f32) (G U : FVec Ideal Cert.UpIdeal.S4x2048x5632 .f32)
    (hX : ∀ i, ∃ r : ℝ, X i = (r : EReal)) (hG : ∀ i, ∃ r : ℝ, G i = (r : EReal)) :
    Cert.UpIdeal.Value.result X G U = Cert.UpRefIdeal.Value.REF X G U := by
  choose x hx using hX
  choose g hg using hG
  funext i
  idx_vars i
  unfold Cert.UpRefIdeal.Value.REF
  rw [Cert.UpRefIdeal.Value.gated_at, Cert.UpRefIdeal.Value.prod_at, Cert.UpRefIdeal.Value.prod_at]
  simp only [hx, hg, ← EReal.coe_mul, coe_sum]
  rw [← gated_eq]
  unfold Cert.UpIdeal.Value.result
  simp only [hx, hg, ← EReal.coe_mul, coe_sum]
  rfl

/-- What the precondition says of every element. -/
theorem finite (X : FVec Ideal Cert.UpIdeal.S16384x2048 .f32) (G U : FVec Ideal Cert.UpIdeal.S4x2048x5632 .f32)
    (h : Cert.Pre_finite_gate.fn (F := Ideal) X G U = fun _ => 1#1) :
    (∀ i, ∃ r : ℝ, X i = (r : EReal)) ∧ (∀ i, ∃ r : ℝ, G i = (r : EReal)) := by
  have h0 := congrFun h (fun a => a.elim0)
  unfold Cert.Pre_finite_gate.fn at h0
  haveI : Subsingleton Cert.Pre_finite_gate.S_.Idx := ⟨fun a b => funext fun i => i.elim0⟩
  obtain ⟨hq, hk⟩ := IntOp.andi_eq_one.1 h0
  refine ⟨fun i => real_of_cmp _ ?_, fun i => real_of_cmp _ ?_⟩
  · rw [← ofBits_top]
    exact Host.reduce_andi_all _ _ _ _ _ hq i
  · rw [← ofBits_top]
    exact Host.reduce_andi_all _ _ _ _ _ hk i

end Cert.UpEq
end
-- ==== Proof.ClaimUp.lean ====
/- The claims about the first half of the feed-forward network: the reference leaves its arguments and no signal behind, and the kernel's result
   is the reference's. -/
module

public import proofs.«01_k».proof.Defs
public import proofs.«01_k».proof.Proof.UpEq
public import proofs.«01_k».proof.Proof.Gen.Up.Frame
public import Idealize.ShloMosaic.Lib.Claim
public import Idealize.ShloMosaic.Lib.Quiescent

@[expose] public section

set_option maxRecDepth 16384

noncomputable section

namespace Cert.ClaimUp

open Idealize.ShloMosaic Idealize.SL.Sem

theorem frame_ref : quiescent_UpRefIdeal := fun m g _ =>
  (θ_run Cert.UpRefIdeal.defs _ _).mono
    (fun r h => ⟨fun c => (h c).2, sem_eq_zero_of_no_sems (by decide) r.2⟩)
    (Cert.UpRefIdeal.Value.run m g)

theorem algebraic : algebraic_UpIdeal_UpRefIdeal_pre_finite_gate := by
  pair_intro
  · run_from Cert.UpIdeal.Gen.run_main m g
  · run_from Cert.UpRefIdeal.Value.run m' g'
    obtain ⟨h₁, h₂⟩ := Cert.UpEq.finite _ _ _ (hpre c)
    exact ((Cert.UpIdeal.Value.final m c).trans (Cert.UpEq.result_eq _ _ _ h₁ h₂)).symm

end Cert.ClaimUp
end
-- ==== Proof.LayerNorm.lean ====
/- A residual followed by LayerNorm, one row of 2048 numbers at a time: the form both sides of a claim are brought to. -/
module

public import Idealize.ShloMosaic.PureOps.Ideal

@[expose] public section

noncomputable section

namespace Cert.LayerNorm

open Idealize.ShloMosaic

/-- The mean of a row. -/
def mean (x : Fin 2048 → EReal) : EReal := Ideal.div (∑ e, x e) (Ideal.ofBits .f32 0x45000000#32)

/-- One element of a normalised row, times its gain, plus its offset. -/
def norm (x : Fin 2048 → EReal) (g b : EReal) (e : Fin 2048) : EReal :=
  (x e - mean x) * Ideal.rsqrt (Ideal.div (∑ e, (x e - mean x) * (x e - mean x)) (Ideal.ofBits .f32 0x45000000#32)
    + Ideal.ofBits .f32 0x3727C5AC#32) * g + b

/-- The residual: the layer's input scaled, plus what the block adds. -/
def resid (x f : EReal) : EReal := Ideal.ofBits .f32 0x3FD744FD#32 * x + f

end Cert.LayerNorm
end
-- ==== Proof.DownValue.lean ====
/- The feed-forward layer's second product with the residual and LayerNorm: what one grid point computes, and the two
   arrays after the run as functions of the arguments. -/
module

public import proofs.«01_k».proof.Proof.Gen.DownIdeal.Value
public import proofs.«01_k».proof.Proof.LayerNorm
public import Idealize.ShloMosaic.Lib.Pointwise
public import Idealize.ShloMosaic.Lib.Pipeline.ValueKit

@[expose] public section

set_option maxRecDepth 16384

noncomputable section

namespace Cert.DownIdeal.Value

open Idealize.ShloMosaic Idealize.ShloMosaic.TcCoe Idealize.SL.Sem
open Idealize.ShloMosaic.Pipeline (Dat)
open Cert.DownIdeal Cert.DownIdeal.Gen
open Cert.LayerNorm

/-! ## One tile -/

/-- The residual's tile. -/
def resTile (h : Vec Ideal S256x5632 .bf16) (w : Vec Ideal S1x5632x2048 .bf16) (x : Vec Ideal S256x2048 .f32) : FVec Ideal S256x2048 .f32 :=
  addf (mulf (broadcast S256x2048 (Scalar.ofBits .f32 0x3FD744FD#32)) x)
    (matmul (φ₁ := .bf16) (φ₂ := .bf16) dot_S256x5632_S5632x2048_S256x2048_1_0_0_1_n_n none h (shapeCast S5632x2048 w shapeCasts_S1x5632x2048_S5632x2048) (constant S256x2048 .f32 0x00000000#32))

/-- A tile's rows less their means. -/
def centred (y : FVec Ideal S256x2048 .f32) : FVec Ideal S256x2048 .f32 :=
  subf y (broadcastTo S256x2048 (divf (shapeCast S256x1 (multiReduction .add [1] S256 y 0x00000000#32 reduces_S256x2048_S256 (.inl rfl) rfl) shapeCasts_S256_S256x1) (broadcast S256x1 (Scalar.ofBits .f32 0x45000000#32))) broadcasts_S256x1_S256x2048)

/-- A tile of centred rows over their deviations, times the gain, plus the offset. -/
def scaled (z : FVec Ideal S256x2048 .f32) (g b : Vec Ideal S1x2048 .f32) : FVec Ideal S256x2048 .f32 :=
  addf (mulf (mulf z (broadcastTo S256x2048 (rsqrt (addf (divf (shapeCast S256x1 (multiReduction .add [1] S256 (mulf z z) 0x00000000#32 reduces_S256x2048_S256 (.inl rfl) rfl) shapeCasts_S256_S256x1) (broadcast S256x1 (Scalar.ofBits .f32 0x45000000#32))) (broadcast S256x1 (Scalar.ofBits .f32 0x3727C5AC#32)))) broadcasts_S256x1_S256x2048))
    (broadcastTo S256x2048 (shapeCast S1x2048 g shapeCasts_S1x2048_S1x2048) broadcasts_S1x2048_S256x2048))
    (broadcastTo S256x2048 (shapeCast S1x2048 b shapeCasts_S1x2048_S1x2048) broadcasts_S1x2048_S256x2048)

theorem tile_eq (h : Vec Ideal S256x5632 .bf16) (w : Vec Ideal S1x5632x2048 .bf16) (x : Vec Ideal S256x2048 .f32) (g b : Vec Ideal S1x2048 .f32) :
    k0_pay1 (F := Ideal) h w x g b = scaled (centred (resTile h w x)) g b := rfl
theorem tile2_eq (h : Vec Ideal S256x5632 .bf16) (w : Vec Ideal S1x5632x2048 .bf16) (x : Vec Ideal S256x2048 .f32) (g b : Vec Ideal S1x2048 .f32) :
    (k0_pay2 (F := Ideal) h w x g b : S256x2048.Idx → EReal) = k0_pay1 (F := Ideal) h w x g b := rfl

theorem resTile_at (h : Vec Ideal S256x5632 .bf16) (w : Vec Ideal S1x5632x2048 .bf16) (x : Vec Ideal S256x2048 .f32) (r : Fin 256) (e : Fin 2048) :
    resTile h w x (ix2 r e) = resid (x (ix2 r e)) (∑ d : Fin 5632, h (ix2 r d) * w (ix3 0 d e)) := by
  pointwise [resTile, resid]
theorem centred_at (y : FVec Ideal S256x2048 .f32) (r : Fin 256) (e : Fin 2048) :
    centred y (ix2 r e) = y (ix2 r e) - mean (fun e => y (ix2 r e)) := by
  pointwise [centred, mean]
theorem scaled_at (z : FVec Ideal S256x2048 .f32) (g b : Vec Ideal S1x2048 .f32) (r : Fin 256) (e : Fin 2048) :
    scaled z g b (ix2 r e) = z (ix2 r e) * Ideal.rsqrt (Ideal.div (∑ e : Fin 2048, z (ix2 r e) * z (ix2 r e)) (Ideal.ofBits .f32 0x45000000#32)
      + Ideal.ofBits .f32 0x3727C5AC#32) * g (ix2 0 e) + b (ix2 0 e) := by
  pointwise [scaled]

/-- A stored tile at a position: the row's residuals, normalised. -/
theorem tile_at (h : Vec Ideal S256x5632 .bf16) (w : Vec Ideal S1x5632x2048 .bf16) (x : Vec Ideal S256x2048 .f32) (g b : Vec Ideal S1x2048 .f32)
    (r : Fin 256) (e : Fin 2048) :
    k0_pay1 (F := Ideal) h w x g b (ix2 r e)
      = norm (fun e => resid (x (ix2 r e)) (∑ d : Fin 5632, h (ix2 r d) * w (ix3 0 d e))) (g (ix2 0 e)) (b (ix2 0 e)) e := by
  rw [tile_eq, scaled_at]
  simp only [centred_at, resTile_at]
  rfl

/-! ## The operands the launch finds -/

variable (m : (ℓ : Loc nD τ sig) → Buf (Elt Ideal) ℓ)

/-- The hidden activations, the second weights, the layer's input, the gains and the offsets. -/
abbrev argH (c : Dev nD) : FVec Ideal S16384x5632 .bf16 := m ((c : Thread nD τ).loc main_arg0)
abbrev argW (c : Dev nD) : FVec Ideal S4x5632x2048 .f32 := m ((c : Thread nD τ).loc main_arg1)
abbrev argX (c : Dev nD) : FVec Ideal S16384x2048 .f32 := m ((c : Thread nD τ).loc main_arg2)
abbrev argG (c : Dev nD) : FVec Ideal S4x2048 .f32 := m ((c : Thread nD τ).loc main_arg3)
abbrev argB (c : Dev nD) : FVec Ideal S4x2048 .f32 := m ((c : Thread nD τ).loc main_arg4)

theorem entry_h (c : Dev nD) : V m c main_arg0 = m ((c : Thread nD τ).loc main_arg0) := by entry_read; rfl
theorem entry_x (c : Dev nD) : V m c main_arg2 = m ((c : Thread nD τ).loc main_arg2) := by entry_read; rfl
theorem entry_w (c : Dev nD) (l : Fin 4) (d : Fin 5632) (e : Fin 2048) :
    (V m c main_v0 : FVec Ideal S4x5632x2048 .bf16) (ix3 l d e) = argW m c (ix3 l d e) := by
  entry_read
  pointwise
theorem entry_g (c : Dev nD) (e : Fin 2048) :
    (V m c main_v5 : FVec Ideal S1x2048 .f32) (ix2 0 e) = argG m c (ix2 3 e) := by
  entry_read
  pointwise
theorem entry_b (c : Dev nD) (e : Fin 2048) :
    (V m c main_v6 : FVec Ideal S1x2048 .f32) (ix2 0 e) = argB m c (ix2 3 e) := by
  entry_read
  pointwise

/-! ## The two result arrays -/

theorem idx : ∀ t : Fin cfg0.N, win0_0.index t = ![t.val, 0] ∧ win0_1.index t = ![3, 0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The input blocks of a grid point, read out of any array. -/
theorem block_h (A : FVec Ideal S16384x5632 .bf16) (t : Fin cfg0.N) (ht : t.val < 64) (r : Fin 256) (d : Fin 5632) :
    ((cfg0.win 0).blk t).view.read (Elt Ideal) A (ix2 r d : S256x5632.Idx) = A (ix2 ⟨t * 256 + r, by omega⟩ d) := by
  blk_ext [idx t]
theorem block_w (A : FVec Ideal S4x5632x2048 .bf16) (t : Fin cfg0.N) (d : Fin 5632) (e : Fin 2048) :
    ((cfg0.win 1).blk t).view.read (Elt Ideal) A (ix3 0 d e : S1x5632x2048.Idx) = A (ix3 3 d e) := by
  blk_ext [idx t]
theorem block_x (A : FVec Ideal S16384x2048 .f32) (t : Fin cfg0.N) (ht : t.val < 64) (r : Fin 256) (e : Fin 2048) :
    ((cfg0.win 2).blk t).view.read (Elt Ideal) A (ix2 r e : S256x2048.Idx) = A (ix2 ⟨t * 256 + r, by omega⟩ e) := by
  blk_ext [idx t]
theorem block_g (A : FVec Ideal S1x2048 .f32) (t : Fin cfg0.N) (e : Fin 2048) :
    ((cfg0.win 3).blk t).view.read (Elt Ideal) A (ix2 0 e : S1x2048.Idx) = A (ix2 0 e) := by
  blk_ext [idx t]
theorem block_b (A : FVec Ideal S1x2048 .f32) (t : Fin cfg0.N) (e : Fin 2048) :
    ((cfg0.win 4).blk t).view.read (Elt Ideal) A (ix2 0 e : S1x2048.Idx) = A (ix2 0 e) := by
  blk_ext [idx t]

/-- The results' common value as one function of the arguments. -/
def result (H : FVec Ideal S16384x5632 .bf16) (W : FVec Ideal S4x5632x2048 .f32) (X : FVec Ideal S16384x2048 .f32)
    (G B : FVec Ideal S4x2048 .f32) : FVec Ideal S16384x2048 .f32 :=
  fun i => norm (fun e => resid (X (ix2 (i 0) e)) (∑ d : Fin 5632, H (ix2 (i 0) d) * W (ix3 3 d e))) (G (ix2 3 (i 1))) (B (ix2 3 (i 1))) (i 1)

/-- A grid point's tile is the result at its place. -/
theorem core (c : Dev nD) (t : Fin cfg0.N) (r : Fin 256) (e : Fin 2048) (i : S16384x2048.Idx)
    (h0 : (i 0 : ℕ) = t.val * 256 + r) (h1 : (i 1 : ℕ) = e) :
    k0_pay1 (F := Ideal) (iblk m c 0 t) (iblk m c 1 t) (iblk m c 2 t) (iblk m c 3 t) (iblk m c 4 t) (ix2 r e)
      = result (argH m c) (argW m c) (argX m c) (argG m c) (argB m c) i := by
  have ht : t.val < 64 := lt_of_lt_of_eq t.isLt N_0
  have bh : ∀ r d, (iblk m c 0 t : Vec Ideal S256x5632 .bf16) (ix2 r d) = _ := fun r d =>
    (block_h (V m c main_arg0) t ht r d).trans (congrFun (entry_h m c) _)
  have bw : ∀ d e, (iblk m c 1 t : Vec Ideal S1x5632x2048 .bf16) (ix3 0 d e) = _ := fun d e =>
    (block_w (V m c main_v0) t d e).trans (entry_w m c _ _ _)
  have bx : ∀ r e, (iblk m c 2 t : Vec Ideal S256x2048 .f32) (ix2 r e) = _ := fun r e =>
    (block_x (V m c main_arg2) t ht r e).trans (congrFun (entry_x m c) _)
  have bg : ∀ e, (iblk m c 3 t : Vec Ideal S1x2048 .f32) (ix2 0 e) = _ := fun e =>
    (block_g (V m c main_v5) t e).trans (entry_g m c _)
  have bb : ∀ e, (iblk m c 4 t : Vec Ideal S1x2048 .f32) (ix2 0 e) = _ := fun e =>
    (block_b (V m c main_v6) t e).trans (entry_b m c _)
  rw [tile_at]
  simp only [bh, bw, bx, bg, bb]
  have e0 : i 0 = (⟨t.val * 256 + r, by omega⟩ : Fin 16384) := Fin.ext h0
  have e1 : i 1 = e := Fin.ext h1
  unfold result
  rw [e0, e1]

/-- The single-precision result array after the run. -/
theorem final5 (c : Dev nD) : (dats m 0 c).arrAt 5 (cfgs 0).N = result (argH m c) (argW m c) (argX m c) (argG m c) (argB m c) := by
  refine (dats m 0 c).arrAt_eq_of_covers 5 _ (by decide +kernel) fun t _ y => ?_
  have i0 : ((((cfg0.win 5).blk t).view.emb y 0 : Fin _) : ℕ) = t.val * 256 + (y 0 : ℕ) := by blk_simp [idx t]
  have i1 : ((((cfg0.win 5).blk t).view.emb y 1 : Fin _) : ℕ) = (y 1 : ℕ) := by blk_simp [idx t]
  blk_simp
  rw [after0_5]
  frame_out
  generalize ((cfg0.win 5).blk t).view.emb y = i at i0 i1 ⊢
  obtain ⟨r, e, rfl⟩ : ∃ r e, y = ix2 r e := ⟨y 0, y 1, by idx_vars y⟩
  exact core m c t r e i i0 i1

/-- The half-precision result array after the run. -/
theorem final6 (c : Dev nD) : (dats m 0 c).arrAt 6 (cfgs 0).N = result (argH m c) (argW m c) (argX m c) (argG m c) (argB m c) := by
  refine (dats m 0 c).arrAt_eq_of_covers 6 _ (by decide +kernel) fun t _ y => ?_
  have i0 : ((((cfg0.win 6).blk t).view.emb y 0 : Fin _) : ℕ) = t.val * 256 + (y 0 : ℕ) := by blk_simp [idx t]
  have i1 : ((((cfg0.win 6).blk t).view.emb y 1 : Fin _) : ℕ) = (y 1 : ℕ) := by blk_simp [idx t]
  blk_simp
  rw [after0_6]
  frame_out
  generalize ((cfg0.win 6).blk t).view.emb y = i at i0 i1 ⊢
  obtain ⟨r, e, rfl⟩ : ∃ r e, y = ix2 r e := ⟨y 0, y 1, by idx_vars y⟩
  exact core m c t r e i i0 i1

end Cert.DownIdeal.Value
end
-- ==== Proof.DownRef.lean ====
/- The feed-forward layer's second product with the residual and LayerNorm: the reference's two results, element by element. -/
module

public import proofs.«01_k».proof.Proof.Gen.DownRefIdeal.Run
public import proofs.«01_k».proof.Proof.DownValue

@[expose] public section

set_option maxRecDepth 16384

noncomputable section

namespace Cert.DownRefIdeal.Value

open Idealize.ShloMosaic Idealize.ShloMosaic.TcCoe Idealize.SL.Sem
open Cert.DownRefIdeal Cert.DownRefIdeal.Gen
open Cert.LayerNorm

/-- The residual's array. -/
def res (h : FVec Ideal S16384x5632 .bf16) (w : FVec Ideal S4x5632x2048 .f32) (x : FVec Ideal S16384x2048 .f32) : FVec Ideal S16384x2048 .f32 :=
  addf (mulf (broadcastInDim S16384x2048 ![] bcast_S_S16384x2048 (constant S_ .f32 0x3FD744FD#32)) x) (Host.dotGeneral dot_S16384x5632_S5632x2048_S16384x2048_1_0_0_1_n_n none (extf .f32 h bitsLt_bf16_f32) (shapeCast _ (extractStridedSlice S1x5632x2048 ![3, 0, 0] w slices_S4x5632x2048_S1x5632x2048_3_0_0) shapeCasts_S1x5632x2048_S5632x2048))

/-- The rows less their means. -/
def centred (y : FVec Ideal S16384x2048 .f32) : FVec Ideal S16384x2048 .f32 :=
  subf y (broadcastInDim S16384x2048 ![0, 1] bcast_S16384x1_S16384x2048_0_1 (Host.divf (broadcastInDim S16384x1 ![0] bcast_S16384_S16384x1_0 (Host.reduceAdd y (constant S_ .f32 0x00000000#32) reducesTo_S16384x2048_S16384_d1 h_S_)) (broadcastInDim S16384x1 ![] bcast_S_S16384x1 (constant S_ .f32 0x45000000#32))))

/-- Centred rows over their deviations, times the last layer's gain, plus its offset. -/
def scaled (z : FVec Ideal S16384x2048 .f32) (g b : FVec Ideal S4x2048 .f32) : FVec Ideal S16384x2048 .f32 :=
  addf (mulf (mulf z (broadcastInDim S16384x2048 ![0, 1] bcast_S16384x1_S16384x2048_0_1 (Host.rsqrt (addf (Host.divf (broadcastInDim S16384x1 ![0] bcast_S16384_S16384x1_0 (Host.reduceAdd (mulf z z) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32))))))
    (broadcastInDim S16384x2048 ![0, 1] bcast_S1x2048_S16384x2048_0_1 (broadcastInDim S1x2048 ![1] bcast_S2048_S1x2048_1 (shapeCast _ (extractStridedSlice S1x2048 ![3, 0] g slices_S4x2048_S1x2048_3_0) shapeCasts_S1x2048_S2048))))
    (broadcastInDim S16384x2048 ![0, 1] bcast_S1x2048_S16384x2048_0_1 (broadcastInDim S1x2048 ![1] bcast_S2048_S1x2048_1 (shapeCast _ (extractStridedSlice S1x2048 ![3, 0] b slices_S4x2048_S1x2048_3_0) shapeCasts_S1x2048_S2048)))

theorem res_at (h : FVec Ideal S16384x5632 .bf16) (w : FVec Ideal S4x5632x2048 .f32) (x : FVec Ideal S16384x2048 .f32) (r : Fin 16384) (e : Fin 2048) :
    res h w x (ix2 r e) = resid (x (ix2 r e)) (∑ d : Fin 5632, h (ix2 r d) * w (ix3 3 d e)) := by
  pointwise [res, resid]
theorem centred_at (y : FVec Ideal S16384x2048 .f32) (r : Fin 16384) (e : Fin 2048) :
    centred y (ix2 r e) = y (ix2 r e) - mean (fun e => y (ix2 r e)) := by
  pointwise [centred, mean]
theorem scaled_at (z : FVec Ideal S16384x2048 .f32) (g b : FVec Ideal S4x2048 .f32) (r : Fin 16384) (e : Fin 2048) :
    scaled z g b (ix2 r e) = z (ix2 r e) * Ideal.rsqrt (Ideal.div (∑ e : Fin 2048, z (ix2 r e) * z (ix2 r e)) (Ideal.ofBits .f32 0x45000000#32)
      + Ideal.ofBits .f32 0x3727C5AC#32) * g (ix2 3 e) + b (ix2 3 e) := by
  pointwise [scaled]

/-- The kernel's results as a function of the arguments are the reference's. -/
theorem result_eq (h : FVec Ideal S16384x5632 .bf16) (w : FVec Ideal S4x5632x2048 .f32) (x : FVec Ideal S16384x2048 .f32) (g b : FVec Ideal S4x2048 .f32) :
    Cert.DownIdeal.Value.result h w x g b = scaled (centred (res h w x)) g b := by
  funext i
  idx_vars i
  rw [scaled_at]
  simp only [centred_at, res_at]
  rfl

variable (m : (ℓ : Loc nD τ sig) → Buf (Elt Ideal) ℓ)

theorem result0 (c : Dev nD) : res_main_v34 m c = scaled (centred (res (m ((c.tc : Thread nD τ).loc main_arg0)) (m ((c.tc : Thread nD τ).loc main_arg1)) (m ((c.tc : Thread nD τ).loc main_arg2)))) (m ((c.tc : Thread nD τ).loc main_arg3)) (m ((c.tc : Thread nD τ).loc main_arg4)) := rfl
theorem result1 (c : Dev nD) : (res_main_v35 m c : S16384x2048.Idx → EReal) = scaled (centred (res (m ((c.tc : Thread nD τ).loc main_arg0)) (m ((c.tc : Thread nD τ).loc main_arg1)) (m ((c.tc : Thread nD τ).loc main_arg2)))) (m ((c.tc : Thread nD τ).loc main_arg3)) (m ((c.tc : Thread nD τ).loc main_arg4)) := rfl

end Cert.DownRefIdeal.Value
end
-- ==== Proof.ClaimDown.lean ====
/- The claims about the second half of the feed-forward network: the reference leaves its arguments and no signal behind, and the kernel's result
   is the reference's. -/
module

public import proofs.«01_k».proof.Defs
public import proofs.«01_k».proof.Proof.DownRef
public import proofs.«01_k».proof.Proof.Gen.Down.Frame
public import Idealize.ShloMosaic.Lib.Claim
public import Idealize.ShloMosaic.Lib.Quiescent

@[expose] public section

set_option maxRecDepth 16384

noncomputable section

namespace Cert.ClaimDown

open Idealize.ShloMosaic Idealize.SL.Sem

theorem frame_ref : quiescent_DownRefIdeal := fun m g _ =>
  (θ_run Cert.DownRefIdeal.defs _ _).mono
    (fun r h => ⟨fun c => (h c).2.2, sem_eq_zero_of_no_sems (by decide) r.2⟩)
    (Cert.DownRefIdeal.Value.run m g)

theorem algebraic : algebraic_DownIdeal_DownRefIdeal := by
  pair_intro
  · run_from Cert.DownIdeal.Gen.run_main m g
  · run_from Cert.DownRefIdeal.Value.run m' g'
    all_goals obtain ⟨e₀, e₁, e₂, e₃, e₄⟩ := hagree c
    · rw [Cert.DownRefIdeal.Value.result0, e₀, e₁, e₂, e₃, e₄]
      exact ((Cert.DownIdeal.Value.final5 m c).trans (Cert.DownRefIdeal.Value.result_eq _ _ _ _ _)).symm
    · rw [Cert.DownRefIdeal.Value.result1, e₀, e₁, e₂, e₃, e₄]
      exact ((Cert.DownIdeal.Value.final6 m c).trans (Cert.DownRefIdeal.Value.result_eq _ _ _ _ _)).symm

end Cert.ClaimDown
end
-- ==== Proof.MixValue.lean ====
/- The mixers' output projection with the residual and LayerNorm: what one grid point computes, in four groups of rows,
   and the two arrays after the run as functions of the arguments. -/
module

public import proofs.«01_k».proof.Proof.Gen.MixIdeal.Value
public import proofs.«01_k».proof.Proof.LayerNorm
public import Idealize.ShloMosaic.Lib.Pointwise
public import Idealize.ShloMosaic.Lib.Pipeline.ValueKit

@[expose] public section

set_option maxRecDepth 16384

noncomputable section

namespace Cert.MixIdeal.Value

open Idealize.ShloMosaic Idealize.ShloMosaic.TcCoe Idealize.SL.Sem
open Idealize.ShloMosaic.Pipeline (Dat)
open Cert.MixIdeal Cert.MixIdeal.Gen
open Cert.LayerNorm

/-! ## One tile -/

/-- The product's tile. -/
theorem prod_at (y : Vec Ideal S128x1024 .bf16) (u : Vec Ideal S1x1024x2048 .bf16) (z : Vec Ideal S128x1024 .bf16) (w : Vec Ideal S1x1024x2048 .bf16)
    (r : Fin 128) (e : Fin 2048) :
    k0_pay4 (F := Ideal) y u z w (ix2 r e)
      = (∑ d : Fin 1024, y (ix2 r d) * u (ix3 0 d e)) + ∑ d : Fin 1024, z (ix2 r d) * w (ix3 0 d e) := by
  pointwise [k0_pay4]
theorem prod1 (y : Vec Ideal S128x1024 .bf16) (u : Vec Ideal S1x1024x2048 .bf16) (z : Vec Ideal S128x1024 .bf16) (w : Vec Ideal S1x1024x2048 .bf16) :
    k0_pay3 (F := Ideal) y u z w = k0_pay4 y u z w := rfl
theorem prod3 (y : Vec Ideal S128x1024 .bf16) (u : Vec Ideal S1x1024x2048 .bf16) (z : Vec Ideal S128x1024 .bf16) (w : Vec Ideal S1x1024x2048 .bf16) :
    k0_pay6 (F := Ideal) (k0_pay5 y u) z w = k0_pay4 y u z w := rfl
theorem prod4 (y : Vec Ideal S128x1024 .bf16) (u : Vec Ideal S1x1024x2048 .bf16) (z : Vec Ideal S128x1024 .bf16) (w : Vec Ideal S1x1024x2048 .bf16) :
    k0_pay7 (F := Ideal) y u z w = k0_pay4 y u z w := rfl

/-- The residual's tile. -/
def resTile (a x : FVec Ideal S128x2048 .f32) : FVec Ideal S128x2048 .f32 :=
  addf (mulf (broadcast S128x2048 (Scalar.ofBits .f32 0x3FD744FD#32)) x) a

/-- A tile's rows less their means. -/
def centred (y : FVec Ideal S128x2048 .f32) : FVec Ideal S128x2048 .f32 :=
  subf y (broadcastTo S128x2048 (divf (shapeCast S128x1 (multiReduction .add [1] S128 y 0x00000000#32 reduces_S128x2048_S128 (.inl rfl) rfl) shapeCasts_S128_S128x1) (broadcast S128x1 (Scalar.ofBits .f32 0x45000000#32))) broadcasts_S128x1_S128x2048)

/-- A tile of centred rows over their deviations, times the gain, plus the offset. -/
def scaled (z : FVec Ideal S128x2048 .f32) (g b : Vec Ideal S1x2048 .f32) : FVec Ideal S128x2048 .f32 :=
  addf (mulf (mulf z (broadcastTo S128x2048 (rsqrt (addf (divf (shapeCast S128x1 (multiReduction .add [1] S128 (mulf z z) 0x00000000#32 reduces_S128x2048_S128 (.inl rfl) rfl) shapeCasts_S128_S128x1) (broadcast S128x1 (Scalar.ofBits .f32 0x45000000#32))) (broadcast S128x1 (Scalar.ofBits .f32 0x3727C5AC#32)))) broadcasts_S128x1_S128x2048))
    (broadcastTo S128x2048 (shapeCast S1x2048 g shapeCasts_S1x2048_S1x2048) broadcasts_S1x2048_S128x2048))
    (broadcastTo S128x2048 (shapeCast S1x2048 b shapeCasts_S1x2048_S1x2048) broadcasts_S1x2048_S128x2048)

/-- All four stored tiles are one function of the product, the layer's input, the gain and the offset. -/
theorem tile1 (a : FVec Ideal S128x2048 .f32) (x : Vec Ideal S128x2048 .f32) (g b : Vec Ideal S1x2048 .f32) :
    k0_pay12 (F := Ideal) (k0_pay8 g) (k0_pay9 b) (k0_pay10 a x) (k0_pay11 a x) = scaled (centred (resTile a x)) g b := rfl
theorem tile2 (a : FVec Ideal S128x2048 .f32) (x : Vec Ideal S128x2048 .f32) (g b : Vec Ideal S1x2048 .f32) :
    k0_pay14 (F := Ideal) a x g b = scaled (centred (resTile a x)) g b := rfl
theorem tile3 (a : FVec Ideal S128x2048 .f32) (x : Vec Ideal S128x2048 .f32) (g b : Vec Ideal S1x2048 .f32) :
    k0_pay16 (F := Ideal) a x g b = scaled (centred (resTile a x)) g b := rfl
theorem tile4 (a : FVec Ideal S128x2048 .f32) (x : Vec Ideal S128x2048 .f32) (g b : Vec Ideal S1x2048 .f32) :
    k0_pay1 (F := Ideal) a x (k0_pay18 g) b = scaled (centred (resTile a x)) g b := rfl

theorem resTile_at (a x : FVec Ideal S128x2048 .f32) (r : Fin 128) (e : Fin 2048) :
    resTile a x (ix2 r e) = resid (x (ix2 r e)) (a (ix2 r e)) := by
  pointwise [resTile, resid]
theorem centred_at (y : FVec Ideal S128x2048 .f32) (r : Fin 128) (e : Fin 2048) :
    centred y (ix2 r e) = y (ix2 r e) - mean (fun e => y (ix2 r e)) := by
  pointwise [centred, mean]
theorem scaled_at (z : FVec Ideal S128x2048 .f32) (g b : Vec Ideal S1x2048 .f32) (r : Fin 128) (e : Fin 2048) :
    scaled z g b (ix2 r e) = z (ix2 r e) * Ideal.rsqrt (Ideal.div (∑ e : Fin 2048, z (ix2 r e) * z (ix2 r e)) (Ideal.ofBits .f32 0x45000000#32)
      + Ideal.ofBits .f32 0x3727C5AC#32) * g (ix2 0 e) + b (ix2 0 e) := by
  pointwise [scaled]

/-- A stored tile at a position: the row's residuals, normalised. -/
theorem tile_at (y : Vec Ideal S128x1024 .bf16) (u : Vec Ideal S1x1024x2048 .bf16) (z : Vec Ideal S128x1024 .bf16) (w : Vec Ideal S1x1024x2048 .bf16)
    (x : Vec Ideal S128x2048 .f32) (g b : Vec Ideal S1x2048 .f32) (r : Fin 128) (e : Fin 2048) :
    scaled (centred (resTile (k0_pay4 (F := Ideal) y u z w) x)) g b (ix2 r e)
      = norm (fun e => resid (x (ix2 r e)) ((∑ d : Fin 1024, y (ix2 r d) * u (ix3 0 d e)) + ∑ d : Fin 1024, z (ix2 r d) * w (ix3 0 d e)))
          (g (ix2 0 e)) (b (ix2 0 e)) e := by
  rw [scaled_at]
  simp only [centred_at, resTile_at, prod_at]
  rfl

/-! ## The operands the launch finds -/

variable (m : (ℓ : Loc nD τ sig) → Buf (Elt Ideal) ℓ)

/-- The two mixers' outputs, the projection's weights, the layer's input, the gains and the offsets. -/
abbrev argY (c : Dev nD) : FVec Ideal S16384x1024 .bf16 := m ((c : Thread nD τ).loc main_arg0)
abbrev argZ (c : Dev nD) : FVec Ideal S16384x1024 .bf16 := m ((c : Thread nD τ).loc main_arg1)
abbrev argW (c : Dev nD) : FVec Ideal S2x2048x2048 .f32 := m ((c : Thread nD τ).loc main_arg2)
abbrev argX (c : Dev nD) : FVec Ideal S16384x2048 .f32 := m ((c : Thread nD τ).loc main_arg3)
abbrev argG (c : Dev nD) : FVec Ideal S4x2048 .f32 := m ((c : Thread nD τ).loc main_arg4)
abbrev argB (c : Dev nD) : FVec Ideal S4x2048 .f32 := m ((c : Thread nD τ).loc main_arg5)

theorem entry_y (c : Dev nD) : V m c main_arg0 = m ((c : Thread nD τ).loc main_arg0) := by entry_read; rfl
theorem entry_z (c : Dev nD) : V m c main_arg1 = m ((c : Thread nD τ).loc main_arg1) := by entry_read; rfl
theorem entry_x (c : Dev nD) : V m c main_arg3 = m ((c : Thread nD τ).loc main_arg3) := by entry_read; rfl
theorem entry_w (c : Dev nD) (l : Fin 2) (d : Fin 2048) (e : Fin 2048) :
    (V m c main_v0 : FVec Ideal S2x2048x2048 .bf16) (ix3 l d e) = argW m c (ix3 l d e) := by
  entry_read
  pointwise
theorem entry_g (c : Dev nD) (e : Fin 2048) :
    (V m c main_v5 : FVec Ideal S1x2048 .f32) (ix2 0 e) = argG m c (ix2 3 e) := by
  entry_read
  pointwise
theorem entry_b (c : Dev nD) (e : Fin 2048) :
    (V m c main_v6 : FVec Ideal S1x2048 .f32) (ix2 0 e) = argB m c (ix2 3 e) := by
  entry_read
  pointwise

/-! ## The two result arrays -/

theorem idx : ∀ t : Fin cfg0.N, win0_0.index t = ![t.val, 0] ∧ win0_1.index t = ![t.val, 0] ∧ win0_2.index t = ![1, 0, 0]
    ∧ win0_3.index t = ![t.val, 0] ∧ win0_4.index t = ![0, 0] ∧ win0_5.index t = ![0, 0] ∧ win0_6.index t = ![t.val, 0]
    ∧ win0_7.index t = ![t.val, 0] :=
  (by decide +kernel : ∀ t : Fin grid0.N, _)

/-- The input blocks of a grid point, read out of any array. -/
theorem block_y (A : FVec Ideal S16384x1024 .bf16) (t : Fin cfg0.N) (ht : t.val < 32) (r : Fin 512) (d : Fin 1024) :
    ((cfg0.win 0).blk t).view.read (Elt Ideal) A (ix2 r d : S512x1024.Idx) = A (ix2 ⟨t * 512 + r, by omega⟩ d) := by
  blk_ext [idx t]
theorem block_z (A : FVec Ideal S16384x1024 .bf16) (t : Fin cfg0.N) (ht : t.val < 32) (r : Fin 512) (d : Fin 1024) :
    ((cfg0.win 1).blk t).view.read (Elt Ideal) A (ix2 r d : S512x1024.Idx) = A (ix2 ⟨t * 512 + r, by omega⟩ d) := by
  blk_ext [idx t]
theorem block_w (A : FVec Ideal S2x2048x2048 .bf16) (t : Fin cfg0.N) (d : Fin 2048) (e : Fin 2048) :
    ((cfg0.win 2).blk t).view.read (Elt Ideal) A (ix3 0 d e : S1x2048x2048.Idx) = A (ix3 1 d e) := by
  blk_ext [idx t]
theorem block_x (A : FVec Ideal S16384x2048 .f32) (t : Fin cfg0.N) (ht : t.val < 32) (r : Fin 512) (e : Fin 2048) :
    ((cfg0.win 3).blk t).view.read (Elt Ideal) A (ix2 r e : S512x2048.Idx) = A (ix2 ⟨t * 512 + r, by omega⟩ e) := by
  blk_ext [idx t]
theorem block_g (A : FVec Ideal S1x2048 .f32) (t : Fin cfg0.N) (e : Fin 2048) :
    ((cfg0.win 4).blk t).view.read (Elt Ideal) A (ix2 0 e : S1x2048.Idx) = A (ix2 0 e) := by
  blk_ext [idx t]
theorem block_b (A : FVec Ideal S1x2048 .f32) (t : Fin cfg0.N) (e : Fin 2048) :
    ((cfg0.win 5).blk t).view.read (Elt Ideal) A (ix2 0 e : S1x2048.Idx) = A (ix2 0 e) := by
  blk_ext [idx t]

/-- The results' common value as one function of the arguments: the first mixer's outputs against the upper half of
    the weights plus the second's against the lower half, added to the layer's input and normalised. -/
def result (Y Z : FVec Ideal S16384x1024 .bf16) (W : FVec Ideal S2x2048x2048 .f32) (X : FVec Ideal S16384x2048 .f32)
    (G B : FVec Ideal S4x2048 .f32) : FVec Ideal S16384x2048 .f32 :=
  fun i => norm (fun e => resid (X (ix2 (i 0) e)) ((∑ d : Fin 1024, Y (ix2 (i 0) d) * W (ix3 1 ⟨d, by omega⟩ e))
    + ∑ d : Fin 1024, Z (ix2 (i 0) d) * W (ix3 1 ⟨1024 + d, by omega⟩ e))) (G (ix2 3 (i 1))) (B (ix2 3 (i 1))) (i 1)

/-- One stored tile, rows `128 k` onwards, is the result's at its place, once its operands are read out of the arrays. -/
theorem piece (c : Dev nD) (k : ℕ) (hk : k < 128)
    (y : Vec Ideal S128x1024 .bf16) (u : Vec Ideal S1x1024x2048 .bf16) (z : Vec Ideal S128x1024 .bf16) (w : Vec Ideal S1x1024x2048 .bf16)
    (x : Vec Ideal S128x2048 .f32) (g b : Vec Ideal S1x2048 .f32)
    (hy : ∀ (r : Fin 128) (d : Fin 1024), y (ix2 r d) = argY m c (ix2 ⟨k * 128 + r, by omega⟩ d))
    (hz : ∀ (r : Fin 128) (d : Fin 1024), z (ix2 r d) = argZ m c (ix2 ⟨k * 128 + r, by omega⟩ d))
    (hu : ∀ (d : Fin 1024) (e : Fin 2048), u (ix3 0 d e) = argW m c (ix3 1 ⟨d, by omega⟩ e))
    (hw : ∀ (d : Fin 1024) (e : Fin 2048), w (ix3 0 d e) = argW m c (ix3 1 ⟨1024 + d, by omega⟩ e))
    (hx : ∀ (r : Fin 128) (e : Fin 2048), x (ix2 r e) = argX m c (ix2 ⟨k * 128 + r, by omega⟩ e))
    (hg : ∀ e : Fin 2048, g (ix2 0 e) = argG m c (ix2 3 e)) (hb : ∀ e : Fin 2048, b (ix2 0 e) = argB m c (ix2 3 e))
    (r : Fin 128) (e : Fin 2048) (i : S16384x2048.Idx) (h0 : (i 0 : ℕ) = k * 128 + r) (h1 : (i 1 : ℕ) = e) :
    scaled (centred (resTile (k0_pay4 (F := Ideal) y u z w) x)) g b (ix2 r e)
      = result (argY m c) (argZ m c) (argW m c) (argX m c) (argG m c) (argB m c) i := by
  have e0 : i 0 = (⟨k * 128 + r, by omega⟩ : Fin 16384) := Fin.ext h0
  have e1 : i 1 = e := Fin.ext h1
  rw [tile_at]
  simp only [hy, hz, hu, hw, hx, hg, hb]
  unfold result
  rw [e0, e1]

/-- What a grid point stores is the result under its block. -/
theorem point (c : Dev nD) (t : Fin cfg0.N) (y : S512x2048.Idx) (i : S16384x2048.Idx)
    (i0 : (i 0 : ℕ) = t.val * 512 + (y 0 : ℕ)) (i1 : (i 1 : ℕ) = (y 1 : ℕ)) :
    out0_6 (F := Ideal) (iblk m c 0 t) (iblk m c 1 t) (iblk m c 2 t) (iblk m c 3 t) (iblk m c 4 t) (iblk m c 5 t) y
      = result (argY m c) (argZ m c) (argW m c) (argX m c) (argG m c) (argB m c) i := by
  have ht : t.val < 32 := lt_of_lt_of_eq t.isLt N_0
  have ba : ∀ r d, (iblk m c 0 t : Vec Ideal S512x1024 .bf16) (ix2 r d) = _ := fun r d =>
    (block_y (V m c main_arg0) t ht r d).trans (congrFun (entry_y m c) _)
  have bb : ∀ r d, (iblk m c 1 t : Vec Ideal S512x1024 .bf16) (ix2 r d) = _ := fun r d =>
    (block_z (V m c main_arg1) t ht r d).trans (congrFun (entry_z m c) _)
  have bw : ∀ d e, (iblk m c 2 t : Vec Ideal S1x2048x2048 .bf16) (ix3 0 d e) = _ := fun d e =>
    (block_w (V m c main_v0) t d e).trans (entry_w m c _ _ _)
  have bx : ∀ r e, (iblk m c 3 t : Vec Ideal S512x2048 .f32) (ix2 r e) = _ := fun r e =>
    (block_x (V m c main_arg3) t ht r e).trans (congrFun (entry_x m c) _)
  have bg : ∀ e, (iblk m c 4 t : Vec Ideal S1x2048 .f32) (ix2 0 e) = _ := fun e =>
    (block_g (V m c main_v5) t e).trans (entry_g m c _)
  have bo : ∀ e, (iblk m c 5 t : Vec Ideal S1x2048 .f32) (ix2 0 e) = _ := fun e =>
    (block_b (V m c main_v6) t e).trans (entry_b m c _)
  generalize (iblk m c 0 t : Vec Ideal S512x1024 .bf16) = ya at ba ⊢
  generalize (iblk m c 1 t : Vec Ideal S512x1024 .bf16) = za at bb ⊢
  generalize (iblk m c 2 t : Vec Ideal S1x2048x2048 .bf16) = wa at bw ⊢
  generalize (iblk m c 3 t : Vec Ideal S512x2048 .f32) = xa at bx ⊢
  generalize (iblk m c 4 t : Vec Ideal S1x2048 .f32) = ga at bg ⊢
  generalize (iblk m c 5 t : Vec Ideal S1x2048 .f32) = oa at bo ⊢
  unfold_out out0_6
  rw [tile1, tile2, tile3, tile4, prod1, prod3, prod4]
  canon_tiles x h
  case piece0 =>
    obtain ⟨r, e, rfl⟩ : ∃ r e, x = ix2 r e := ⟨x 0, x 1, by idx_vars x⟩
    refine piece m c (t.val * 4 + 3) (by omega) _ _ _ _ _ _ _ ?_ ?_ ?_ ?_ ?_ ?_ ?_ r e _ ?_ ?_
    · intro r d
      pointwise
      exact (ba _ _).trans (congrArg (fun j => argY m c (ix2 j _)) (Fin.ext (by show t.val * 512 + (384 + (r : ℕ)) = (t.val * 4 + 3) * 128 + (r : ℕ); omega)))
    · intro r d
      pointwise
      exact (bb _ _).trans (congrArg (fun j => argZ m c (ix2 j _)) (Fin.ext (by show t.val * 512 + (384 + (r : ℕ)) = (t.val * 4 + 3) * 128 + (r : ℕ); omega)))
    · intro d e; pointwise; exact bw _ _
    · intro d e; pointwise; exact bw _ _
    · intro r e
      pointwise
      exact (bx _ _).trans (congrArg (fun j => argX m c (ix2 j _)) (Fin.ext (by show t.val * 512 + (384 + (r : ℕ)) = (t.val * 4 + 3) * 128 + (r : ℕ); omega)))
    · intro e; pointwise; exact bg _
    · intro e; pointwise; exact bo _
    · rw [i0, h0]; show t.val * 512 + (384 + (r : ℕ)) = (t.val * 4 + 3) * 128 + (r : ℕ); omega
    · rw [i1, h1]; rfl
  case piece1 =>
    obtain ⟨r, e, rfl⟩ : ∃ r e, x = ix2 r e := ⟨x 0, x 1, by idx_vars x⟩
    refine piece m c (t.val * 4 + 2) (by omega) _ _ _ _ _ _ _ ?_ ?_ ?_ ?_ ?_ ?_ ?_ r e _ ?_ ?_
    · intro r d
      pointwise
      exact (ba _ _).trans (congrArg (fun j => argY m c (ix2 j _)) (Fin.ext (by show t.val * 512 + (256 + (r : ℕ)) = (t.val * 4 + 2) * 128 + (r : ℕ); omega)))
    · intro r d
      pointwise
      exact (bb _ _).trans (congrArg (fun j => argZ m c (ix2 j _)) (Fin.ext (by show t.val * 512 + (256 + (r : ℕ)) = (t.val * 4 + 2) * 128 + (r : ℕ); omega)))
    · intro d e; pointwise; exact bw _ _
    · intro d e; pointwise; exact bw _ _
    · intro r e
      pointwise
      exact (bx _ _).trans (congrArg (fun j => argX m c (ix2 j _)) (Fin.ext (by show t.val * 512 + (256 + (r : ℕ)) = (t.val * 4 + 2) * 128 + (r : ℕ); omega)))
    · intro e; pointwise; exact bg _
    · intro e; pointwise; exact bo _
    · rw [i0, h0]; show t.val * 512 + (256 + (r : ℕ)) = (t.val * 4 + 2) * 128 + (r : ℕ); omega
    · rw [i1, h1]; rfl
  case piece2 =>
    obtain ⟨r, e, rfl⟩ : ∃ r e, x = ix2 r e := ⟨x 0, x 1, by idx_vars x⟩
    refine piece m c (t.val * 4 + 1) (by omega) _ _ _ _ _ _ _ ?_ ?_ ?_ ?_ ?_ ?_ ?_ r e _ ?_ ?_
    · intro r d
      pointwise
      exact (ba _ _).trans (congrArg (fun j => argY m c (ix2 j _)) (Fin.ext (by show t.val * 512 + (128 + (r : ℕ)) = (t.val * 4 + 1) * 128 + (r : ℕ); omega)))
    · intro r d
      pointwise
      exact (bb _ _).trans (congrArg (fun j => argZ m c (ix2 j _)) (Fin.ext (by show t.val * 512 + (128 + (r : ℕ)) = (t.val * 4 + 1) * 128 + (r : ℕ); omega)))
    · intro d e; pointwise; exact bw _ _
    · intro d e; pointwise; exact bw _ _
    · intro r e
      pointwise
      exact (bx _ _).trans (congrArg (fun j => argX m c (ix2 j _)) (Fin.ext (by show t.val * 512 + (128 + (r : ℕ)) = (t.val * 4 + 1) * 128 + (r : ℕ); omega)))
    · intro e; pointwise; exact bg _
    · intro e; pointwise; exact bo _
    · rw [i0, h0]; show t.val * 512 + (128 + (r : ℕ)) = (t.val * 4 + 1) * 128 + (r : ℕ); omega
    · rw [i1, h1]; rfl
  case piece3 =>
    obtain ⟨r, e, rfl⟩ : ∃ r e, x = ix2 r e := ⟨x 0, x 1, by idx_vars x⟩
    refine piece m c (t.val * 4 + 0) (by omega) _ _ _ _ _ _ _ ?_ ?_ ?_ ?_ ?_ ?_ ?_ r e _ ?_ ?_
    · intro r d
      pointwise
      exact (ba _ _).trans (congrArg (fun j => argY m c (ix2 j _)) (Fin.ext (by show t.val * 512 + (r : ℕ) = (t.val * 4 + 0) * 128 + (r : ℕ); omega)))
    · intro r d
      pointwise
      exact (bb _ _).trans (congrArg (fun j => argZ m c (ix2 j _)) (Fin.ext (by show t.val * 512 + (r : ℕ) = (t.val * 4 + 0) * 128 + (r : ℕ); omega)))
    · intro d e; pointwise; exact bw _ _
    · intro d e; pointwise; exact bw _ _
    · intro r e
      pointwise
      exact (bx _ _).trans (congrArg (fun j => argX m c (ix2 j _)) (Fin.ext (by show t.val * 512 + (r : ℕ) = (t.val * 4 + 0) * 128 + (r : ℕ); omega)))
    · intro e; pointwise; exact bg _
    · intro e; pointwise; exact bo _
    · rw [i0, h0]; show t.val * 512 + (r : ℕ) = (t.val * 4 + 0) * 128 + (r : ℕ); omega
    · rw [i1, h1]; rfl

/-- The half-precision buffer holds the same numbers. -/
theorem half_eq (x0 x1 : Vec Ideal S512x1024 .bf16) (x2 : Vec Ideal S1x2048x2048 .bf16) (x3 : Vec Ideal S512x2048 .f32) (x4 x5 : Vec Ideal S1x2048 .f32) :
    (out0_7 (F := Ideal) x0 x1 x2 x3 x4 x5 : S512x2048.Idx → EReal) = out0_6 (F := Ideal) x0 x1 x2 x3 x4 x5 := rfl

/-- The single-precision result array after the run. -/
theorem final6 (c : Dev nD) : (dats m 0 c).arrAt 6 (cfgs 0).N
    = result (argY m c) (argZ m c) (argW m c) (argX m c) (argG m c) (argB m c) := by
  refine (dats m 0 c).arrAt_eq_of_covers 6 _ (by decide +kernel) fun t _ y => ?_
  have i0 : ((((cfg0.win 6).blk t).view.emb y 0 : Fin _) : ℕ) = t.val * 512 + (y 0 : ℕ) := by blk_simp [idx t]
  have i1 : ((((cfg0.win 6).blk t).view.emb y 1 : Fin _) : ℕ) = (y 1 : ℕ) := by blk_simp [idx t]
  blk_simp
  rw [after0_6]
  exact point m c t y _ i0 i1

/-- The half-precision result array after the run. -/
theorem final7 (c : Dev nD) : (dats m 0 c).arrAt 7 (cfgs 0).N
    = result (argY m c) (argZ m c) (argW m c) (argX m c) (argG m c) (argB m c) := by
  refine (dats m 0 c).arrAt_eq_of_covers 7 _ (by decide +kernel) fun t _ y => ?_
  have i0 : ((((cfg0.win 7).blk t).view.emb y 0 : Fin _) : ℕ) = t.val * 512 + (y 0 : ℕ) := by blk_simp [idx t]
  have i1 : ((((cfg0.win 7).blk t).view.emb y 1 : Fin _) : ℕ) = (y 1 : ℕ) := by blk_simp [idx t]
  blk_simp
  rw [after0_7]
  exact (congrFun (half_eq _ _ _ _ _ _) y).trans (point m c t y _ i0 i1)

end Cert.MixIdeal.Value
end
-- ==== Proof.MixRef.lean ====
/- The mixers' output projection with the residual and LayerNorm: the reference's two results, element by element. -/
module

public import proofs.«01_k».proof.Proof.Gen.MixRefIdeal.Run
public import proofs.«01_k».proof.Proof.MixValue

@[expose] public section

set_option maxRecDepth 16384

noncomputable section

namespace Cert.MixRefIdeal.Value

open Idealize.ShloMosaic Idealize.ShloMosaic.TcCoe Idealize.SL.Sem
open Cert.MixRefIdeal Cert.MixRefIdeal.Gen
open Cert.LayerNorm

/-- The residual's array. -/
def res (y z : FVec Ideal S16384x1024 .bf16) (w : FVec Ideal S2x2048x2048 .f32) (x : FVec Ideal S16384x2048 .f32) : FVec Ideal S16384x2048 .f32 :=
  addf (mulf (broadcastInDim S16384x2048 ![] bcast_S_S16384x2048 (constant S_ .f32 0x3FD744FD#32)) x) (Host.dotGeneral (φ₁ := .f32) (φ₂ := .f32) dot_S16384x2048_S2048x2048_S16384x2048_1_0_0_1_n_n none (extf .f32 (concatenate S16384x2048 1 [⟨S16384x1024, y⟩, ⟨S16384x1024, z⟩] concatenates_S16384x1024_S16384x1024_S16384x2048_d1 : FVec Ideal S16384x2048 .bf16) bitsLt_bf16_f32) (shapeCast _ (extractStridedSlice S1x2048x2048 ![1, 0, 0] w slices_S2x2048x2048_S1x2048x2048_1_0_0) shapeCasts_S1x2048x2048_S2048x2048))

/-- The rows less their means. -/
def centred (y : FVec Ideal S16384x2048 .f32) : FVec Ideal S16384x2048 .f32 :=
  subf y (broadcastInDim S16384x2048 ![0, 1] bcast_S16384x1_S16384x2048_0_1 (Host.divf (broadcastInDim S16384x1 ![0] bcast_S16384_S16384x1_0 (Host.reduceAdd y (constant S_ .f32 0x00000000#32) reducesTo_S16384x2048_S16384_d1 h_S_)) (broadcastInDim S16384x1 ![] bcast_S_S16384x1 (constant S_ .f32 0x45000000#32))))

/-- Centred rows over their deviations, times the last layer's gain, plus its offset. -/
def scaled (z : FVec Ideal S16384x2048 .f32) (g b : FVec Ideal S4x2048 .f32) : FVec Ideal S16384x2048 .f32 :=
  addf (mulf (mulf z (broadcastInDim S16384x2048 ![0, 1] bcast_S16384x1_S16384x2048_0_1 (Host.rsqrt (addf (Host.divf (broadcastInDim S16384x1 ![0] bcast_S16384_S16384x1_0 (Host.reduceAdd (mulf z z) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32))))))
    (broadcastInDim S16384x2048 ![0, 1] bcast_S1x2048_S16384x2048_0_1 (broadcastInDim S1x2048 ![1] bcast_S2048_S1x2048_1 (shapeCast _ (extractStridedSlice S1x2048 ![3, 0] g slices_S4x2048_S1x2048_3_0) shapeCasts_S1x2048_S2048))))
    (broadcastInDim S16384x2048 ![0, 1] bcast_S1x2048_S16384x2048_0_1 (broadcastInDim S1x2048 ![1] bcast_S2048_S1x2048_1 (shapeCast _ (extractStridedSlice S1x2048 ![3, 0] b slices_S4x2048_S1x2048_3_0) shapeCasts_S1x2048_S2048)))

theorem res_at (y z : FVec Ideal S16384x1024 .bf16) (w : FVec Ideal S2x2048x2048 .f32) (x : FVec Ideal S16384x2048 .f32) (r : Fin 16384) (e : Fin 2048) :
    res y z w x (ix2 r e) = resid (x (ix2 r e)) ((∑ d : Fin 1024, y (ix2 r d) * w (ix3 1 ⟨d, by omega⟩ e))
      + ∑ d : Fin 1024, z (ix2 r d) * w (ix3 1 ⟨1024 + d, by omega⟩ e)) := by
  pointwise [res, resid]
theorem centred_at (y : FVec Ideal S16384x2048 .f32) (r : Fin 16384) (e : Fin 2048) :
    centred y (ix2 r e) = y (ix2 r e) - mean (fun e => y (ix2 r e)) := by
  pointwise [centred, mean]
theorem scaled_at (z : FVec Ideal S16384x2048 .f32) (g b : FVec Ideal S4x2048 .f32) (r : Fin 16384) (e : Fin 2048) :
    scaled z g b (ix2 r e) = z (ix2 r e) * Ideal.rsqrt (Ideal.div (∑ e : Fin 2048, z (ix2 r e) * z (ix2 r e)) (Ideal.ofBits .f32 0x45000000#32)
      + Ideal.ofBits .f32 0x3727C5AC#32) * g (ix2 3 e) + b (ix2 3 e) := by
  pointwise [scaled]

/-- The kernel's results as a function of the arguments are the reference's. -/
theorem result_eq (y z : FVec Ideal S16384x1024 .bf16) (w : FVec Ideal S2x2048x2048 .f32) (x : FVec Ideal S16384x2048 .f32) (g b : FVec Ideal S4x2048 .f32) :
    Cert.MixIdeal.Value.result y z w x g b = scaled (centred (res y z w x)) g b := by
  funext i
  idx_vars i
  rw [scaled_at]
  simp only [centred_at, res_at]
  rfl

variable (m : (ℓ : Loc nD τ sig) → Buf (Elt Ideal) ℓ)

theorem result0 (c : Dev nD) : res_main_v35 m c = scaled (centred (res (m ((c.tc : Thread nD τ).loc main_arg0)) (m ((c.tc : Thread nD τ).loc main_arg1)) (m ((c.tc : Thread nD τ).loc main_arg2)) (m ((c.tc : Thread nD τ).loc main_arg3)))) (m ((c.tc : Thread nD τ).loc main_arg4)) (m ((c.tc : Thread nD τ).loc main_arg5)) := rfl
theorem result1 (c : Dev nD) : (res_main_v36 m c : S16384x2048.Idx → EReal) = scaled (centred (res (m ((c.tc : Thread nD τ).loc main_arg0)) (m ((c.tc : Thread nD τ).loc main_arg1)) (m ((c.tc : Thread nD τ).loc main_arg2)) (m ((c.tc : Thread nD τ).loc main_arg3)))) (m ((c.tc : Thread nD τ).loc main_arg4)) (m ((c.tc : Thread nD τ).loc main_arg5)) := rfl

end Cert.MixRefIdeal.Value
end
-- ==== Proof.ClaimMix.lean ====
/- The claims about the output projection of the mixers: the reference leaves its arguments and no signal behind, and the kernel's result
   is the reference's. -/
module

public import proofs.«01_k».proof.Defs
public import proofs.«01_k».proof.Proof.MixRef
public import proofs.«01_k».proof.Proof.Gen.Mix.Frame
public import Idealize.ShloMosaic.Lib.Claim
public import Idealize.ShloMosaic.Lib.Quiescent

@[expose] public section

set_option maxRecDepth 16384

noncomputable section

namespace Cert.ClaimMix

open Idealize.ShloMosaic Idealize.SL.Sem

theorem frame_ref : quiescent_MixRefIdeal := fun m g _ =>
  (θ_run Cert.MixRefIdeal.defs _ _).mono
    (fun r h => ⟨fun c => (h c).2.2, sem_eq_zero_of_no_sems (by decide) r.2⟩)
    (Cert.MixRefIdeal.Value.run m g)

theorem algebraic : algebraic_MixIdeal_MixRefIdeal := by
  pair_intro
  · run_from Cert.MixIdeal.Gen.run_main m g
  · run_from Cert.MixRefIdeal.Value.run m' g'
    all_goals obtain ⟨e₀, e₁, e₂, e₃, e₄, e₅⟩ := hagree c
    · rw [Cert.MixRefIdeal.Value.result0, e₀, e₁, e₂, e₃, e₄, e₅]
      exact ((Cert.MixIdeal.Value.final6 m c).trans (Cert.MixRefIdeal.Value.result_eq _ _ _ _ _ _)).symm
    · rw [Cert.MixRefIdeal.Value.result1, e₀, e₁, e₂, e₃, e₄, e₅]
      exact ((Cert.MixIdeal.Value.final7 m c).trans (Cert.MixRefIdeal.Value.result_eq _ _ _ _ _ _)).symm

end Cert.ClaimMix
end
-- ==== Proof.AbInValue.lean ====
/- The input projection of the even layers: what one grid point computes, the array after the run as one function of the
   arguments, and the reference's product, which is the same. -/
module

public import proofs.«01_k».proof.Proof.Gen.AbInIdeal.Value
public import proofs.«01_k».proof.Proof.Gen.AbInRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AbInIdeal.Value

open Idealize.ShloMosaic Idealize.ShloMosaic.TcCoe Idealize.SL.Sem
open Idealize.ShloMosaic.Pipeline (Dat)
open Cert.AbInIdeal Cert.AbInIdeal.Gen

/-- A stored tile at a position. -/
theorem tile_at (x : Vec Ideal S1024x2048 .f32) (w : Vec Ideal S2048x1024 .bf16) (r : Fin 1024) (e : Fin 1024) :
    k0_pay2 (F := Ideal) x w (ix2 r e) = ∑ d : Fin 2048, x (ix2 r d) * w (ix2 d e) := by
  pointwise [k0_pay2]

theorem weight_at (w : Vec Ideal S1x2048x1024 .f32) (d : Fin 2048) (e : Fin 1024) :
    k0_pay1 (F := Ideal) w (ix2 d e) = w (ix3 0 d e) := by pointwise [k0_pay1]

variable (m : (ℓ : Loc nD τ sig) → Buf (Elt Ideal) ℓ)

/-- The layer's input and the stack of weights. -/
abbrev argX (c : Dev nD) : FVec Ideal S16384x2048 .f32 := m ((c : Thread nD τ).loc main_arg0)
abbrev argW (c : Dev nD) : FVec Ideal S2x2048x8192 .f32 := m ((c : Thread nD τ).loc main_arg1)

theorem entry_x (c : Dev nD) : V m c main_arg0 = m ((c : Thread nD τ).loc main_arg0) := by entry_read; rfl
theorem entry_w (c : Dev nD) : V m c main_arg1 = m ((c : Thread nD τ).loc main_arg1) := by entry_read; rfl

theorem idx : ∀ t : Fin cfg0.N, win0_0.index t = ![t.val % 16, 0]
    ∧ win0_1.index t = ![0, 0, t.val / 16] ∧ win0_2.index t = ![t.val % 16, t.val / 16] :=
  (by decide +kernel : ∀ t : Fin grid0.N, _)

/-- The input blocks of a grid point, read out of any array. -/
theorem block_x (A : FVec Ideal S16384x2048 .f32) (t : Fin cfg0.N) (ht : t.val < 128) (r : Fin 1024) (d : Fin 2048) :
    ((cfg0.win 0).blk t).view.read (Elt Ideal) A (ix2 r d : S1024x2048.Idx) = A (ix2 ⟨t % 16 * 1024 + r, by omega⟩ d) := by
  blk_ext [idx t]
theorem block_w (A : FVec Ideal S2x2048x8192 .f32) (t : Fin cfg0.N) (ht : t.val < 128) (d : Fin 2048) (e : Fin 1024) :
    ((cfg0.win 1).blk t).view.read (Elt Ideal) A (ix3 0 d e : S1x2048x1024.Idx) = A (ix3 0 d ⟨t / 16 * 1024 + e, by omega⟩) := by
  blk_ext [idx t]

/-- The layer's weights in the columns of one grid column. -/
def columns (A : FVec Ideal S2x2048x8192 .f32) (j : Fin 8) : Vec Ideal S2048x1024 .bf16 :=
  fun i => A (ix3 0 (i 0) ⟨j * 1024 + (i 1 : ℕ), by have h : (i 1 : ℕ) < 1024 := (i 1).isLt; omega⟩)

/-- What the first row of the grid lays down in the buffer. -/
theorem laid (c : Dev nD) (t : Fin cfg0.N) (j : Fin 8) (hj : (j : ℕ) = t.val / 16) (h0 : t.val % 16 = 0) :
    (outsAt0 m c t.val t.isLt).2 = columns (argW m c) j := by
  have ht : t.val < 128 := lt_of_lt_of_eq t.isLt N_0
  obtain ⟨j, hlt⟩ := j
  obtain rfl : j = t.val / 16 := hj
  rw [outsAt0_A m c t h0]
  dsimp only
  frame_out
  funext i
  idx_vars i
  rw [weight_at]
  exact (block_w (V m c main_arg1) t ht _ _).trans (congrFun (entry_w m c) _)

/-- The buffer holds the point's columns of the weights after every point. -/
theorem held (c : Dev nD) : ∀ (n : ℕ) (hn : n < cfg0.N) (j : Fin 8) (hj : (j : ℕ) = n / 16),
    (outsAt0 m c n hn).2 = columns (argW m c) j := by
  intro n
  induction n with
  | zero => exact fun hn j hj => laid m c ⟨0, hn⟩ j hj rfl
  | succ n ih =>
    intro hn j hj
    by_cases h0 : (n + 1) % 16 = 0
    · exact laid m c ⟨n + 1, hn⟩ j hj h0
    · have hp := ih (Nat.lt_of_succ_lt hn) j (by omega)
      rw [← hp, outsAt0_B m c ⟨n + 1, hn⟩ h0]
      rfl

/-- The result as one function of the arguments: the product with layer 0's weights. -/
def result (X : FVec Ideal S16384x2048 .f32) (W : FVec Ideal S2x2048x8192 .f32) : FVec Ideal S16384x8192 .f32 :=
  fun i => ∑ d : Fin 2048, X (ix2 (i 0) d) * W (ix3 0 d (i 1))

/-- What a grid point stores, the buffer's contents read as the weights' columns. -/
theorem stored (c : Dev nD) (t : Fin cfg0.N) (j : Fin 8) (hj : (j : ℕ) = t.val / 16) :
    (outsAt0 m c t.val t.isLt).1 = k0_pay2 (F := Ideal) (iblk m c 0 t) (columns (argW m c) j) := by
  by_cases h0 : t.val % 16 = 0
  · have hl := laid m c t j hj h0
    rw [outsAt0_A m c t h0] at hl ⊢
    dsimp only at hl ⊢
    rw [← hl]
    frame_out
  · have hl := held m c (t.val - 1) (Nat.lt_of_le_of_lt (Nat.sub_le _ _) t.isLt) j (by omega)
    rw [outsAt0_B m c t h0, hl]
    dsimp only
    frame_out
    exact congrArg _ (read_unread_whole _ _ _)

/-- What a grid point stores is the result under its block. -/
theorem point (c : Dev nD) (t : Fin cfg0.N) (y : S1024x1024.Idx) :
    (outsAt0 m c t.val t.isLt).1 y = result (argX m c) (argW m c) (((cfg0.win 2).blk t).view.emb y) := by
  have ht : t.val < 128 := lt_of_lt_of_eq t.isLt N_0
  have y0lt : (y 0 : ℕ) < 1024 := (y 0).isLt
  have y1lt : (y 1 : ℕ) < 1024 := (y 1).isLt
  have i0 : ((((cfg0.win 2).blk t).view.emb y 0 : Fin _) : ℕ) = t % 16 * 1024 + (y 0 : ℕ) := by blk_simp [idx t]
  have i1 : ((((cfg0.win 2).blk t).view.emb y 1 : Fin _) : ℕ) = t / 16 * 1024 + (y 1 : ℕ) := by blk_simp [idx t]
  have bx : ∀ r d, (iblk m c 0 t : Vec Ideal S1024x2048 .f32) (ix2 r d) = _ := fun r d =>
    (block_x (V m c main_arg0) t ht r d).trans (congrFun (entry_x m c) _)
  rw [stored m c t ⟨t.val / 16, by omega⟩ rfl]
  generalize ((cfg0.win 2).blk t).view.emb y = i at i0 i1 ⊢
  idx_vars y
  rw [tile_at]
  have e0 : i 0 = (⟨t % 16 * 1024 + y0, by omega⟩ : Fin 16384) := Fin.ext i0
  have e1 : i 1 = (⟨t / 16 * 1024 + y1, by omega⟩ : Fin 8192) := Fin.ext i1
  unfold result
  rw [e0, e1]
  simp only [bx]
  rfl

/-- The result array after the run. -/
theorem final (c : Dev nD) : (dats m 0 c).arrAt 2 (cfgs 0).N = result (argX m c) (argW m c) := by
  refine (dats m 0 c).arrAt_eq_of_covers 2 _ (by decide +kernel) fun t _ y => ?_
  blk_simp
  rw [after0_2]
  exact point m c t y

end Cert.AbInIdeal.Value

namespace Cert.AbInRefIdeal.Value

open Idealize.ShloMosaic Idealize.ShloMosaic.TcCoe
open Cert.AbInRefIdeal Cert.AbInRefIdeal.Gen

/-- The reference's result. -/
def REF (x : FVec Ideal S16384x2048 .f32) (w : FVec Ideal S2x2048x8192 .f32) : FVec Ideal S16384x8192 .f32 :=
  Host.dotGeneral (F := Ideal) dot_S16384x2048_S2048x8192_S16384x8192_1_0_0_1_n_n none x (shapeCast _ (extractStridedSlice S1x2048x8192 ![0, 0, 0] w slices_S2x2048x8192_S1x2048x8192_0_0_0) shapeCasts_S1x2048x8192_S2048x8192)

theorem REF_at (x : FVec Ideal S16384x2048 .f32) (w : FVec Ideal S2x2048x8192 .f32) (r : Fin 16384) (e : Fin 8192) :
    REF x w (ix2 r e) = ∑ d : Fin 2048, x (ix2 r d) * w (ix3 0 d e) := by
  pointwise [REF]

/-- The kernel's array is the reference's. -/
theorem result_eq (x : FVec Ideal S16384x2048 .f32) (w : FVec Ideal S2x2048x8192 .f32) :
    Cert.AbInIdeal.Value.result x w = REF x w := by
  funext i
  obtain ⟨r, e, rfl⟩ : ∃ (r : Fin 16384) (e : Fin 8192), i = ix2 r e := ⟨i 0, i 1, by idx_vars i⟩
  rw [REF_at]
  rfl

end Cert.AbInRefIdeal.Value
end
-- ==== Proof.ClaimAbIn.lean ====
/- The claims about the input projection of the even layers: the reference leaves its arguments and no signal behind, and the kernel's result
   is the reference's. -/
module

public import proofs.«01_k».proof.Defs
public import proofs.«01_k».proof.Proof.AbInValue
public import proofs.«01_k».proof.Proof.Gen.AbIn.Frame
public import Idealize.ShloMosaic.Lib.Claim
public import Idealize.ShloMosaic.Lib.Quiescent

@[expose] public section

set_option maxRecDepth 16384

noncomputable section

namespace Cert.ClaimAbIn

open Idealize.ShloMosaic Idealize.SL.Sem

theorem frame_ref : quiescent_AbInRefIdeal := fun m g _ =>
  (θ_run Cert.AbInRefIdeal.defs _ _).mono
    (fun r h => ⟨fun c => (h c).2, sem_eq_zero_of_no_sems (by decide) r.2⟩)
    (Cert.AbInRefIdeal.Value.run m g)

theorem algebraic : algebraic_AbInIdeal_AbInRefIdeal := by
  pair_intro
  · run_from Cert.AbInIdeal.Gen.run_main m g
  · run_from Cert.AbInRefIdeal.Value.run m' g'
    exact ((Cert.AbInIdeal.Value.final m c).trans (Cert.AbInRefIdeal.Value.result_eq _ _)).symm

end Cert.ClaimAbIn
end
-- ==== Proof.CdInValue.lean ====
/- The input projection of the odd layers: what one grid point computes, the array after the run as one function of the
   arguments, and the reference's product, which is the same. -/
module

public import proofs.«01_k».proof.Proof.Gen.CdInIdeal.Value
public import proofs.«01_k».proof.Proof.Gen.CdInRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.CdInIdeal.Value

open Idealize.ShloMosaic Idealize.ShloMosaic.TcCoe Idealize.SL.Sem
open Idealize.ShloMosaic.Pipeline (Dat)
open Cert.CdInIdeal Cert.CdInIdeal.Gen

/-- A stored tile at a position. -/
theorem tile_at (x : Vec Ideal S1024x2048 .bf16) (w : Vec Ideal S2048x1280 .bf16) (r : Fin 1024) (e : Fin 1280) :
    k0_pay2 (F := Ideal) x w (ix2 r e) = ∑ d : Fin 2048, x (ix2 r d) * w (ix2 d e) := by
  pointwise [k0_pay2]

theorem weight_at (w : Vec Ideal S1x2048x1280 .f32) (d : Fin 2048) (e : Fin 1280) :
    k0_pay1 (F := Ideal) w (ix2 d e) = w (ix3 0 d e) := by pointwise [k0_pay1]

variable (m : (ℓ : Loc nD τ sig) → Buf (Elt Ideal) ℓ)

/-- The layer's input and the stack of weights. -/
abbrev argX (c : Dev nD) : FVec Ideal S16384x2048 .bf16 := m ((c : Thread nD τ).loc main_arg0)
abbrev argW (c : Dev nD) : FVec Ideal S2x2048x2560 .f32 := m ((c : Thread nD τ).loc main_arg1)

theorem entry_x (c : Dev nD) : V m c main_arg0 = m ((c : Thread nD τ).loc main_arg0) := by entry_read; rfl
theorem entry_w (c : Dev nD) : V m c main_arg1 = m ((c : Thread nD τ).loc main_arg1) := by entry_read; rfl

theorem idx : ∀ t : Fin cfg0.N, win0_0.index t = ![t.val % 16, 0]
    ∧ win0_1.index t = ![1, 0, t.val / 16] ∧ win0_2.index t = ![t.val % 16, t.val / 16] :=
  (by decide +kernel : ∀ t : Fin grid0.N, _)

/-- The input blocks of a grid point, read out of any array. -/
theorem block_x (A : FVec Ideal S16384x2048 .bf16) (t : Fin cfg0.N) (ht : t.val < 32) (r : Fin 1024) (d : Fin 2048) :
    ((cfg0.win 0).blk t).view.read (Elt Ideal) A (ix2 r d : S1024x2048.Idx) = A (ix2 ⟨t % 16 * 1024 + r, by omega⟩ d) := by
  blk_ext [idx t]
theorem block_w (A : FVec Ideal S2x2048x2560 .f32) (t : Fin cfg0.N) (ht : t.val < 32) (d : Fin 2048) (e : Fin 1280) :
    ((cfg0.win 1).blk t).view.read (Elt Ideal) A (ix3 0 d e : S1x2048x1280.Idx) = A (ix3 1 d ⟨t / 16 * 1280 + e, by omega⟩) := by
  blk_ext [idx t]

/-- The layer's weights in the columns of one grid column. -/
def columns (A : FVec Ideal S2x2048x2560 .f32) (j : Fin 2) : Vec Ideal S2048x1280 .bf16 :=
  fun i => A (ix3 1 (i 0) ⟨j * 1280 + (i 1 : ℕ), by have h : (i 1 : ℕ) < 1280 := (i 1).isLt; omega⟩)

/-- What the first row of the grid lays down in the buffer. -/
theorem laid (c : Dev nD) (t : Fin cfg0.N) (j : Fin 2) (hj : (j : ℕ) = t.val / 16) (h0 : t.val % 16 = 0) :
    (outsAt0 m c t.val t.isLt).2 = columns (argW m c) j := by
  have ht : t.val < 32 := lt_of_lt_of_eq t.isLt N_0
  obtain ⟨j, hlt⟩ := j
  obtain rfl : j = t.val / 16 := hj
  rw [outsAt0_A m c t h0]
  dsimp only
  frame_out
  funext i
  idx_vars i
  rw [weight_at]
  exact (block_w (V m c main_arg1) t ht _ _).trans (congrFun (entry_w m c) _)

/-- The buffer holds the point's columns of the weights after every point. -/
theorem held (c : Dev nD) : ∀ (n : ℕ) (hn : n < cfg0.N) (j : Fin 2) (hj : (j : ℕ) = n / 16),
    (outsAt0 m c n hn).2 = columns (argW m c) j := by
  intro n
  induction n with
  | zero => exact fun hn j hj => laid m c ⟨0, hn⟩ j hj rfl
  | succ n ih =>
    intro hn j hj
    by_cases h0 : (n + 1) % 16 = 0
    · exact laid m c ⟨n + 1, hn⟩ j hj h0
    · have hp := ih (Nat.lt_of_succ_lt hn) j (by omega)
      rw [← hp, outsAt0_B m c ⟨n + 1, hn⟩ h0]
      rfl

/-- The result as one function of the arguments: the product with layer 1's weights. -/
def result (X : FVec Ideal S16384x2048 .bf16) (W : FVec Ideal S2x2048x2560 .f32) : FVec Ideal S16384x2560 .f32 :=
  fun i => ∑ d : Fin 2048, X (ix2 (i 0) d) * W (ix3 1 d (i 1))

/-- What a grid point stores, the buffer's contents read as the weights' columns. -/
theorem stored (c : Dev nD) (t : Fin cfg0.N) (j : Fin 2) (hj : (j : ℕ) = t.val / 16) :
    (outsAt0 m c t.val t.isLt).1 = k0_pay2 (F := Ideal) (iblk m c 0 t) (columns (argW m c) j) := by
  by_cases h0 : t.val % 16 = 0
  · have hl := laid m c t j hj h0
    rw [outsAt0_A m c t h0] at hl ⊢
    dsimp only at hl ⊢
    rw [← hl]
    frame_out
  · have hl := held m c (t.val - 1) (Nat.lt_of_le_of_lt (Nat.sub_le _ _) t.isLt) j (by omega)
    rw [outsAt0_B m c t h0, hl]
    dsimp only
    frame_out
    exact congrArg _ (read_unread_whole _ _ _)

/-- What a grid point stores is the result under its block. -/
theorem point (c : Dev nD) (t : Fin cfg0.N) (y : S1024x1280.Idx) :
    (outsAt0 m c t.val t.isLt).1 y = result (argX m c) (argW m c) (((cfg0.win 2).blk t).view.emb y) := by
  have ht : t.val < 32 := lt_of_lt_of_eq t.isLt N_0
  have y0lt : (y 0 : ℕ) < 1024 := (y 0).isLt
  have y1lt : (y 1 : ℕ) < 1280 := (y 1).isLt
  have i0 : ((((cfg0.win 2).blk t).view.emb y 0 : Fin _) : ℕ) = t % 16 * 1024 + (y 0 : ℕ) := by blk_simp [idx t]
  have i1 : ((((cfg0.win 2).blk t).view.emb y 1 : Fin _) : ℕ) = t / 16 * 1280 + (y 1 : ℕ) := by blk_simp [idx t]
  have bx : ∀ r d, (iblk m c 0 t : Vec Ideal S1024x2048 .bf16) (ix2 r d) = _ := fun r d =>
    (block_x (V m c main_arg0) t ht r d).trans (congrFun (entry_x m c) _)
  rw [stored m c t ⟨t.val / 16, by omega⟩ rfl]
  generalize ((cfg0.win 2).blk t).view.emb y = i at i0 i1 ⊢
  idx_vars y
  rw [tile_at]
  have e0 : i 0 = (⟨t % 16 * 1024 + y0, by omega⟩ : Fin 16384) := Fin.ext i0
  have e1 : i 1 = (⟨t / 16 * 1280 + y1, by omega⟩ : Fin 2560) := Fin.ext i1
  unfold result
  rw [e0, e1]
  simp only [bx]
  rfl

/-- The result array after the run. -/
theorem final (c : Dev nD) : (dats m 0 c).arrAt 2 (cfgs 0).N = result (argX m c) (argW m c) := by
  refine (dats m 0 c).arrAt_eq_of_covers 2 _ (by decide +kernel) fun t _ y => ?_
  blk_simp
  rw [after0_2]
  exact point m c t y

end Cert.CdInIdeal.Value

namespace Cert.CdInRefIdeal.Value

open Idealize.ShloMosaic Idealize.ShloMosaic.TcCoe
open Cert.CdInRefIdeal Cert.CdInRefIdeal.Gen

/-- The reference's result. -/
def REF (x : FVec Ideal S16384x2048 .bf16) (w : FVec Ideal S2x2048x2560 .f32) : FVec Ideal S16384x2560 .f32 :=
  Host.dotGeneral (F := Ideal) dot_S16384x2048_S2048x2560_S16384x2560_1_0_0_1_n_n none (extf .f32 x bitsLt_bf16_f32) (shapeCast _ (extractStridedSlice S1x2048x2560 ![1, 0, 0] w slices_S2x2048x2560_S1x2048x2560_1_0_0) shapeCasts_S1x2048x2560_S2048x2560)

theorem REF_at (x : FVec Ideal S16384x2048 .bf16) (w : FVec Ideal S2x2048x2560 .f32) (r : Fin 16384) (e : Fin 2560) :
    REF x w (ix2 r e) = ∑ d : Fin 2048, x (ix2 r d) * w (ix3 1 d e) := by
  pointwise [REF]

/-- The kernel's array is the reference's. -/
theorem result_eq (x : FVec Ideal S16384x2048 .bf16) (w : FVec Ideal S2x2048x2560 .f32) :
    Cert.CdInIdeal.Value.result x w = REF x w := by
  funext i
  obtain ⟨r, e, rfl⟩ : ∃ (r : Fin 16384) (e : Fin 2560), i = ix2 r e := ⟨i 0, i 1, by idx_vars i⟩
  rw [REF_at]
  rfl

end Cert.CdInRefIdeal.Value
end
-- ==== Proof.ClaimCdIn.lean ====
/- The claims about the input projection of the odd layers: the reference leaves its arguments and no signal behind, and the kernel's result
   is the reference's. -/
module

public import proofs.«01_k».proof.Defs
public import proofs.«01_k».proof.Proof.CdInValue
public import proofs.«01_k».proof.Proof.Gen.CdIn.Frame
public import Idealize.ShloMosaic.Lib.Claim
public import Idealize.ShloMosaic.Lib.Quiescent

@[expose] public section

set_option maxRecDepth 16384

noncomputable section

namespace Cert.ClaimCdIn

open Idealize.ShloMosaic Idealize.SL.Sem

theorem frame_ref : quiescent_CdInRefIdeal := fun m g _ =>
  (θ_run Cert.CdInRefIdeal.defs _ _).mono
    (fun r h => ⟨fun c => (h c).2, sem_eq_zero_of_no_sems (by decide) r.2⟩)
    (Cert.CdInRefIdeal.Value.run m g)

theorem algebraic : algebraic_CdInIdeal_CdInRefIdeal := by
  pair_intro
  · run_from Cert.CdInIdeal.Gen.run_main m g
  · run_from Cert.CdInRefIdeal.Value.run m' g'
    exact ((Cert.CdInIdeal.Value.final m c).trans (Cert.CdInRefIdeal.Value.result_eq _ _)).symm

end Cert.ClaimCdIn
end
-- ==== Proof.NaTable.lean ====
/- What the neighbourhood attention's kernel and its reference share: reading the table of relative biases through a
   gather by pairs of clipped differences, and the arithmetic of the neighbourhoods. -/
module

public import proofs.«01_k».proof.Proof.Numbers
public import Idealize.ShloMosaic.Lib.ValueIdx
public import Idealize.ShloMosaic.Lib.Pointwise

@[expose] public section

set_option maxRecDepth 16384

noncomputable section

namespace Cert.NaTable

open Idealize.ShloMosaic

/-- The gather's dimension numbers for `A` rows of queries and `B` rows of keys of 64 places each: a head's axis kept
    whole, the table's two other axes taken at the pair of numbers the indices hold. -/
abbrev pairDims (A B : ℕ)
    (wf : GatherDims.WF ⟨3, ![8, 15, 31]⟩ ⟨5, ![A, 64, B, 64, 2]⟩ ⟨5, ![8, A, 64, B, 64]⟩ [0] [1, 2] [] [1, 2] [] 4 ![8, 1, 1]) :
    GatherDims ⟨3, ![8, 15, 31]⟩ ⟨5, ![A, 64, B, 64, 2]⟩ ⟨5, ![8, A, 64, B, 64]⟩ where
  offsetDims := [0]
  collapsedSliceDims := [1, 2]
  operandBatchingDims := []
  startIndicesBatchingDims := []
  startIndexMap := [1, 2]
  indexVectorDim := 4
  sliceSizes := ![8, 1, 1]
  wf := wf

theorem gather_pair {A B : ℕ} {α : Type} (wf) (x : (⟨3, ![8, 15, 31]⟩ : Shape).Idx → α) (w : IVec ⟨5, ![A, 64, B, 64, 2]⟩ 32)
    (h : Fin 8) (a : Fin A) (c : Fin 64) (b : Fin B) (d : Fin 64) :
    Host.gather (pairDims A B wf) x w (ix5 h a c b d)
      = x (ix3 h ⟨min (w (ix5 a c b d (0 : Fin 2))).toInt.toNat 14, by omega⟩
          ⟨min (w (ix5 a c b d (1 : Fin 2))).toInt.toNat 30, by omega⟩) := by
  unfold Host.gather
  refine congrArg x (funext fun k => Fin.ext ?_)
  show (pairDims A B wf).start (ix5 h a c b d) w k + (pairDims A B wf).batchCoord (ix5 h a c b d) k
    + (pairDims A B wf).offCoord (ix5 h a c b d) k = _
  rw [GatherDims.batchCoord_eq_zero _ _ _ List.not_mem_nil]
  have hk : k = 0 ∨ k = 1 ∨ k = 2 := by
    match k with
    | ⟨0, _⟩ => exact .inl rfl
    | ⟨1, _⟩ => exact .inr (.inl rfl)
    | ⟨2, _⟩ => exact .inr (.inr rfl)
  rcases hk with rfl | rfl | rfl
  · unfold GatherDims.start
    rw [dif_neg (show (0 : Fin 3) ∉ [(1 : Fin 3), 2] by decide)]
    show 0 + 0 + _ = (h : ℕ)
    unfold GatherDims.offCoord
    rw [dif_pos ((GatherDims.mem_sKept _ _).2 ⟨show (0 : Fin 3) ∉ [(1 : Fin 3), 2] by decide, List.not_mem_nil⟩)]
    rw [Nat.add_zero, Nat.zero_add]
    rfl
  · rw [GatherDims.offCoord_eq_zero _ _ _ (fun h => ((GatherDims.mem_sKept _ _).mp h).1 (show (1 : Fin 3) ∈ [(1 : Fin 3), 2] by decide))]
    unfold GatherDims.start
    rw [dif_pos (show (1 : Fin 3) ∈ [(1 : Fin 3), 2] by decide)]
    have hs : (pairDims A B wf).siIdx (ix5 h a c b d) ⟨List.idxOf (1 : Fin 3) (pairDims A B wf).startIndexMap,
        List.idxOf_lt_length_iff.2 (show (1 : Fin 3) ∈ [(1 : Fin 3), 2] by decide)⟩ = ix5 a c b d (0 : Fin 2) := by
      funext e; refine Fin.ext ?_
      match e with
      | ⟨0, _⟩ => rfl
      | ⟨1, _⟩ => rfl
      | ⟨2, _⟩ => rfl
      | ⟨3, _⟩ => rfl
      | ⟨4, _⟩ => rfl
    rw [hs]
    rfl
  · rw [GatherDims.offCoord_eq_zero _ _ _ (fun h => ((GatherDims.mem_sKept _ _).mp h).1 (show (2 : Fin 3) ∈ [(1 : Fin 3), 2] by decide))]
    unfold GatherDims.start
    rw [dif_pos (show (2 : Fin 3) ∈ [(1 : Fin 3), 2] by decide)]
    have hs : (pairDims A B wf).siIdx (ix5 h a c b d) ⟨List.idxOf (2 : Fin 3) (pairDims A B wf).startIndexMap,
        List.idxOf_lt_length_iff.2 (show (2 : Fin 3) ∈ [(1 : Fin 3), 2] by decide)⟩ = ix5 a c b d (1 : Fin 2) := by
      funext e; refine Fin.ext ?_
      match e with
      | ⟨0, _⟩ => rfl
      | ⟨1, _⟩ => rfl
      | ⟨2, _⟩ => rfl
      | ⟨3, _⟩ => rfl
      | ⟨4, _⟩ => rfl
    rw [hs]
    rfl

/-- Which of the 32 rows of keys a row of queries looks at: the eight from the one four above it on, kept inside. -/
def rowsNear (a b : ℕ) : Prop := min (a - 4) 24 ≤ b ∧ b < min (a - 4) 24 + 8
/-- Which of a row's 64 places a place looks at: the sixteen from the one eight before it on, kept inside. -/
def colsNear (c d : ℕ) : Prop := min (c - 8) 48 ≤ d ∧ d < min (c - 8) 48 + 16
instance (a b : ℕ) : Decidable (rowsNear a b) := inferInstanceAs (Decidable (_ ∧ _))
instance (c d : ℕ) : Decidable (colsNear c d) := inferInstanceAs (Decidable (_ ∧ _))

/-- The first row of keys of a group of four rows of queries: four above the group, kept inside. -/
def start (g : ℕ) : ℕ := min (4 * g - 4) 20

/-- The rows a row of queries looks at are all among the twelve of its group. -/
theorem near_window (a b : ℕ) (ha : a < 32) (h : rowsNear a b) : start (a / 4) ≤ b ∧ b < start (a / 4) + 12 := by
  unfold rowsNear at h
  unfold start
  omega

/-- A row is near itself, and a place is. -/
theorem near_self (a : ℕ) (ha : a < 32) : rowsNear a a := by unfold rowsNear; omega
theorem near_self' (c : ℕ) (hc : c < 64) : colsNear c c := by unfold colsNear; omega

/-- Seen from the first row of its group's keys, a row of queries looks at the eight rows from its own distance less
    four on, kept within the twelve. -/
theorem near_shift (a u : ℕ) (ha : a < 32) :
    rowsNear a (start (a / 4) + u) ↔ min (a - start (a / 4) - 4) 4 ≤ u ∧ u < min (a - start (a / 4) - 4) 4 + 8 := by
  unfold rowsNear start
  omega

/-- A sum of real multiples, the weights of the scores that are real numbers and none for the others, over a part of
    the keys that holds all those with a real score: the kernel's row of attention is the reference's. `p` says which
    scores are real, `f` their values, `e` where the part's keys lie among all. -/
theorem attend_part {n w : ℕ} (p : Fin n → Prop) [DecidablePred p] (f : Fin n → ℝ) (v : Fin n → EReal) (e : Fin w → Fin n)
    (he : Function.Injective e) (hp : ∀ s, p s → ∃ k, e k = s) (h0 : ∃ s, p s) :
    Ideal.div
        (∑ k, Ideal.exp2 ((if p (e k) then ((f (e k) / Real.log 2 : ℝ) : EReal) else ⊥)
          - Finset.univ.fold max ⊥ fun k => if p (e k) then ((f (e k) / Real.log 2 : ℝ) : EReal) else ⊥) * v (e k))
        (∑ k, Ideal.exp2 ((if p (e k) then ((f (e k) / Real.log 2 : ℝ) : EReal) else ⊥)
          - Finset.univ.fold max ⊥ fun k => if p (e k) then ((f (e k) / Real.log 2 : ℝ) : EReal) else ⊥))
      = ∑ s, v s * Ideal.div (Ideal.exp ((if p s then (f s : EReal) else ⊥)
            - max ⊥ (Finset.univ.fold max ⊥ fun s => if p s then (f s : EReal) else ⊥)))
          (∑ s, Ideal.exp ((if p s then (f s : EReal) else ⊥)
            - max ⊥ (Finset.univ.fold max ⊥ fun s => if p s then (f s : EReal) else ⊥))) := by
  classical
  obtain ⟨i, hi, hm⟩ : ∃ i, p i ∧ ∀ j, p j → f j ≤ f i := by
    obtain ⟨s, hs⟩ := h0
    obtain ⟨i, hi, hm⟩ := Finset.exists_max_image (Finset.univ.filter p) f ⟨s, by simpa using hs⟩
    exact ⟨i, by simpa using hi, fun j hj => hm j (by simpa using hj)⟩
  obtain ⟨k, hk⟩ := hp i hi
  have hl : 0 < Real.log 2 := Real.log_pos (by norm_num)
  have m1 : Finset.univ.fold max ⊥ (fun s => if p s then (f s : EReal) else ⊥) = (f i : EReal) := by
    refine le_antisymm (Finset.fold_max_le _ |>.2 ⟨bot_le, fun j _ => ?_⟩) ?_
    · split
      · rename_i h; exact_mod_cast hm j h
      · exact bot_le
    · exact (Finset.le_fold_max _).2 (.inr ⟨i, Finset.mem_univ i, by rw [if_pos hi]⟩)
  have m2 : Finset.univ.fold max ⊥ (fun k => if p (e k) then ((f (e k) / Real.log 2 : ℝ) : EReal) else ⊥)
      = ((f i / Real.log 2 : ℝ) : EReal) := by
    refine le_antisymm (Finset.fold_max_le _ |>.2 ⟨bot_le, fun j _ => ?_⟩) ?_
    · split
      · rename_i h; exact_mod_cast div_le_div_of_nonneg_right (hm _ h) hl.le
      · exact bot_le
    · exact (Finset.le_fold_max _).2 (.inr ⟨k, Finset.mem_univ k, by rw [hk, if_pos hi]⟩)
  let E : Fin n → ℝ := fun s => if p s then Real.exp (f s - f i) else 0
  have e1 (s) : Ideal.exp ((if p s then (f s : EReal) else ⊥) - max ⊥ (f i : EReal)) = (E s : EReal) := by
    rw [max_eq_right bot_le]
    by_cases h : p s
    · simp only [E, if_pos h]
      rw [← EReal.coe_sub, Ideal.exp_coe]
    · simp only [E, if_neg h]
      rw [EReal.bot_sub, Ideal.exp_bot, EReal.coe_zero]
  have e2 (k) : Ideal.exp2 ((if p (e k) then ((f (e k) / Real.log 2 : ℝ) : EReal) else ⊥) - ((f i / Real.log 2 : ℝ) : EReal))
      = (E (e k) : EReal) := by
    by_cases h : p (e k)
    · simp only [E, if_pos h]
      exact Cert.Numbers.exp2_div_log _ _
    · simp only [E, if_neg h]
      rw [EReal.bot_sub, Ideal.exp2_bot, EReal.coe_zero]
  have hz (s) (h : s ∉ Set.range e) : E s = 0 := if_neg fun hs => h (by obtain ⟨k, hk⟩ := hp s hs; exact ⟨k, hk⟩)
  rw [m1, m2]
  simp only [e1, e2]
  rw [Fintype.sum_of_injective e he (fun k => (E (e k) : EReal) * v (e k)) (fun s => (E s : EReal) * v s)
      (fun s h => by rw [hz s h, EReal.coe_zero, zero_mul]) (fun _ => rfl),
    Fintype.sum_of_injective e he (fun k => (E (e k) : EReal)) (fun s => (E s : EReal))
      (fun s h => by rw [hz s h, EReal.coe_zero]) (fun _ => rfl)]
  have hE : 0 < ∑ s, E s := by
    refine Finset.sum_pos' (fun s _ => ?_) ⟨i, Finset.mem_univ i, ?_⟩
    · simp only [E]; split
      · exact (Real.exp_pos _).le
      · exact le_rfl
    · simp only [E, if_pos hi]; exact Real.exp_pos _
  simp only [Cert.Numbers.coe_sum, Ideal.div_coe hE.ne']
  rw [Cert.Numbers.sum_mul_coe _ _ _ (by positivity)]
  exact Finset.sum_congr rfl fun s _ => by rw [mul_comm (v s), mul_assoc, mul_assoc, mul_comm (v s)]

end Cert.NaTable
end
-- ==== Proof.NaValue.lean ====
/- The neighbourhood attention: what one grid point computes, in eight groups of four rows of queries, and the array
   after the run as one function of the arguments. -/
module

public import proofs.«01_k».proof.Proof.Gen.NaIdeal.Value
public import proofs.«01_k».proof.Proof.NaTable
public import Idealize.ShloMosaic.Lib.Pointwise
public import Idealize.ShloMosaic.Lib.Pipeline.ValueKit

@[expose] public section

set_option maxRecDepth 16384

noncomputable section

namespace Cert.NaIdeal.Value

open Idealize.ShloMosaic Idealize.ShloMosaic.TcCoe Idealize.SL.Sem
open Idealize.ShloMosaic.Pipeline (Dat)
open Cert.NaIdeal Cert.NaIdeal.Gen
open Cert.NaTable

/-! ## One group's tile -/

/-- Attention of one row as the kernel computes it, over the keys of its group: weights to base two of the scores less
    their largest, the weighted sum over the sum of the weights. -/
def row (sc v w : Fin 768 → EReal) : EReal :=
  Ideal.div (∑ s, Ideal.exp2 (sc s - Finset.univ.fold max (Ideal.ofBits .f32 0xFF800000#32) sc) * v s)
    (∑ s, Ideal.exp2 (sc s - Finset.univ.fold max (Ideal.ofBits .f32 0xFF800000#32) sc) * w s)

theorem row_congr {sc sc' v v' : Fin 768 → EReal} (w : Fin 768 → EReal) (h : ∀ s, sc s = sc' s) (h' : ∀ s, v s = v' s) :
    row sc v w = row sc' v' w := by
  rw [funext h, funext h']

/-- The factor on the queries, a constant of the kernel: `1 / (√128 · log 2)`. -/
def scale : EReal := (((Real.sqrt 128)⁻¹ * (Real.log 2)⁻¹ : ℝ) : EReal)

/-- A group's stored tile: row `r` of the queries' scores, lane `e` of the values over the lane of ones beside it. -/
theorem tile_at (S : FVec Ideal S256x768 .f32) (v : Vec Ideal S768x256 .bf16) (r : Fin 256) (e : Fin 128) :
    k0_pay18 (F := Ideal) S v (ix3 0 r e) = row (fun s => S (ix2 r s)) (fun s => v (ix2 s ⟨e, by omega⟩))
      (fun s => v (ix2 s ⟨128 + e, by omega⟩)) := by
  pointwise [k0_pay18, row, show ∀ x : EReal, FloatOps.exp2 (F := Ideal) (φ := .f32) x = Ideal.exp2 x from fun _ => rfl]

/-- The four bands of biases of a group, one under the other. -/
def four (b0 b1 b2 b3 : Vec Ideal S1x1x64x768 .f32) (i : Fin 4) : Vec Ideal S1x1x64x768 .f32 := ![b0, b1, b2, b3] i

/-- A group's scores: the scaled queries against the keys, plus the band of the query's row. -/
theorem scores_at (q : Vec Ideal S1x256x128 .f32) (b0 b1 b2 b3 : Vec Ideal S1x1x64x768 .f32) (k : Vec Ideal S128x768 .bf16)
    (r : Fin 256) (s : Fin 768) :
    k0_pay15 (F := Ideal) q b0 b1 b2 b3 k (ix2 r s) = (∑ d : Fin 128, q (ix3 0 r d) * scale * k (ix2 d s))
      + four b0 b1 b2 b3 ⟨r / 64, by omega⟩ (ix4 0 0 ⟨r % 64, by omega⟩ s) := by
  pointwise [k0_pay15]
  have hr : (r : ℕ) / 64 = 0 ∨ (r : ℕ) / 64 = 1 ∨ (r : ℕ) / 64 = 2 ∨ (r : ℕ) / 64 = 3 := by omega
  refine congrArg₂ (· + ·) rfl ?_
  rcases hr with hr | hr | hr | hr
  · have e : (⟨(r : ℕ) / 64, by omega⟩ : Fin 4) = 0 := Fin.ext hr
    rw [dif_pos (by omega), e]
    exact congrArg (fun x => b0 (ix4 0 0 x s)) (Fin.ext (by show (r : ℕ) = r % 64; omega))
  · have e : (⟨(r : ℕ) / 64, by omega⟩ : Fin 4) = 1 := Fin.ext hr
    rw [dif_neg (by omega), dif_pos (by omega), e]
    exact congrArg (fun x => b1 (ix4 0 0 x s)) (Fin.ext (by show (r : ℕ) - 64 = r % 64; omega))
  · have e : (⟨(r : ℕ) / 64, by omega⟩ : Fin 4) = 2 := Fin.ext hr
    rw [dif_neg (by omega), dif_neg (by omega), dif_pos (by omega), e]
    exact congrArg (fun x => b2 (ix4 0 0 x s)) (Fin.ext (by show (r : ℕ) - 64 - 64 = r % 64; omega))
  · have e : (⟨(r : ℕ) / 64, by omega⟩ : Fin 4) = 3 := Fin.ext hr
    rw [dif_neg (by omega), dif_neg (by omega), dif_neg (by omega), e]
    exact congrArg (fun x => b3 (ix4 0 0 x s)) (Fin.ext (by show (r : ℕ) - 64 - 64 - 64 = r % 64; omega))

theorem tile2 : k0_pay21 (F := Ideal) = k0_pay18 := rfl
theorem tile3 : k0_pay24 (F := Ideal) = k0_pay18 := rfl
theorem tile4 : k0_pay27 (F := Ideal) = k0_pay18 := rfl
theorem tile5 : k0_pay29 (F := Ideal) = k0_pay18 := rfl
theorem tile6 (S : FVec Ideal S256x768 .f32) (v : Vec Ideal S768x256 .bf16) : k0_pay32 (F := Ideal) (k0_pay31 S v) = k0_pay18 S v := rfl
theorem tile7 (S : FVec Ideal S256x768 .f32) (v : Vec Ideal S768x256 .bf16) : k0_pay1 (F := Ideal) (k0_pay34 S v) = k0_pay18 S v := rfl
theorem tile8 : k0_pay2 (F := Ideal) = k0_pay18 := rfl
theorem scores2 (q : Vec Ideal S1x256x128 .f32) : k0_pay17 (F := Ideal) (k0_pay16 q) = k0_pay15 q := rfl
theorem scores3 (q : Vec Ideal S1x256x128 .f32) : k0_pay20 (F := Ideal) (k0_pay19 q) = k0_pay15 q := rfl
theorem scores4 (q : Vec Ideal S1x256x128 .f32) : k0_pay23 (F := Ideal) (k0_pay22 q) = k0_pay15 q := rfl
theorem scores5 (q : Vec Ideal S1x256x128 .f32) : k0_pay26 (F := Ideal) (k0_pay25 q) = k0_pay15 q := rfl
theorem scores6 : k0_pay28 (F := Ideal) = k0_pay15 := rfl
theorem scores7 : k0_pay30 (F := Ideal) = k0_pay15 := rfl
theorem scores8 : k0_pay33 (F := Ideal) = k0_pay15 := rfl

/-! ## The two buffers -/

/-- A stored chunk of the keys' buffer is the chunk of the block transposed. -/
theorem keys_at (k : Vec Ideal S1x256x128 .f32) (d : Fin 128) (s : Fin 256) : k0_pay3 (F := Ideal) k (ix2 d s) = k (ix3 0 s d) := by
  pointwise [k0_pay3]
theorem keys2 : k0_pay4 (F := Ideal) = k0_pay3 := rfl
theorem keys3 : k0_pay5 (F := Ideal) = k0_pay3 := rfl
theorem keys4 : k0_pay6 (F := Ideal) = k0_pay3 := rfl
theorem keys5 (k : Vec Ideal S1x256x128 .f32) : k0_pay8 (F := Ideal) (k0_pay7 k) = k0_pay3 k := rfl
theorem keys6 : k0_pay9 (F := Ideal) = k0_pay3 := rfl
theorem keys7 : k0_pay10 (F := Ideal) = k0_pay3 := rfl
theorem keys8 : k0_pay11 (F := Ideal) = k0_pay3 := rfl

theorem values_at (v : Vec Ideal S1x2048x128 .f32) (s : Fin 2048) (e : Fin 128) : k0_pay12 (F := Ideal) v (ix2 s e) = v (ix3 0 s e) := by
  pointwise [k0_pay12]
theorem ones_at (s : Fin 2048) (e : Fin 128) : k0_pay14 (F := Ideal) k0_pay13 (ix2 s e) = (1 : EReal) := by
  pointwise [k0_pay14, k0_pay13]

/-- What the keys' buffer holds after its eight stores: the block transposed. -/
def keysT (ka : Vec Ideal S1x2048x128 .f32) : Vec Ideal S128x2048 .bf16 := fun j => ka (ix3 0 (j 1) (j 0))
/-- What the values' buffer holds after its two stores: the block's lanes and as many lanes of ones. -/
def valuesOnes (va : Vec Ideal S1x2048x128 .f32) : Vec Ideal S2048x256 .bf16 :=
  fun j => if h : (j 1 : ℕ) < 128 then va (ix3 0 (j 0) ⟨j 1, h⟩) else 1

/-- The list of the keys' buffer's stores, last first, at every offset a chunk of the block. -/
theorem keys_canon (ka : Vec Ideal S1x2048x128 .f32) (v : View sig .tc .vmem S128x2048 .bf16) (B : LoadRect S128x2048) :
    v.readCov
      [⟨Rect.unit ![0, 1792] ![128, 256] inb_S128x2048_S128x256_0_1792, k0_pay3 (View.ld ka (Rect.unit ![0, 1792, 0] ![1, 256, 128] inb_S1x2048x128_S1x256x128_0_1792_0))⟩,
       ⟨Rect.unit ![0, 1536] ![128, 256] inb_S128x2048_S128x256_0_1536, k0_pay3 (View.ld ka (Rect.unit ![0, 1536, 0] ![1, 256, 128] inb_S1x2048x128_S1x256x128_0_1536_0))⟩,
       ⟨Rect.unit ![0, 1280] ![128, 256] inb_S128x2048_S128x256_0_1280, k0_pay3 (View.ld ka (Rect.unit ![0, 1280, 0] ![1, 256, 128] inb_S1x2048x128_S1x256x128_0_1280_0))⟩,
       ⟨Rect.unit ![0, 1024] ![128, 256] inb_S128x2048_S128x256_0_1024, k0_pay3 (View.ld ka (Rect.unit ![0, 1024, 0] ![1, 256, 128] inb_S1x2048x128_S1x256x128_0_1024_0))⟩,
       ⟨Rect.unit ![0, 768] ![128, 256] inb_S128x2048_S128x256_0_768, k0_pay3 (View.ld ka (Rect.unit ![0, 768, 0] ![1, 256, 128] inb_S1x2048x128_S1x256x128_0_768_0))⟩,
       ⟨Rect.unit ![0, 512] ![128, 256] inb_S128x2048_S128x256_0_512, k0_pay3 (View.ld ka (Rect.unit ![0, 512, 0] ![1, 256, 128] inb_S1x2048x128_S1x256x128_0_512_0))⟩,
       ⟨Rect.unit ![0, 256] ![128, 256] inb_S128x2048_S128x256_0_256, k0_pay3 (View.ld ka (Rect.unit ![0, 256, 0] ![1, 256, 128] inb_S1x2048x128_S1x256x128_0_256_0))⟩,
       ⟨Rect.unit ![0, 0] ![128, 256] inb_S128x2048_S128x256_0_0, k0_pay3 (View.ld ka (Rect.unit ![0, 0, 0] ![1, 256, 128] inb_S1x2048x128_S1x256x128_0_0_0))⟩] B
      = fun j => keysT ka (B.idx j) := by
  rw [View.readCov_eq_canon']
  funext j
  show View.canon _ (B.idx j) = keysT ka (B.idx j)
  generalize (B.idx j) = y
  canon_tiles x h
  all_goals
    obtain ⟨d, s, rfl⟩ : ∃ d s, x = ix2 d s := ⟨x 0, x 1, by idx_vars x⟩
    rw [keys_at]
    unfold keysT
    pointwise
    exact congrArg₂ (fun a b => ka (ix3 0 a b)) (Fin.ext h1.symm) (Fin.ext h0.symm)

theorem values_canon (va : Vec Ideal S1x2048x128 .f32) (v : View sig .tc .vmem S2048x256 .bf16) (B : LoadRect S2048x256) :
    v.readCov
      [⟨Rect.unit ![0, 128] ![2048, 128] inb_S2048x256_S2048x128_0_128, k0_pay14 (F := Ideal) k0_pay13⟩,
       ⟨Rect.unit ![0, 0] ![2048, 128] inb_S2048x256_S2048x128_0_0, k0_pay12 va⟩] B
      = fun j => valuesOnes va (B.idx j) := by
  rw [View.readCov_eq_canon']
  funext j
  show View.canon _ (B.idx j) = valuesOnes va (B.idx j)
  generalize (B.idx j) = y
  canon_tiles x h
  case piece0 =>
    obtain ⟨s, e, rfl⟩ : ∃ s e, x = ix2 s e := ⟨x 0, x 1, by idx_vars x⟩
    rw [ones_at]
    unfold valuesOnes
    rw [dif_neg (by rw [h1]; omega)]
  case piece1 =>
    obtain ⟨s, e, rfl⟩ : ∃ s e, x = ix2 s e := ⟨x 0, x 1, by idx_vars x⟩
    rw [values_at]
    unfold valuesOnes
    rw [dif_pos (by rw [h1]; exact e.isLt)]
    exact congrArg₂ (fun a b => va (ix3 0 a b)) (Fin.ext h0.symm) (Fin.ext h1.symm)

/-! ## The operands the launch finds -/

variable (m : (ℓ : Loc nD τ sig) → Buf (Elt Ideal) ℓ)

/-- The projections and the bias tables the program is called with. -/
abbrev argX (c : Dev nD) : FVec Ideal S8x2048x8192 .f32 := m ((c : Thread nD τ).loc main_arg0)
abbrev argP (c : Dev nD) : FVec Ideal S2x8x15x31 .f32 := m ((c : Thread nD τ).loc main_arg1)

theorem entry_x (c : Dev nD) : V m c main_arg0 = m ((c : Thread nD τ).loc main_arg0) := by entry_read; rfl

/-- One over `log 2`, as the host lines compute it. -/
def unit : EReal := Ideal.div 1 (Ideal.log (Ideal.ofBits .f32 0x40000000#32))

/-- The band of biases of a pattern: the table's entry in units of `log 2` where the key is near, minus infinity
    elsewhere. -/
def band (P : FVec Ideal S2x8x15x31 .f32) (h : Fin 8) (p : Fin 12) (c : Fin 64) (j : Fin 768) : EReal :=
  if (min ((p : ℕ) - 4) 4 ≤ (j : ℕ) / 64 ∧ (j : ℕ) / 64 < min ((p : ℕ) - 4) 4 + 8) ∧ colsNear c ((j : ℕ) % 64) then
    P (ix4 1 h ⟨min ((j : ℕ) / 64 + 7 - p) 14, by omega⟩ ⟨min ((j : ℕ) % 64 + 15 - c) 30, by omega⟩) * unit
  else Ideal.ofBits .f32 0xFF800000#32

/-- Which rows of a window are near a row of queries of a pattern, as words. -/
def rowNear : IVec S12x12 1 :=
  andi (cmpi .sge (broadcastInDim S12x12 ![0, 1] bcast_S1x12_S12x12_0_1 (broadcastInDim S1x12 ![1] bcast_S12_S1x12_1 (iotaInDim S12 32 0))) (broadcastInDim S12x12 ![0, 1] bcast_S12x1_S12x12_0_1 (broadcastInDim S12x1 ![0] bcast_S12_S12x1_0 (minsi (broadcastInDim S12 ![] bcast_S_S12 (id (constantI S_ 32 4#32))) (maxsi (broadcastInDim S12 ![] bcast_S_S12 (id (constantI S_ 32 0#32))) (subi (iotaInDim S12 32 0) (broadcastInDim S12 ![] bcast_S_S12 (constantI S_ 32 4#32)))))))) (cmpi .slt (broadcastInDim S12x12 ![0, 1] bcast_S1x12_S12x12_0_1 (broadcastInDim S1x12 ![1] bcast_S12_S1x12_1 (iotaInDim S12 32 0))) (broadcastInDim S12x12 ![0, 1] bcast_S12x1_S12x12_0_1 (addi (broadcastInDim S12x1 ![0] bcast_S12_S12x1_0 (minsi (broadcastInDim S12 ![] bcast_S_S12 (id (constantI S_ 32 4#32))) (maxsi (broadcastInDim S12 ![] bcast_S_S12 (id (constantI S_ 32 0#32))) (subi (iotaInDim S12 32 0) (broadcastInDim S12 ![] bcast_S_S12 (constantI S_ 32 4#32)))))) (broadcastInDim S12x1 ![] bcast_S_S12x1 (constantI S_ 32 8#32)))))
/-- Which places of a row are near a place. -/
def colNear : IVec S64x64 1 :=
  andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))))) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))) (broadcastInDim S64x1 ![] bcast_S_S64x1 (constantI S_ 32 16#32)))))
/-- The clipped distance of a window's row from a pattern's, in the bias table's count. -/
def rowDiff : IVec S12x12 32 :=
  minsi (broadcastInDim S12x12 ![] bcast_S_S12x12 (id (constantI S_ 32 14#32))) (maxsi (broadcastInDim S12x12 ![] bcast_S_S12x12 (id (constantI S_ 32 0#32))) (addi (subi (broadcastInDim S12x12 ![0, 1] bcast_S1x12_S12x12_0_1 (broadcastInDim S1x12 ![1] bcast_S12_S1x12_1 (iotaInDim S12 32 0))) (broadcastInDim S12x12 ![0, 1] bcast_S12x1_S12x12_0_1 (broadcastInDim S12x1 ![0] bcast_S12_S12x1_0 (iotaInDim S12 32 0)))) (broadcastInDim S12x12 ![] bcast_S_S12x12 (constantI S_ 32 7#32))))
/-- A place's clipped distance from another. -/
def colDiff : IVec S64x64 32 :=
  minsi (broadcastInDim S64x64 ![] bcast_S_S64x64 (id (constantI S_ 32 30#32))) (maxsi (broadcastInDim S64x64 ![] bcast_S_S64x64 (id (constantI S_ 32 0#32))) (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 15#32))))
/-- The same words, counted from the table's end where negative. -/
def rowIx : IVec S12x1x12x1 32 :=
  select (cmpi .slt (broadcastInDim S12x1x12x1 ![0, 2] bcast_S12x12_S12x1x12x1_0_2 (rowDiff)) (broadcastInDim S12x1x12x1 ![] bcast_S_S12x1x12x1 (constantI S_ 32 0#32))) (addi (broadcastInDim S12x1x12x1 ![0, 2] bcast_S12x12_S12x1x12x1_0_2 (rowDiff)) (broadcastInDim S12x1x12x1 ![] bcast_S_S12x1x12x1 (constantI S_ 32 15#32))) (broadcastInDim S12x1x12x1 ![0, 2] bcast_S12x12_S12x1x12x1_0_2 (rowDiff))
def colIx : IVec S1x64x1x64 32 :=
  select (cmpi .slt (broadcastInDim S1x64x1x64 ![1, 3] bcast_S64x64_S1x64x1x64_1_3 (colDiff)) (broadcastInDim S1x64x1x64 ![] bcast_S_S1x64x1x64 (constantI S_ 32 0#32))) (addi (broadcastInDim S1x64x1x64 ![1, 3] bcast_S64x64_S1x64x1x64_1_3 (colDiff)) (broadcastInDim S1x64x1x64 ![] bcast_S_S1x64x1x64 (constantI S_ 32 31#32))) (broadcastInDim S1x64x1x64 ![1, 3] bcast_S64x64_S1x64x1x64_1_3 (colDiff))
/-- The pairs of distances, one pair a pattern, place, row and place. -/
def pairs : IVec S12x64x12x64x2 32 :=
  concatenate S12x64x12x64x2 4 [⟨S12x64x12x64x1, (broadcastInDim S12x64x12x64x1 ![0, 1, 2, 3] bcast_S12x64x12x64_S12x64x12x64x1_0_1_2_3 (broadcastInDim S12x64x12x64 ![0, 1, 2, 3] bcast_S12x1x12x1_S12x64x12x64_0_1_2_3 (rowIx)))⟩, ⟨S12x64x12x64x1, (broadcastInDim S12x64x12x64x1 ![0, 1, 2, 3] bcast_S12x64x12x64_S12x64x12x64x1_0_1_2_3 (broadcastInDim S12x64x12x64 ![0, 1, 2, 3] bcast_S1x64x1x64_S12x64x12x64_0_1_2_3 (colIx)))⟩] concatenates_S12x64x12x64x1_S12x64x12x64x1_S12x64x12x64x2_d4
/-- Which window keys are near a query of a pattern. -/
def near : IVec S12x64x12x64 1 :=
  andi (broadcastInDim S12x64x12x64 ![0, 1, 2, 3] bcast_S12x1x12x1_S12x64x12x64_0_1_2_3 (broadcastInDim S12x1x12x1 ![0, 2] bcast_S12x12_S12x1x12x1_0_2 rowNear)) (broadcastInDim S12x64x12x64 ![0, 1, 2, 3] bcast_S1x64x1x64_S12x64x12x64_0_1_2_3 (broadcastInDim S1x64x1x64 ![1, 3] bcast_S64x64_S1x64x1x64_1_3 colNear))
/-- The bands of every head and pattern. -/
def bands (P : FVec Ideal S2x8x15x31 .f32) : FVec Ideal S8x12x64x768 .f32 :=
  shapeCast _ (select (broadcastInDim S8x12x64x12x64 ![1, 2, 3, 4] bcast_S12x64x12x64_S8x12x64x12x64_1_2_3_4 near)
    (mulf (Host.gather gather_S8x15x31_S12x64x12x64x2_S8x12x64x12x64_0_12_n_n_12_4_811 (shapeCast _ (extractStridedSlice S1x8x15x31 ![1, 0, 0, 0] P slices_S2x8x15x31_S1x8x15x31_1_0_0_0) shapeCasts_S1x8x15x31_S8x15x31) pairs)
      (broadcastInDim S8x12x64x12x64 ![] bcast_S_S8x12x64x12x64 (Host.divf (constant S_ .f32 0x3F800000#32) (Host.log (constant S_ .f32 0x40000000#32)))))
    (broadcastInDim S8x12x64x12x64 ![] bcast_S_S8x12x64x12x64 (id (constant S_ .f32 0xFF800000#32)))) shapeCasts_S8x12x64x12x64_S8x12x64x768

theorem rowNear_at (a b : Fin 12) :
    rowNear (ix2 a b) = if min ((a : ℕ) - 4) 4 ≤ (b : ℕ) ∧ (b : ℕ) < min ((a : ℕ) - 4) 4 + 8 then 1#1 else 0#1 := by
  pointwise [rowNear]
  revert a b
  decide +kernel

theorem colNear_at (c d : Fin 64) : colNear (ix2 c d) = if colsNear c d then 1#1 else 0#1 := by
  pointwise [colNear]
  revert c d
  decide +kernel

theorem rowIx_at (a b : Fin 12) : (rowIx (ix4 a 0 b 0)).toInt.toNat = min ((b : ℕ) + 7 - (a : ℕ)) 14 := by
  pointwise [rowIx, rowDiff]
  revert a b
  decide +kernel

theorem colIx_at (c d : Fin 64) : (colIx (ix4 0 c 0 d)).toInt.toNat = min ((d : ℕ) + 15 - (c : ℕ)) 30 := by
  pointwise [colIx, colDiff]
  revert c d
  decide +kernel

theorem pairs_0 (a : Fin 12) (c : Fin 64) (b : Fin 12) (d : Fin 64) : pairs (ix5 a c b d 0) = rowIx (ix4 a 0 b 0) := by
  pointwise [pairs]
theorem pairs_1 (a : Fin 12) (c : Fin 64) (b : Fin 12) (d : Fin 64) : pairs (ix5 a c b d 1) = colIx (ix4 0 c 0 d) := by
  pointwise [pairs]

theorem bands_at (P : FVec Ideal S2x8x15x31 .f32) (h : Fin 8) (p : Fin 12) (i : Fin 64) (j : Fin 768) :
    bands P (ix4 h p i j) = band P h p i j := by
  pointwise [bands, near]
  rw [rowNear_at, colNear_at, show Host.gather gather_S8x15x31_S12x64x12x64x2_S8x12x64x12x64_0_12_n_n_12_4_811 _ pairs (ix5 h p i _ _) = _ from
    gather_pair _ _ _ _ _ _ _ _]
  pointwise
  simp only [pairs_0, pairs_1, rowIx_at, colIx_at, min_assoc, min_self]
  by_cases h1 : min ((p : ℕ) - 4) 4 ≤ (j : ℕ) / 64 ∧ (j : ℕ) / 64 < min ((p : ℕ) - 4) 4 + 8 <;> by_cases h2 : colsNear i ((j : ℕ) % 64) <;>
    simp only [band, unit, h1, h2, if_true, if_false, and_self, and_true, and_false] <;> rfl

theorem entry_bands (c : Dev nD) : (V m c main_v79 : FVec Ideal S8x12x64x768 .f32) = bands (argP m c) := by
  unfold V
  simp only [List.flatten_cons, List.flatten_nil, List.append_nil, List.cons_append, List.nil_append]
  entry_read
  simp only [StableHlo.TRef.toBuf, StableHlo.TRef.ofBuf, cast_eq]
  rfl

theorem idx : ∀ t : Fin cfg0.N, win0_0.index t = ![t.val % 8, 0, t.val / 8] ∧ win0_1.index t = ![t.val % 8, 0, 8 + t.val / 8]
    ∧ win0_2.index t = ![t.val % 8, 0, 16 + t.val / 8] ∧ win0_3.index t = ![t.val / 8, 0, 0, 0]
    ∧ win0_4.index t = ![t.val % 8, 0, t.val / 8] :=
  (by decide +kernel : ∀ t : Fin grid0.N, _)

/-- The input blocks of a grid point, read out of any array. -/
theorem block_q (A : FVec Ideal S8x2048x8192 .f32) (t : Fin cfg0.N) (ht : t.val < 64) (r : Fin 2048) (d : Fin 128) :
    ((cfg0.win 0).blk t).view.read (Elt Ideal) A (ix3 0 r d : S1x2048x128.Idx)
      = A (ix3 ⟨t % 8, by omega⟩ r ⟨t / 8 * 128 + d, by omega⟩) := by
  blk_ext [idx t]
theorem block_k (A : FVec Ideal S8x2048x8192 .f32) (t : Fin cfg0.N) (ht : t.val < 64) (r : Fin 2048) (d : Fin 128) :
    ((cfg0.win 1).blk t).view.read (Elt Ideal) A (ix3 0 r d : S1x2048x128.Idx)
      = A (ix3 ⟨t % 8, by omega⟩ r ⟨(8 + t / 8) * 128 + d, by omega⟩) := by
  blk_ext [idx t]
theorem block_v (A : FVec Ideal S8x2048x8192 .f32) (t : Fin cfg0.N) (ht : t.val < 64) (r : Fin 2048) (d : Fin 128) :
    ((cfg0.win 2).blk t).view.read (Elt Ideal) A (ix3 0 r d : S1x2048x128.Idx)
      = A (ix3 ⟨t % 8, by omega⟩ r ⟨(16 + t / 8) * 128 + d, by omega⟩) := by
  blk_ext [idx t]
theorem block_b (A : FVec Ideal S8x12x64x768 .f32) (t : Fin cfg0.N) (ht : t.val < 64) (p : Fin 12) (i : Fin 64) (j : Fin 768) :
    ((cfg0.win 3).blk t).view.read (Elt Ideal) A (ix4 0 p i j : S1x12x64x768.Idx)
      = A (ix4 ⟨t / 8, by omega⟩ p i j) := by
  blk_ext [idx t]

/-! ## One grid point's block -/

/-- A query's key in its group's window, its pattern and its place in the row. -/
def key (t : Fin 2048) (s : Fin 768) : Fin 2048 := ⟨start ((t : ℕ) / 256) * 64 + s, by unfold start; omega⟩
def pattern (t : Fin 2048) : Fin 12 := ⟨(t : ℕ) / 64 - start ((t : ℕ) / 256), by unfold start; omega⟩
def place (t : Fin 2048) : Fin 64 := ⟨(t : ℕ) % 64, Nat.mod_lt _ (by decide)⟩

/-- A row of a grid point's block. -/
def rowOf (qa ka va : Vec Ideal S1x2048x128 .f32) (ba : Vec Ideal S1x12x64x768 .f32) (t : Fin 2048) (e : Fin 128) : EReal :=
  row (fun s => (∑ d : Fin 128, qa (ix3 0 t d) * scale * ka (ix3 0 (key t s) d)) + ba (ix4 0 (pattern t) (place t) s))
    (fun s => va (ix3 0 (key t s) e)) (fun _ => 1)

theorem piece (qa ka va : Vec Ideal S1x2048x128 .f32) (ba : Vec Ideal S1x12x64x768 .f32) (g : ℕ) (hg : g < 8)
    (p0 p1 p2 p3 : Fin 12) (e0 : (p0 : ℕ) = 4 * g - start g) (e1 : (p1 : ℕ) = 4 * g + 1 - start g)
    (e2 : (p2 : ℕ) = 4 * g + 2 - start g) (e3 : (p3 : ℕ) = 4 * g + 3 - start g)
    (q : Vec Ideal S1x256x128 .f32) (b0 b1 b2 b3 : Vec Ideal S1x1x64x768 .f32) (k : Vec Ideal S128x768 .bf16) (v : Vec Ideal S768x256 .bf16)
    (hq : ∀ (r : Fin 256) (d : Fin 128), q (ix3 0 r d) = qa (ix3 0 ⟨256 * g + r, by omega⟩ d))
    (h0 : ∀ (r : Fin 64) (s : Fin 768), b0 (ix4 0 0 r s) = ba (ix4 0 p0 r s))
    (h1 : ∀ (r : Fin 64) (s : Fin 768), b1 (ix4 0 0 r s) = ba (ix4 0 p1 r s))
    (h2 : ∀ (r : Fin 64) (s : Fin 768), b2 (ix4 0 0 r s) = ba (ix4 0 p2 r s))
    (h3 : ∀ (r : Fin 64) (s : Fin 768), b3 (ix4 0 0 r s) = ba (ix4 0 p3 r s))
    (hk : ∀ (d : Fin 128) (s : Fin 768), k (ix2 d s) = ka (ix3 0 ⟨start g * 64 + s, by unfold start; omega⟩ d))
    (hv : ∀ (s : Fin 768) (e : Fin 128), v (ix2 s ⟨e, by omega⟩) = va (ix3 0 ⟨start g * 64 + s, by unfold start; omega⟩ e))
    (hw : ∀ (s : Fin 768) (e : Fin 128), v (ix2 s ⟨128 + e, by omega⟩) = (1 : EReal))
    (r : Fin 256) (e : Fin 128) (t : Fin 2048) (j : Fin 128) (ht : (t : ℕ) = 256 * g + r) (hj : (j : ℕ) = e) :
    k0_pay18 (F := Ideal) (k0_pay15 q b0 b1 b2 b3 k) v (ix3 0 r e) = rowOf qa ka va ba t j := by
  obtain rfl : j = e := Fin.ext hj
  have et : t = ⟨256 * g + r, by omega⟩ := Fin.ext ht
  rw [et]
  have hd : (256 * g + (r : ℕ)) / 256 = g := by omega
  have hkey : ∀ s : Fin 768, key ⟨256 * g + r, by omega⟩ s = ⟨start g * 64 + s, by unfold start; omega⟩ := fun s =>
    Fin.ext (by show start ((256 * g + (r : ℕ)) / 256) * 64 + (s : ℕ) = _; rw [hd])
  have hplace : place ⟨256 * g + r, by omega⟩ = ⟨(r : ℕ) % 64, Nat.mod_lt _ (by decide)⟩ :=
    Fin.ext (by show (256 * g + (r : ℕ)) % 64 = (r : ℕ) % 64; omega)
  have hs : start g ≤ 4 * g := by unfold start; omega
  have hpat : ∀ p : Fin 12, (p : ℕ) = 4 * g + (r : ℕ) / 64 - start g → pattern ⟨256 * g + r, by omega⟩ = p := fun p h =>
    Fin.ext (by show (256 * g + (r : ℕ)) / 64 - start ((256 * g + (r : ℕ)) / 256) = (p : ℕ); rw [hd, h]; omega)
  have hb : ∀ s : Fin 768, four b0 b1 b2 b3 ⟨(r : ℕ) / 64, by omega⟩ (ix4 0 0 ⟨(r : ℕ) % 64, by omega⟩ s)
      = ba (ix4 0 (pattern ⟨256 * g + r, by omega⟩) (place ⟨256 * g + r, by omega⟩) s) := by
    intro s
    rw [hplace]
    have hr : (r : ℕ) / 64 = 0 ∨ (r : ℕ) / 64 = 1 ∨ (r : ℕ) / 64 = 2 ∨ (r : ℕ) / 64 = 3 := by omega
    rcases hr with hr | hr | hr | hr
    · rw [hpat p0 (by omega), show (⟨(r : ℕ) / 64, by omega⟩ : Fin 4) = 0 from Fin.ext hr]; exact h0 _ s
    · rw [hpat p1 (by omega), show (⟨(r : ℕ) / 64, by omega⟩ : Fin 4) = 1 from Fin.ext hr]; exact h1 _ s
    · rw [hpat p2 (by omega), show (⟨(r : ℕ) / 64, by omega⟩ : Fin 4) = 2 from Fin.ext hr]; exact h2 _ s
    · rw [hpat p3 (by omega), show (⟨(r : ℕ) / 64, by omega⟩ : Fin 4) = 3 from Fin.ext hr]; exact h3 _ s
  rw [tile_at]
  unfold rowOf
  simp only [scores_at, hq, hk, hv, hw, hb, hkey]

/-- The two buffers read through a group's window. -/
theorem keysT_at (ka : Vec Ideal S1x2048x128 .f32) (o : ℕ) (ho : o + 768 ≤ 2048) (inb) (d : Fin 128) (s : Fin 768) :
    keysT ka ((Rect.unit ![0, o] ![128, 768] inb : Rect S128x2048).toLoadRect.idx (ix2 d s)) = ka (ix3 0 ⟨o + s, by omega⟩ d) := by
  unfold keysT
  exact congrArg₂ (fun a b => ka (ix3 0 a b)) (Fin.ext (by show o + 1 * (s : ℕ) = _; simp only [one_mul])) (Fin.ext (by show 0 + 1 * (d : ℕ) = _; omega))
theorem valuesOnes_lane (va : Vec Ideal S1x2048x128 .f32) (o : ℕ) (ho : o + 768 ≤ 2048) (inb) (s : Fin 768) (e : Fin 128) :
    valuesOnes va ((Rect.unit ![o, 0] ![768, 256] inb : Rect S2048x256).toLoadRect.idx (ix2 s ⟨e, by omega⟩)) = va (ix3 0 ⟨o + s, by omega⟩ e) := by
  unfold valuesOnes
  exact (dif_pos (show 0 + 1 * (e : ℕ) < 128 by omega)).trans <| congrArg₂ (fun a b => va (ix3 0 a b)) (Fin.ext (by show o + 1 * (s : ℕ) = _; simp only [one_mul])) (Fin.ext (by show 0 + 1 * (e : ℕ) = _; omega))
theorem valuesOnes_one (va : Vec Ideal S1x2048x128 .f32) (o : ℕ) (ho : o + 768 ≤ 2048) (inb) (s : Fin 768) (e : Fin 128) :
    valuesOnes va ((Rect.unit ![o, 0] ![768, 256] inb : Rect S2048x256).toLoadRect.idx (ix2 s ⟨128 + e, by omega⟩)) = (1 : EReal) := by
  unfold valuesOnes
  exact dif_neg (show ¬ (0 + 1 * (128 + (e : ℕ)) < 128) by omega)

theorem point (c : Dev nD) (t : Fin cfg0.N) (y : S1x2048x128.Idx) :
    outsAt0 m c t y = rowOf (iblk m c 0 t : Vec Ideal S1x2048x128 .f32) (iblk m c 1 t : Vec Ideal S1x2048x128 .f32)
      (iblk m c 2 t : Vec Ideal S1x2048x128 .f32) (iblk m c 3 t : Vec Ideal S1x12x64x768 .f32) (y 1) (y 2) := by
  unfold outsAt0 out0_A_4
  frame_out
  generalize (iblk m c 0 t : Vec Ideal S1x2048x128 .f32) = qa
  generalize (iblk m c 1 t : Vec Ideal S1x2048x128 .f32) = ka
  generalize (iblk m c 2 t : Vec Ideal S1x2048x128 .f32) = va
  generalize (iblk m c 3 t : Vec Ideal S1x12x64x768 .f32) = ba
  simp only [keys2, keys3, keys4, keys5, keys6, keys7, keys8]
  simp only [keys_canon ka (View.whole cc0_scratch0), values_canon va (View.whole cc0_scratch1)]
  canon_tiles x h
  case piece0 =>
    obtain ⟨r, e, rfl⟩ : ∃ r e, x = ix3 0 r e := ⟨x 1, x 2, by idx_vars x; obtain rfl : x0 = 0 := Subsingleton.elim _ _; rfl⟩
    rw [tile8, scores8]
    refine piece qa ka va ba 7 (by omega) 8 9 10 11 rfl rfl rfl rfl _ _ _ _ _ _ _ ?_ ?_ ?_ ?_ ?_ ?_ ?_ ?_ r e _ _ ?_ ?_
    · intro r d; pointwise
    · intro r s; pointwise
    · intro r s; pointwise
    · intro r s; pointwise
    · intro r s; pointwise
    · exact fun d s => keysT_at ka 1280 (by omega) _ d s
    · exact fun s e => valuesOnes_lane va 1280 (by omega) _ s e
    · exact fun s e => valuesOnes_one va 1280 (by omega) _ s e
    · rw [h1]; show 1792 + (r : ℕ) = 256 * 7 + (r : ℕ); omega
    · rw [h2]; rfl
  case piece1 =>
    obtain ⟨r, e, rfl⟩ : ∃ r e, x = ix3 0 r e := ⟨x 1, x 2, by idx_vars x; obtain rfl : x0 = 0 := Subsingleton.elim _ _; rfl⟩
    rw [tile7, scores7]
    refine piece qa ka va ba 6 (by omega) 4 5 6 7 rfl rfl rfl rfl _ _ _ _ _ _ _ ?_ ?_ ?_ ?_ ?_ ?_ ?_ ?_ r e _ _ ?_ ?_
    · intro r d; pointwise
    · intro r s; pointwise
    · intro r s; pointwise
    · intro r s; pointwise
    · intro r s; pointwise
    · exact fun d s => keysT_at ka 1280 (by omega) _ d s
    · exact fun s e => valuesOnes_lane va 1280 (by omega) _ s e
    · exact fun s e => valuesOnes_one va 1280 (by omega) _ s e
    · rw [h1]; show 1536 + (r : ℕ) = 256 * 6 + (r : ℕ); omega
    · rw [h2]; rfl
  case piece2 =>
    obtain ⟨r, e, rfl⟩ : ∃ r e, x = ix3 0 r e := ⟨x 1, x 2, by idx_vars x; obtain rfl : x0 = 0 := Subsingleton.elim _ _; rfl⟩
    rw [tile6, scores6]
    refine piece qa ka va ba 5 (by omega) 4 5 6 7 rfl rfl rfl rfl _ _ _ _ _ _ _ ?_ ?_ ?_ ?_ ?_ ?_ ?_ ?_ r e _ _ ?_ ?_
    · intro r d; pointwise
    · intro r s; pointwise
    · intro r s; pointwise
    · intro r s; pointwise
    · intro r s; pointwise
    · exact fun d s => keysT_at ka 1024 (by omega) _ d s
    · exact fun s e => valuesOnes_lane va 1024 (by omega) _ s e
    · exact fun s e => valuesOnes_one va 1024 (by omega) _ s e
    · rw [h1]; show 1280 + (r : ℕ) = 256 * 5 + (r : ℕ); omega
    · rw [h2]; rfl
  case piece3 =>
    obtain ⟨r, e, rfl⟩ : ∃ r e, x = ix3 0 r e := ⟨x 1, x 2, by idx_vars x; obtain rfl : x0 = 0 := Subsingleton.elim _ _; rfl⟩
    rw [tile5, scores5]
    refine piece qa ka va ba 4 (by omega) 4 5 6 7 rfl rfl rfl rfl _ _ _ _ _ _ _ ?_ ?_ ?_ ?_ ?_ ?_ ?_ ?_ r e _ _ ?_ ?_
    · intro r d; pointwise
    · intro r s; pointwise
    · intro r s; pointwise
    · intro r s; pointwise
    · intro r s; pointwise
    · exact fun d s => keysT_at ka 768 (by omega) _ d s
    · exact fun s e => valuesOnes_lane va 768 (by omega) _ s e
    · exact fun s e => valuesOnes_one va 768 (by omega) _ s e
    · rw [h1]; show 1024 + (r : ℕ) = 256 * 4 + (r : ℕ); omega
    · rw [h2]; rfl
  case piece4 =>
    obtain ⟨r, e, rfl⟩ : ∃ r e, x = ix3 0 r e := ⟨x 1, x 2, by idx_vars x; obtain rfl : x0 = 0 := Subsingleton.elim _ _; rfl⟩
    rw [tile4, scores4]
    refine piece qa ka va ba 3 (by omega) 4 5 6 7 rfl rfl rfl rfl _ _ _ _ _ _ _ ?_ ?_ ?_ ?_ ?_ ?_ ?_ ?_ r e _ _ ?_ ?_
    · intro r d; pointwise
    · intro r s; pointwise
    · intro r s; pointwise
    · intro r s; pointwise
    · intro r s; pointwise
    · exact fun d s => keysT_at ka 512 (by omega) _ d s
    · exact fun s e => valuesOnes_lane va 512 (by omega) _ s e
    · exact fun s e => valuesOnes_one va 512 (by omega) _ s e
    · rw [h1]; show 768 + (r : ℕ) = 256 * 3 + (r : ℕ); omega
    · rw [h2]; rfl
  case piece5 =>
    obtain ⟨r, e, rfl⟩ : ∃ r e, x = ix3 0 r e := ⟨x 1, x 2, by idx_vars x; obtain rfl : x0 = 0 := Subsingleton.elim _ _; rfl⟩
    rw [tile3, scores3]
    refine piece qa ka va ba 2 (by omega) 4 5 6 7 rfl rfl rfl rfl _ _ _ _ _ _ _ ?_ ?_ ?_ ?_ ?_ ?_ ?_ ?_ r e _ _ ?_ ?_
    · intro r d; pointwise
    · intro r s; pointwise
    · intro r s; pointwise
    · intro r s; pointwise
    · intro r s; pointwise
    · exact fun d s => keysT_at ka 256 (by omega) _ d s
    · exact fun s e => valuesOnes_lane va 256 (by omega) _ s e
    · exact fun s e => valuesOnes_one va 256 (by omega) _ s e
    · rw [h1]; show 512 + (r : ℕ) = 256 * 2 + (r : ℕ); omega
    · rw [h2]; rfl
  case piece6 =>
    obtain ⟨r, e, rfl⟩ : ∃ r e, x = ix3 0 r e := ⟨x 1, x 2, by idx_vars x; obtain rfl : x0 = 0 := Subsingleton.elim _ _; rfl⟩
    rw [tile2, scores2]
    refine piece qa ka va ba 1 (by omega) 4 5 6 7 rfl rfl rfl rfl _ _ _ _ _ _ _ ?_ ?_ ?_ ?_ ?_ ?_ ?_ ?_ r e _ _ ?_ ?_
    · intro r d; pointwise
    · intro r s; pointwise
    · intro r s; pointwise
    · intro r s; pointwise
    · intro r s; pointwise
    · exact fun d s => keysT_at ka 0 (by omega) _ d s
    · exact fun s e => valuesOnes_lane va 0 (by omega) _ s e
    · exact fun s e => valuesOnes_one va 0 (by omega) _ s e
    · rw [h1]; show 256 + (r : ℕ) = 256 * 1 + (r : ℕ); omega
    · rw [h2]; rfl
  case piece7 =>
    obtain ⟨r, e, rfl⟩ : ∃ r e, x = ix3 0 r e := ⟨x 1, x 2, by idx_vars x; obtain rfl : x0 = 0 := Subsingleton.elim _ _; rfl⟩
    refine piece qa ka va ba 0 (by omega) 0 1 2 3 rfl rfl rfl rfl _ _ _ _ _ _ _ ?_ ?_ ?_ ?_ ?_ ?_ ?_ ?_ r e _ _ ?_ ?_
    · intro r d; pointwise
    · intro r s; pointwise
    · intro r s; pointwise
    · intro r s; pointwise
    · intro r s; pointwise
    · exact fun d s => keysT_at ka 0 (by omega) _ d s
    · exact fun s e => valuesOnes_lane va 0 (by omega) _ s e
    · exact fun s e => valuesOnes_one va 0 (by omega) _ s e
    · rw [h1]; show (r : ℕ) = 256 * 0 + (r : ℕ); omega
    · rw [h2]; rfl

/-- The result as one function of the arguments: position `(b, t, j)` is lane `j % 128` of head `j / 128`, its keys the
    768 of the query's group. -/
def result (X : FVec Ideal S8x2048x8192 .f32) (P : FVec Ideal S2x8x15x31 .f32) : FVec Ideal S8x2048x1024 .bf16 :=
  fun i => row
    (fun s => (∑ d : Fin 128, X (ix3 (i 0) (i 1) ⟨(i 2 : ℕ) / 128 * 128 + d, by have : (i 2 : ℕ) < 1024 := (i 2).isLt; omega⟩) * scale
        * X (ix3 (i 0) (key (i 1) s) ⟨1024 + ((i 2 : ℕ) / 128 * 128 + d), by have : (i 2 : ℕ) < 1024 := (i 2).isLt; omega⟩))
      + band P ⟨(i 2 : ℕ) / 128, Nat.div_lt_of_lt_mul (i 2).isLt⟩ (pattern (i 1)) (place (i 1)) s)
    (fun s => X (ix3 (i 0) (key (i 1) s) ⟨2048 + (i 2 : ℕ), by have : (i 2 : ℕ) < 1024 := (i 2).isLt; omega⟩))
    (fun _ => 1)

/-- The result array after the run. -/
theorem final (c : Dev nD) : (dats m 0 c).arrAt 4 (cfgs 0).N = result (argX m c) (argP m c) := by
  refine (dats m 0 c).arrAt_eq_of_covers 4 _ (by decide +kernel) fun t _ y => ?_
  have ht : t.val < 64 := lt_of_lt_of_eq t.isLt N_0
  have bq : ∀ r d, (iblk m c 0 t : Vec Ideal S1x2048x128 .f32) (ix3 0 r d) = _ := block_q (V m c main_arg0) t ht
  have bk : ∀ r d, (iblk m c 1 t : Vec Ideal S1x2048x128 .f32) (ix3 0 r d) = _ := block_k (V m c main_arg0) t ht
  have bv : ∀ r d, (iblk m c 2 t : Vec Ideal S1x2048x128 .f32) (ix3 0 r d) = _ := block_v (V m c main_arg0) t ht
  have bb : ∀ p i j, (iblk m c 3 t : Vec Ideal S1x12x64x768 .f32) (ix4 0 p i j) = _ := block_b (V m c main_v79) t ht
  have i0 : ((((cfg0.win 4).blk t).view.emb y 0 : Fin _) : ℕ) = t % 8 + (y 0 : ℕ) := by blk_simp [idx t]
  have i1 : ((((cfg0.win 4).blk t).view.emb y 1 : Fin _) : ℕ) = (y 1 : ℕ) := by blk_simp [idx t]
  have i2 : ((((cfg0.win 4).blk t).view.emb y 2 : Fin _) : ℕ) = t / 8 * 128 + (y 2 : ℕ) := by blk_simp [idx t]
  blk_simp
  rw [after0_4]
  refine (point m c t y).trans ?_
  generalize ((cfg0.win 4).blk t).view.emb y = i at i0 i1 i2 ⊢
  have y0 : (y 0 : ℕ) = 0 := by have : (y 0 : ℕ) < 1 := (y 0).isLt; omega
  have y2 : (y 2 : ℕ) < 128 := (y 2).isLt
  have e0 : i 0 = ⟨t % 8, by omega⟩ := Fin.ext (by rw [i0, y0]; rfl)
  have e1 : i 1 = y 1 := Fin.ext i1
  have e2 : (i 2 : ℕ) / 128 = t / 8 := by omega
  unfold rowOf result
  simp only [e0, e1, e2]
  refine row_congr _ (fun s => congrArg₂ (· + ·) (Finset.sum_congr rfl fun d _ => congrArg₂ (· * ·) (congrArg (· * scale) ?_) ?_) ?_) (fun s => ?_)
  · exact (bq _ _).trans (congrFun (entry_x m c) _)
  · exact (bk _ _).trans ((congrFun (entry_x m c) _).trans (congrArg (fun j => argX m c (ix3 _ _ j))
      (Fin.ext (by show (8 + t.val / 8) * 128 + (d : ℕ) = 1024 + (t.val / 8 * 128 + (d : ℕ)); omega))))
  · exact (bb _ _ _).trans ((congrFun (entry_bands m c) _).trans (bands_at _ _ _ _ _))
  · exact (bv _ _).trans ((congrFun (entry_x m c) _).trans (congrArg (fun j => argX m c (ix3 _ _ j))
      (Fin.ext (by show (16 + t.val / 8) * 128 + (y 2 : ℕ) = 2048 + (i 2 : ℕ); omega))))

end Cert.NaIdeal.Value
end
-- ==== Proof.NaRef.lean ====
/- The neighbourhood attention's reference, read at one position: its scores are one sum over the head's lanes and a
   relative bias where the key is near the query and minus infinity elsewhere, its weights the exponentials of the
   scores less the row's largest, its result the normalised weights times the values. -/
module

public import proofs.«01_k».proof.Proof.Gen.NaRefIdeal.Run
public import proofs.«01_k».proof.Proof.NaTable
public import Idealize.ShloMosaic.Lib.Pointwise
public import Idealize.ShloMosaic.Lib.Pipeline.ValueKit

@[expose] public section

set_option maxRecDepth 16384

noncomputable section

namespace Cert.NaRefIdeal.Value

open Idealize.ShloMosaic Idealize.ShloMosaic.TcCoe Idealize.SL.Sem
open Cert.NaRefIdeal Cert.NaRefIdeal.Gen
open Cert.NaTable

/-- Which rows of keys are near a row of queries, as words. -/
def rowNear : IVec S32x32 1 :=
  andi (cmpi .sge (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (minsi (broadcastInDim S32 ![] bcast_S_S32 (id (constantI S_ 32 24#32))) (maxsi (broadcastInDim S32 ![] bcast_S_S32 (id (constantI S_ 32 0#32))) (subi (iotaInDim S32 32 0) (broadcastInDim S32 ![] bcast_S_S32 (constantI S_ 32 4#32)))))))) (cmpi .slt (broadcastInDim S32x32 ![0, 1] bcast_S1x32_S32x32_0_1 (broadcastInDim S1x32 ![1] bcast_S32_S1x32_1 (iotaInDim S32 32 0))) (broadcastInDim S32x32 ![0, 1] bcast_S32x1_S32x32_0_1 (addi (broadcastInDim S32x1 ![0] bcast_S32_S32x1_0 (minsi (broadcastInDim S32 ![] bcast_S_S32 (id (constantI S_ 32 24#32))) (maxsi (broadcastInDim S32 ![] bcast_S_S32 (id (constantI S_ 32 0#32))) (subi (iotaInDim S32 32 0) (broadcastInDim S32 ![] bcast_S_S32 (constantI S_ 32 4#32)))))) (broadcastInDim S32x1 ![] bcast_S_S32x1 (constantI S_ 32 8#32)))))
/-- Which places of a row are near a place. -/
def colNear : IVec S64x64 1 :=
  andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))))) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))) (broadcastInDim S64x1 ![] bcast_S_S64x1 (constantI S_ 32 16#32)))))
/-- Which keys are near a query. -/
def near : IVec S2048x2048 1 :=
  shapeCast _ (andi (broadcastInDim S32x64x32x64 ![0, 1, 2, 3] bcast_S32x1x32x1_S32x64x32x64_0_1_2_3 (broadcastInDim S32x1x32x1 ![0, 2] bcast_S32x32_S32x1x32x1_0_2 (rowNear))) (broadcastInDim S32x64x32x64 ![0, 1, 2, 3] bcast_S1x64x1x64_S32x64x32x64_0_1_2_3 (broadcastInDim S1x64x1x64 ![1, 3] bcast_S64x64_S1x64x1x64_1_3 (colNear)))) shapeCasts_S32x64x32x64_S2048x2048
/-- A row's clipped distance from another, in the bias table's count. -/
def rowDiff : IVec S32x32 32 :=
  minsi (broadcastInDim S32x32 ![] bcast_S_S32x32 (id (constantI S_ 32 14#32))) (maxsi (broadcastInDim S32x32 ![] bcast_S_S32x32 (id (constantI S_ 32 0#32))) (addi (subi (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0)))) (broadcastInDim S32x32 ![] bcast_S_S32x32 (constantI S_ 32 7#32))))
/-- A place's clipped distance from another. -/
def colDiff : IVec S64x64 32 :=
  minsi (broadcastInDim S64x64 ![] bcast_S_S64x64 (id (constantI S_ 32 30#32))) (maxsi (broadcastInDim S64x64 ![] bcast_S_S64x64 (id (constantI S_ 32 0#32))) (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 15#32))))
/-- The same words, counted from the table's end where negative. -/
def rowIx : IVec S32x1x32x1 32 :=
  select (cmpi .slt (broadcastInDim S32x1x32x1 ![0, 2] bcast_S32x32_S32x1x32x1_0_2 (rowDiff)) (broadcastInDim S32x1x32x1 ![] bcast_S_S32x1x32x1 (constantI S_ 32 0#32))) (addi (broadcastInDim S32x1x32x1 ![0, 2] bcast_S32x32_S32x1x32x1_0_2 (rowDiff)) (broadcastInDim S32x1x32x1 ![] bcast_S_S32x1x32x1 (constantI S_ 32 15#32))) (broadcastInDim S32x1x32x1 ![0, 2] bcast_S32x32_S32x1x32x1_0_2 (rowDiff))
def colIx : IVec S1x64x1x64 32 :=
  select (cmpi .slt (broadcastInDim S1x64x1x64 ![1, 3] bcast_S64x64_S1x64x1x64_1_3 (colDiff)) (broadcastInDim S1x64x1x64 ![] bcast_S_S1x64x1x64 (constantI S_ 32 0#32))) (addi (broadcastInDim S1x64x1x64 ![1, 3] bcast_S64x64_S1x64x1x64_1_3 (colDiff)) (broadcastInDim S1x64x1x64 ![] bcast_S_S1x64x1x64 (constantI S_ 32 31#32))) (broadcastInDim S1x64x1x64 ![1, 3] bcast_S64x64_S1x64x1x64_1_3 (colDiff))
/-- The pairs of distances, one pair a query and key. -/
def pairs : IVec S32x64x32x64x2 32 :=
  concatenate S32x64x32x64x2 4 [⟨S32x64x32x64x1, (broadcastInDim S32x64x32x64x1 ![0, 1, 2, 3] bcast_S32x64x32x64_S32x64x32x64x1_0_1_2_3 (broadcastInDim S32x64x32x64 ![0, 1, 2, 3] bcast_S32x1x32x1_S32x64x32x64_0_1_2_3 (rowIx)))⟩, ⟨S32x64x32x64x1, (broadcastInDim S32x64x32x64x1 ![0, 1, 2, 3] bcast_S32x64x32x64_S32x64x32x64x1_0_1_2_3 (broadcastInDim S32x64x32x64 ![0, 1, 2, 3] bcast_S1x64x1x64_S32x64x32x64_0_1_2_3 (colIx)))⟩] concatenates_S32x64x32x64x1_S32x64x32x64x1_S32x64x32x64x2_d4
/-- The bias of every head, query and key. -/
def bias (P : FVec Ideal S2x8x15x31 .f32) : FVec Ideal S8x2048x2048 .f32 :=
  shapeCast _ (Host.gather gather_S8x15x31_S32x64x32x64x2_S8x32x64x32x64_0_12_n_n_12_4_811 (shapeCast _ (extractStridedSlice S1x8x15x31 ![1, 0, 0, 0] P slices_S2x8x15x31_S1x8x15x31_1_0_0_0) shapeCasts_S1x8x15x31_S8x15x31) (pairs)) shapeCasts_S8x32x64x32x64_S8x2048x2048
/-- The scores of every query against every key. -/
def scores (X : FVec Ideal S8x2048x8192 .f32) (P : FVec Ideal S2x8x15x31 .f32) : FVec Ideal S8x8x2048x2048 .f32 :=
  select (broadcastInDim S8x8x2048x2048 ![2, 3] bcast_S2048x2048_S8x8x2048x2048_2_3 (near)) (addf (Host.dotGeneral dot_S8x2048x8x128_S8x2048x8x128_S8x8x2048x2048_3_3_1_1_02_02 none (mulf (shapeCast _ (extractStridedSlice S8x2048x1024 ![0, 0, 0] (extractStridedSlice S8x2048x3072 ![0, 0, 0] X slices_S8x2048x8192_S8x2048x3072_0_0_0) slices_S8x2048x3072_S8x2048x1024_0_0_0) shapeCasts_S8x2048x1024_S8x2048x8x128) (broadcastInDim S8x2048x8x128 ![] bcast_S_S8x2048x8x128 (Host.divf (constant S_ .f32 0x3F800000#32) (Host.sqrt (constant S_ .f32 0x43000000#32))))) (shapeCast _ (extractStridedSlice S8x2048x1024 ![0, 0, 1024] (extractStridedSlice S8x2048x3072 ![0, 0, 0] X slices_S8x2048x8192_S8x2048x3072_0_0_0) slices_S8x2048x3072_S8x2048x1024_0_0_1024) shapeCasts_S8x2048x1024_S8x2048x8x128)) (broadcastInDim S8x8x2048x2048 ![0, 1, 2, 3] bcast_S1x8x2048x2048_S8x8x2048x2048_0_1_2_3 (broadcastInDim S1x8x2048x2048 ![1, 2, 3] bcast_S8x2048x2048_S1x8x2048x2048_1_2_3 (bias P)))) (broadcastInDim S8x8x2048x2048 ![] bcast_S_S8x8x2048x2048 (id (constant S_ .f32 0xFF800000#32)))
/-- The largest score of every row. -/
def rowMax (S : FVec Ideal S8x8x2048x2048 .f32) : FVec Ideal S8x8x2048 .f32 :=
  Host.reduce FloatOps.maximumf S (constant S_ .f32 0xFF800000#32) reducesTo_S8x8x2048x2048_S8x8x2048_d3 h_S_
/-- The exponentials of scores less a bound of their row. -/
def weights (S : FVec Ideal S8x8x2048x2048 .f32) (R : FVec Ideal S8x8x2048 .f32) : FVec Ideal S8x8x2048x2048 .f32 :=
  Host.exp (subf S (broadcastInDim S8x8x2048x2048 ![0, 1, 2, 3] bcast_S8x8x2048x1_S8x8x2048x2048_0_1_2_3 (broadcastInDim S8x8x2048x1 ![0, 1, 2] bcast_S8x8x2048_S8x8x2048x1_0_1_2 (maximumf (broadcastInDim S8x8x2048 ![] bcast_S_S8x8x2048 (constant S_ .f32 0xFF800000#32)) R))))
/-- The values weighted by the normalised weights, heads side by side. -/
def mixed (E : FVec Ideal S8x8x2048x2048 .f32) (X : FVec Ideal S8x2048x8192 .f32) : FVec Ideal S8x2048x1024 .bf16 :=
  truncf .bf16 (shapeCast _ (transpose S8x2048x8x128 [0, 3, 1, 2] (Host.dotGeneral dot_S8x2048x8x128_S8x8x2048x2048_S8x8x128x2048_1_3_3_2_02_01 none (shapeCast _ (extractStridedSlice S8x2048x1024 ![0, 0, 2048] (extractStridedSlice S8x2048x3072 ![0, 0, 0] X slices_S8x2048x8192_S8x2048x3072_0_0_0) slices_S8x2048x3072_S8x2048x1024_0_0_2048) shapeCasts_S8x2048x1024_S8x2048x8x128) (Host.divf E (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd E (constant S_ .f32 0x00000000#32) reducesTo_S8x8x2048x2048_S8x8x2048_d3 h_S_))))) transposes_S8x8x128x2048_S8x2048x8x128_0_3_1_2) shapeCasts_S8x2048x8x128_S8x2048x1024) bitsLt_bf16_f32

/-- The reference's result as a function of its arguments. -/
def REF (X : FVec Ideal S8x2048x8192 .f32) (P : FVec Ideal S2x8x15x31 .f32) : FVec Ideal S8x2048x1024 .bf16 :=
  mixed (weights (scores X P) (rowMax (scores X P))) X

/-- One over the root of the head's width, as the reference computes it. -/
def scale : EReal := Ideal.div 1 (Ideal.sqrt (Ideal.ofBits .f32 0x43000000#32))

theorem rowNear_at (a b : Fin 32) : rowNear (ix2 a b) = if rowsNear a b then 1#1 else 0#1 := by
  pointwise [rowNear]
  revert a b
  decide +kernel

theorem colNear_at (c d : Fin 64) : colNear (ix2 c d) = if colsNear c d then 1#1 else 0#1 := by
  pointwise [colNear]
  revert c d
  decide +kernel

theorem near_at (q s : Fin 2048) :
    near (ix2 q s) = if rowsNear (q / 64) (s / 64) ∧ colsNear (q % 64) (s % 64) then 1#1 else 0#1 := by
  pointwise [near]
  rw [rowNear_at, colNear_at]
  by_cases h : rowsNear (q / 64) (s / 64) <;> by_cases h' : colsNear (q % 64) (s % 64) <;> simp only [h, h', if_true, if_false, and_true, and_false, false_and, true_and] <;> rfl

theorem rowIx_at (a b : Fin 32) : (rowIx (ix4 a 0 b 0)).toInt.toNat = min ((b : ℕ) + 7 - (a : ℕ)) 14 := by
  pointwise [rowIx, rowDiff]
  revert a b
  decide +kernel

theorem colIx_at (c d : Fin 64) : (colIx (ix4 0 c 0 d)).toInt.toNat = min ((d : ℕ) + 15 - (c : ℕ)) 30 := by
  pointwise [colIx, colDiff]
  revert c d
  decide +kernel

theorem pairs_0 (a : Fin 32) (c : Fin 64) (b : Fin 32) (d : Fin 64) : pairs (ix5 a c b d 0) = rowIx (ix4 a 0 b 0) := by
  pointwise [pairs]
theorem pairs_1 (a : Fin 32) (c : Fin 64) (b : Fin 32) (d : Fin 64) : pairs (ix5 a c b d 1) = colIx (ix4 0 c 0 d) := by
  pointwise [pairs]

theorem bias_at (P : FVec Ideal S2x8x15x31 .f32) (h : Fin 8) (q s : Fin 2048) :
    bias P (ix3 h q s) = P (ix4 1 h ⟨min (s / 64 + 7 - q / 64) 14, by omega⟩ ⟨min (s % 64 + 15 - q % 64) 30, by omega⟩) := by
  pointwise [bias]
  refine (gather_pair _ _ _ _ _ _ _ _).trans ?_
  pointwise
  simp only [pairs_0, pairs_1, rowIx_at, colIx_at, min_assoc, min_self]

theorem scores_at (X : FVec Ideal S8x2048x8192 .f32) (P : FVec Ideal S2x8x15x31 .f32) (b h : Fin 8) (q s : Fin 2048) :
    scores X P (ix4 b h q s) = if rowsNear (q / 64) (s / 64) ∧ colsNear (q % 64) (s % 64) then
        (∑ d : Fin 128, X (ix3 b q ⟨h * 128 + d, by omega⟩) * scale * X (ix3 b s ⟨1024 + (h * 128 + d), by omega⟩))
          + P (ix4 1 h ⟨min (s / 64 + 7 - q / 64) 14, by omega⟩ ⟨min (s % 64 + 15 - q % 64) 30, by omega⟩)
      else Ideal.ofBits .f32 0xFF800000#32 := by
  pointwise [scores, scale]
  rw [near_at, bias_at]
  split
  · rfl
  · rfl

theorem rowMax_at (S : FVec Ideal S8x8x2048x2048 .f32) (b h : Fin 8) (t : Fin 2048) :
    rowMax S (ix3 b h t) = Finset.univ.fold max (Ideal.ofBits .f32 0xFF800000#32) fun s : Fin 2048 => S (ix4 b h t s) := by
  pointwise [rowMax]

theorem weights_at (S : FVec Ideal S8x8x2048x2048 .f32) (R : FVec Ideal S8x8x2048 .f32) (b h : Fin 8) (t s : Fin 2048) :
    weights S R (ix4 b h t s) = Ideal.exp (S (ix4 b h t s) - max (Ideal.ofBits .f32 0xFF800000#32) (R (ix3 b h t))) := by
  pointwise [weights]

theorem mixed_at (E : FVec Ideal S8x8x2048x2048 .f32) (X : FVec Ideal S8x2048x8192 .f32) (b : Fin 8) (t : Fin 2048) (c : Fin 1024) :
    mixed E X (ix3 b t c) = ∑ s : Fin 2048, X (ix3 b s ⟨2048 + c, by omega⟩)
      * Ideal.div (E (ix4 b ⟨c / 128, by omega⟩ t s)) (∑ s : Fin 2048, E (ix4 b ⟨c / 128, by omega⟩ t s)) := by
  pointwise [mixed]

theorem result0 (m : (ℓ : Loc nD τ sig) → Buf (Elt Ideal) ℓ) (c : Dev nD) :
    res_main_v105 m c = REF (m ((c.tc : Thread nD τ).loc main_arg0)) (m ((c.tc : Thread nD τ).loc main_arg1)) := rfl

end Cert.NaRefIdeal.Value
end
-- ==== Proof.NaEq.lean ====
/- The neighbourhood attention call: on finite queries, keys and biases the kernel's result is the reference's. -/
module

public import proofs.«01_k».proof.Proof.NaValue
public import proofs.«01_k».proof.Proof.NaRef
public import proofs.«01_k».proof.Proof.GqaEq
public import proofs.«01_k».proof.Proof.Gen.Pre_finite_na
public import Idealize.ShloMosaic.Lib.ReduceAll

@[expose] public section

set_option maxRecDepth 16384

noncomputable section

namespace Cert.NaEq

open Idealize.ShloMosaic
open Cert.Numbers Cert.NaTable
open Cert.GqaEq (ofBits_bot ofBits_top ofBits_2 sqrt_128)
open Cert.NaIdeal (S8x2048x8192 S2x8x15x31)
open Cert.NaIdeal.Value (key pattern place band)

theorem refScale : Cert.NaRefIdeal.Value.scale = ((1 / √128 : ℝ) : EReal) := by
  unfold Cert.NaRefIdeal.Value.scale
  rw [sqrt_128, Ideal.div_coe (by positivity), one_mul]

theorem unit_eq : Cert.NaIdeal.Value.unit = ((1 / Real.log 2 : ℝ) : EReal) := by
  unfold Cert.NaIdeal.Value.unit
  have h2 : Real.log 2 ≠ 0 := (Real.log_pos (by norm_num)).ne'
  rw [ofBits_2, Ideal.log_coe, if_neg (by norm_num), Ideal.div_coe h2, one_mul]

/-- One real score of the reference and of the kernel. -/
theorem scores_real (q k : Fin 128 → ℝ) (b : ℝ) :
    (∑ d, (q d : EReal) * Cert.NaRefIdeal.Value.scale * (k d : EReal) + (b : EReal)
        = (((∑ d, q d * (1 / √128) * k d) + b : ℝ) : EReal))
    ∧ (∑ d, (q d : EReal) * Cert.NaIdeal.Value.scale * (k d : EReal) + (b : EReal) * Cert.NaIdeal.Value.unit
        = ((((∑ d, q d * (1 / √128) * k d) + b) / Real.log 2 : ℝ) : EReal))
    ∧ ∑ d, (q d : EReal) * Cert.NaIdeal.Value.scale * (k d : EReal) + ⊥ = (⊥ : EReal) := by
  rw [refScale, unit_eq]
  unfold Cert.NaIdeal.Value.scale
  refine ⟨?_, ?_, EReal.add_bot _⟩
  · simp only [← EReal.coe_mul]
    rw [coe_sum, ← EReal.coe_add]
  · simp only [← EReal.coe_mul]
    rw [coe_sum, ← EReal.coe_add, add_div, Finset.sum_div]
    refine congrArg _ (congrArg₂ (· + ·) (Finset.sum_congr rfl fun d _ => ?_) (by ring))
    rw [one_div, div_eq_mul_inv]
    ring

/-- A window key's row and place among all. -/
theorem key_row (t : Fin 2048) (s : Fin 768) : (key t s : ℕ) / 64 = start ((t : ℕ) / 256) + (s : ℕ) / 64 := by
  show (start ((t : ℕ) / 256) * 64 + (s : ℕ)) / 64 = _
  omega
theorem key_place (t : Fin 2048) (s : Fin 768) : (key t s : ℕ) % 64 = (s : ℕ) % 64 := by
  show (start ((t : ℕ) / 256) * 64 + (s : ℕ)) % 64 = _
  omega

/-- The band of a query's pattern, at a key of its window, is the bias of the query and that key. -/
theorem band_eq (P : FVec Ideal S2x8x15x31 .f32) (h : Fin 8) (t : Fin 2048) (s : Fin 768) :
    band P h (pattern t) (place t) s
      = if rowsNear ((t : ℕ) / 64) ((key t s : ℕ) / 64) ∧ colsNear ((t : ℕ) % 64) ((key t s : ℕ) % 64) then
          P (ix4 1 h ⟨min ((key t s : ℕ) / 64 + 7 - (t : ℕ) / 64) 14, by omega⟩ ⟨min ((key t s : ℕ) % 64 + 15 - (t : ℕ) % 64) 30, by omega⟩)
            * Cert.NaIdeal.Value.unit
        else ⊥ := by
  have hg : (t : ℕ) / 64 / 4 = (t : ℕ) / 256 := by omega
  have hs := near_shift ((t : ℕ) / 64) ((s : ℕ) / 64) (by omega)
  rw [hg] at hs
  have hle : start ((t : ℕ) / 256) ≤ (t : ℕ) / 64 := by unfold start; omega
  have hp : ((pattern t : Fin 12) : ℕ) = (t : ℕ) / 64 - start ((t : ℕ) / 256) := rfl
  have hc : ((place t : Fin 64) : ℕ) = (t : ℕ) % 64 := rfl
  unfold band
  rw [ofBits_bot]
  have e1 : (⟨min ((s : ℕ) / 64 + 7 - (pattern t : Fin 12)) 14, by omega⟩ : Fin 15) = ⟨min ((key t s : ℕ) / 64 + 7 - (t : ℕ) / 64) 14, by omega⟩ :=
    Fin.ext (by show min ((s : ℕ) / 64 + 7 - ((pattern t : Fin 12) : ℕ)) 14 = min ((key t s : ℕ) / 64 + 7 - (t : ℕ) / 64) 14; rw [key_row, hp]; omega)
  have e2 : (⟨min ((s : ℕ) % 64 + 15 - (place t : Fin 64)) 30, by omega⟩ : Fin 31) = ⟨min ((key t s : ℕ) % 64 + 15 - (t : ℕ) % 64) 30, by omega⟩ :=
    Fin.ext (by show min ((s : ℕ) % 64 + 15 - ((place t : Fin 64) : ℕ)) 30 = min ((key t s : ℕ) % 64 + 15 - (t : ℕ) % 64) 30; rw [key_place, hc])
  rw [e1, e2]
  refine if_congr ?_ rfl rfl
  rw [key_row, key_place, hs, hp, hc]

/-- The two programs' results agree when the queries, the keys and the layer's biases are real numbers. -/
theorem result_eq (X : FVec Ideal S8x2048x8192 .f32) (P : FVec Ideal S2x8x15x31 .f32)
    (hX : ∀ (b : Fin 8) (t j : Fin 2048), ∃ r : ℝ, X (ix3 b t ⟨j, by omega⟩) = (r : EReal))
    (hP : ∀ (h : Fin 8) (a : Fin 15) (d : Fin 31), ∃ r : ℝ, P (ix4 1 h a d) = (r : EReal)) :
    Cert.NaIdeal.Value.result X P = Cert.NaRefIdeal.Value.REF X P := by
  choose x hx using hX
  choose p hp using hP
  funext i
  idx_vars i
  have hq : ∀ d : Fin 128, X (ix3 i0 i1 ⟨(i2 : ℕ) / 128 * 128 + d, by omega⟩) = ((x i0 i1 ⟨(i2 : ℕ) / 128 * 128 + d, by omega⟩ : ℝ) : EReal) :=
    fun d => hx i0 i1 ⟨(i2 : ℕ) / 128 * 128 + d, by omega⟩
  have hk : ∀ (s : Fin 2048) (d : Fin 128), X (ix3 i0 s ⟨1024 + ((i2 : ℕ) / 128 * 128 + d), by omega⟩)
      = ((x i0 s ⟨1024 + ((i2 : ℕ) / 128 * 128 + d), by omega⟩ : ℝ) : EReal) :=
    fun s d => hx i0 s ⟨1024 + ((i2 : ℕ) / 128 * 128 + d), by omega⟩
  have hi : ∀ c : Prop, [Decidable c] → ∀ (q k : Fin 128 → ℝ) (b : ℝ),
      ∑ d, (q d : EReal) * Cert.NaIdeal.Value.scale * (k d : EReal) + (if c then (b : EReal) * Cert.NaIdeal.Value.unit else ⊥)
        = if c then ((((∑ d, q d * (1 / √128) * k d) + b) / Real.log 2 : ℝ) : EReal) else ⊥ := by
    intro c _ q k b
    split
    · exact (scores_real q k b).2.1
    · exact (scores_real q k b).2.2
  unfold Cert.NaRefIdeal.Value.REF
  rw [Cert.NaRefIdeal.Value.mixed_at]
  simp only [Cert.NaRefIdeal.Value.weights_at, Cert.NaRefIdeal.Value.rowMax_at, Cert.NaRefIdeal.Value.scores_at]
  simp only [hq, hk, hp, (scores_real _ _ _).1, ofBits_bot]
  refine Eq.trans ?_ (attend_part (fun s : Fin 2048 => rowsNear ((i1 : ℕ) / 64) ((s : ℕ) / 64) ∧ colsNear ((i1 : ℕ) % 64) ((s : ℕ) % 64))
    (fun s : Fin 2048 => (∑ d : Fin 128, x i0 i1 ⟨(i2 : ℕ) / 128 * 128 + d, by omega⟩ * (1 / √128)
        * x i0 s ⟨1024 + ((i2 : ℕ) / 128 * 128 + d), by omega⟩)
      + p ⟨(i2 : ℕ) / 128, by omega⟩ ⟨min ((s : ℕ) / 64 + 7 - (i1 : ℕ) / 64) 14, by omega⟩ ⟨min ((s : ℕ) % 64 + 15 - (i1 : ℕ) % 64) 30, by omega⟩)
    (fun s => X (ix3 i0 s ⟨2048 + (i2 : ℕ), by omega⟩)) (key i1) ?_ ?_ ?_)
  · unfold Cert.NaIdeal.Value.result Cert.NaIdeal.Value.row
    simp only [ix3_0, ix3_1, ix3_2, ofBits_bot, mul_one]
    simp only [band_eq, hq, hk, hp, hi]
  · intro a b h
    have h' : start ((i1 : ℕ) / 256) * 64 + (a : ℕ) = start ((i1 : ℕ) / 256) * 64 + (b : ℕ) := congrArg Fin.val h
    exact Fin.ext (by omega)
  · intro s h
    have hg : (i1 : ℕ) / 64 / 4 = (i1 : ℕ) / 256 := by omega
    have hw := near_window _ _ (by omega) h.1
    rw [hg] at hw
    exact ⟨⟨(s : ℕ) - start ((i1 : ℕ) / 256) * 64, by omega⟩,
      Fin.ext (by show start ((i1 : ℕ) / 256) * 64 + ((s : ℕ) - start ((i1 : ℕ) / 256) * 64) = (s : ℕ); omega)⟩
  · exact ⟨i1, near_self _ (by omega), near_self' _ (by omega)⟩

/-- What the precondition says of every element. -/
theorem finite (X : FVec Ideal S8x2048x8192 .f32) (P : FVec Ideal S2x8x15x31 .f32)
    (h : Cert.Pre_finite_na.fn (F := Ideal) X P = fun _ => 1#1) :
    (∀ (b : Fin 8) (t j : Fin 2048), ∃ r : ℝ, X (ix3 b t ⟨j, by omega⟩) = (r : EReal))
      ∧ (∀ (h : Fin 8) (a : Fin 15) (d : Fin 31), ∃ r : ℝ, P (ix4 1 h a d) = (r : EReal)) := by
  have h0 := congrFun h (fun a => a.elim0)
  unfold Cert.Pre_finite_na.fn at h0
  haveI : Subsingleton Cert.Pre_finite_na.S_.Idx := ⟨fun a b => funext fun i => i.elim0⟩
  obtain ⟨hx, hp⟩ := IntOp.andi_eq_one.1 h0
  refine ⟨fun b t j => real_of_cmp _ ?_, fun h a d => real_of_cmp _ ?_⟩
  · have e := Host.reduce_andi_all _ _ _ _ _ hx (ix3 b t j)
    rw [← ofBits_top]
    revert e
    pointwise
    exact id
  · have e := Host.reduce_andi_all _ _ _ _ _ hp (ix3 h a d)
    rw [← ofBits_top]
    revert e
    pointwise
    exact id

end Cert.NaEq
end
-- ==== Proof.ClaimNa.lean ====
/- The claims about the neighbourhood attention call: the reference leaves its arguments and no signal behind, and the kernel's result
   is the reference's. -/
module

public import proofs.«01_k».proof.Defs
public import proofs.«01_k».proof.Proof.NaEq
public import proofs.«01_k».proof.Proof.Gen.Na.Frame
public import Idealize.ShloMosaic.Lib.Claim
public import Idealize.ShloMosaic.Lib.Quiescent

@[expose] public section

set_option maxRecDepth 16384

noncomputable section

namespace Cert.ClaimNa

open Idealize.ShloMosaic Idealize.SL.Sem

theorem frame_ref : quiescent_NaRefIdeal := fun m g _ =>
  (θ_run Cert.NaRefIdeal.defs _ _).mono
    (fun r h => ⟨fun c => (h c).2, sem_eq_zero_of_no_sems (by decide) r.2⟩)
    (Cert.NaRefIdeal.Value.run m g)

/-- The named factor of the scores is the table's real number at the ideal instance and the literal at every other. -/
theorem preserves : preserves_Na_NaIdeal :=
  IdealRules.named_const.statement Cert.NaIdeal.κ "score_scale" .f32 0x3E0293EE#32 (((Real.sqrt 128)⁻¹ * (Real.log 2)⁻¹ : ℝ) : EReal) rfl

theorem algebraic : algebraic_NaIdeal_NaRefIdeal_pre_finite_na := by
  pair_intro
  · run_from Cert.NaIdeal.Gen.run_main m g
    exact Cert.NaIdeal.Gen.V_main_arg1 m _
  · run_from Cert.NaRefIdeal.Value.run m' g'
    obtain ⟨e₀, e₁⟩ := hagree c
    obtain ⟨h₁, h₂⟩ := Cert.NaEq.finite _ _ (hpre c)
    rw [Cert.NaRefIdeal.Value.result0, e₀, e₁]
    exact ((Cert.NaIdeal.Value.final m c).trans (Cert.NaEq.result_eq _ _ h₁ h₂)).symm

end Cert.ClaimNa
end
-- ==== Proof.PoolSums.lean ====
/- Sums of neighbours at doubling distances: over rows between zeros they are differences of running sums. -/
module

public import Idealize.ShloMosaic.Lib.Pointwise
public import Mathlib.Algebra.BigOperators.Intervals

@[expose] public section

noncomputable section

namespace Cert.PoolSums

open Idealize.ShloMosaic

/-- Two neighbours added: positions `i - a` and `i + b`, in the rows 8 to 2072 only. -/
def pair (a b : ℕ) (f : ℕ → EReal) (i : ℕ) : EReal := if 8 ≤ i ∧ i < 2072 then f (i - a) + f (i + b) else 0

/-- Sums of two, four, eight and sixteen neighbours. -/
def sum2 (f : ℕ → EReal) : ℕ → EReal := pair 1 0 f
def sum4 (f : ℕ → EReal) : ℕ → EReal := pair 1 1 (sum2 f)
def sum8 (f : ℕ → EReal) : ℕ → EReal := pair 2 2 (sum4 f)
def sum16 (f : ℕ → EReal) : ℕ → EReal := pair 4 4 (sum8 f)

/-- Half the window of a group of channels, and the group's sums. -/
def half (g : Fin 4) : ℕ := ![1, 2, 4, 8] g
def sumOf (g : Fin 4) : (ℕ → EReal) → ℕ → EReal := ![sum2, sum4, sum8, sum16] g

/-- How many of the rows `p - h` to `p + h - 1` there are, and that number among the reals. -/
def count (h p : ℕ) : ℕ := min (p + h) 2048 - (p - h)
def countE (h p : ℕ) : EReal := FloatOps.sitofp (F := Ideal) .f32 (BitVec.ofNat 32 (count h p))

/-- The first `n` terms added. -/
def upTo (F : ℕ → ℝ) (n : ℕ) : ℝ := ∑ k ∈ Finset.range n, F k

theorem upTo_succ (F : ℕ → ℝ) (n : ℕ) : upTo F (n + 1) = upTo F n + F n := Finset.sum_range_succ F n

theorem sum2_eq (F : ℕ → ℝ) (i : ℕ) (h : 8 ≤ i) (h' : i < 2072) :
    sum2 (fun k => (F k : EReal)) i = ((upTo F (i + 1) - upTo F (i - 1) : ℝ) : EReal) := by
  unfold sum2 pair
  obtain ⟨j, rfl⟩ : ∃ j, i = j + 1 := ⟨i - 1, by omega⟩
  rw [if_pos ⟨h, h'⟩, upTo_succ, upTo_succ, ← EReal.coe_add]
  refine congrArg _ ?_
  show F j + F (j + 1) = upTo F j + F j + F (j + 1) - upTo F j
  ring

/-- Two neighbouring differences make one of double length. -/
theorem join {F : ℕ → ℝ} {S : ℕ → EReal} {a i : ℕ} (h : 8 ≤ i ∧ i < 2072) (ha : 2 * a ≤ i)
    (hl : S (i - a) = ((upTo F (i - a + a) - upTo F (i - a - a) : ℝ) : EReal))
    (hr : S (i + a) = ((upTo F (i + a + a) - upTo F (i + a - a) : ℝ) : EReal)) :
    pair a a S i = ((upTo F (i + 2 * a) - upTo F (i - 2 * a) : ℝ) : EReal) := by
  unfold pair
  rw [if_pos h, hl, hr, ← EReal.coe_add]
  rw [show i - a + a = i by omega, show i + a - a = i by omega, show i - a - a = i - 2 * a by omega, show i + a + a = i + 2 * a by omega]
  exact congrArg _ (by ring)

theorem sum4_eq (F : ℕ → ℝ) (i : ℕ) (h : 9 ≤ i) (h' : i < 2071) :
    sum4 (fun k => (F k : EReal)) i = ((upTo F (i + 2) - upTo F (i - 2) : ℝ) : EReal) :=
  join ⟨by omega, by omega⟩ (by omega) (sum2_eq F _ (by omega) (by omega)) (sum2_eq F _ (by omega) (by omega))

theorem sum8_eq (F : ℕ → ℝ) (i : ℕ) (h : 11 ≤ i) (h' : i < 2069) :
    sum8 (fun k => (F k : EReal)) i = ((upTo F (i + 4) - upTo F (i - 4) : ℝ) : EReal) :=
  join ⟨by omega, by omega⟩ (by omega) (sum4_eq F _ (by omega) (by omega)) (sum4_eq F _ (by omega) (by omega))

theorem sum16_eq (F : ℕ → ℝ) (i : ℕ) (h : 15 ≤ i) (h' : i < 2065) :
    sum16 (fun k => (F k : EReal)) i = ((upTo F (i + 8) - upTo F (i - 8) : ℝ) : EReal) :=
  join ⟨by omega, by omega⟩ (by omega) (sum8_eq F _ (by omega) (by omega)) (sum8_eq F _ (by omega) (by omega))

theorem sumOf_eq (F : ℕ → ℝ) (g : Fin 4) (i : ℕ) (h : 16 ≤ i) (h' : i < 2064) :
    sumOf g (fun k => (F k : EReal)) i = ((upTo F (i + half g) - upTo F (i - half g) : ℝ) : EReal) := by
  match g with
  | ⟨0, _⟩ => exact sum2_eq F i (by omega) (by omega)
  | ⟨1, _⟩ => exact sum4_eq F i (by omega) (by omega)
  | ⟨2, _⟩ => exact sum8_eq F i (by omega) (by omega)
  | ⟨3, _⟩ => exact sum16_eq F i (by omega) (by omega)

/-- Rows between zeros. -/
def between (G : ℕ → ℝ) (i : ℕ) : ℝ := if 16 ≤ i ∧ i < 2064 then G (i - 16) else 0

theorem upTo_between (G : ℕ → ℝ) (n : ℕ) : upTo (between G) n = upTo G (min (n - 16) 2048) := by
  induction n with
  | zero => rfl
  | succ n ih =>
    rw [upTo_succ, ih]
    unfold between
    by_cases h : 16 ≤ n ∧ n < 2064
    · rw [if_pos h, show min (n + 1 - 16) 2048 = (n - 16) + 1 by omega, show min (n - 16) 2048 = n - 16 by omega, upTo_succ]
    · rw [if_neg h, show min (n + 1 - 16) 2048 = min (n - 16) 2048 by omega, add_zero]

theorem half_le (g : Fin 4) : half g ≤ 8 := by
  revert g
  decide

/-- The sums of a window of the rows, as the reference has them: a difference of two running sums. -/
theorem window (G : ℕ → ℝ) (g : Fin 4) (p : ℕ) (hp : p < 2048) :
    sumOf g (fun k => (between G k : EReal)) (p + 16) = (upTo G (min (p + half g) 2048) : EReal) - (upTo G (p - half g) : EReal) := by
  have hg := half_le g
  rw [sumOf_eq _ g _ (by omega) (by omega), upTo_between, upTo_between, ← EReal.coe_sub,
    show p + 16 + half g - 16 = p + half g by omega, show min (p + 16 - half g - 16) 2048 = p - half g by omega]

end Cert.PoolSums
end
-- ==== Proof.PoolValue.lean ====
/- The pooling call: what one grid point computes, and the array after the run as one function of the arguments. A point
   lays a batch's 2048 rows between zeros in a buffer and adds neighbours at doubling distances in two more. -/
module

public import proofs.«01_k».proof.Proof.Gen.PoolIdeal.Value
public import proofs.«01_k».proof.Proof.PoolSums
public import Idealize.ShloMosaic.Lib.Pointwise
public import Idealize.ShloMosaic.Lib.Pipeline.ValueKit
public import Idealize.ShloMosaic.Lib.Pipeline.ReadBack

@[expose] public section

set_option maxRecDepth 16384

noncomputable section

namespace Cert.PoolIdeal.Value

open Idealize.ShloMosaic Idealize.ShloMosaic.TcCoe Idealize.SL.Sem
open Idealize.ShloMosaic.Pipeline (Dat)
open Cert.PoolIdeal Cert.PoolIdeal.Gen
open Cert.PoolSums

/-! ## The buffers -/

/-- The rows of one channel between sixteen zeros on either side. -/
def padded (X : Vec Ideal S1x2048x1024 .f32) (e : Fin 1024) (i : ℕ) : EReal :=
  if h : 16 ≤ i ∧ i < 2064 then X (ix3 0 ⟨i - 16, by omega⟩ e) else 0

/-- The padded rows as the buffer holds them, and a read of them. -/
def paddedRows (X : Vec Ideal S1x2048x1024 .f32) : Vec Ideal S2080x1024 .f32 := fun y => padded X (y 1) (y 0 : ℕ)
def readRows (X : Vec Ideal S1x2048x1024 .f32) (B : LoadRect S2080x1024) : Vec Ideal B.shape .f32 := fun j => paddedRows X (B.idx j)

/-- The sums `S` of the 256 channels from `o` on as a buffer holds them, and a read of them. -/
def sumRows (S : (ℕ → EReal) → ℕ → EReal) (X : Vec Ideal S1x2048x1024 .f32) (o : ℕ) : Vec Ideal S2080x256 .f32 :=
  fun y => if h : o + (y 1 : ℕ) < 1024 then S (padded X ⟨o + (y 1 : ℕ), h⟩) (y 0 : ℕ) else 0
def readSums (S : (ℕ → EReal) → ℕ → EReal) (X : Vec Ideal S1x2048x1024 .f32) (o : ℕ) (B : LoadRect S2080x256) : Vec Ideal B.shape .f32 :=
  fun j => sumRows S X o (B.idx j)

/-- A store of the rows from `o` on, all columns: what a place in it holds, and a place off it. -/
theorem canon_hit {S : Shape} (r : Rect S) (w : r.shape.Idx → EReal) (L : List (View.Piece (Elt Ideal) S .f32)) (x : r.shape.Idx)
    (y : S.Idx) (h : ∀ a, (y a).val = r.off a + r.stride a * (x a).val) : View.canon (Val := Elt Ideal) (e := .f32) (⟨r, w⟩ :: L) y = w x := by
  rw [← r.emb_eq_of_coords x y h]
  exact View.canon_cons_emb r w L x

theorem canon_miss {S : Shape} (r : Rect S) (w : r.shape.Idx → EReal) (L : List (View.Piece (Elt Ideal) S .f32)) (y : S.Idx)
    (a : Fin S.rank) (hs : r.stride a = 1) (h : (y a).val < r.off a ∨ r.off a + r.size a ≤ (y a).val) :
    View.canon (Val := Elt Ideal) (e := .f32) (⟨r, w⟩ :: L) y = View.canon L y :=
  View.canon_cons_of_not_mem _ L (r.not_mem_set_of_axis y a _ _ rfl hs rfl h)

/-- A read of the padded rows. -/
theorem rows_canon (X : Vec Ideal S1x2048x1024 .f32) (v : View sig .tc .vmem S2080x1024 .f32) (B : LoadRect S2080x1024) :
    v.readCov
      [⟨Rect.unit ![16, 0] ![2048, 1024] inb_S2080x1024_S2048x1024_16_0, k0_pay4 (F := Ideal) X⟩,
       ⟨Rect.unit ![2064, 0] ![16, 1024] inb_S2080x1024_S16x1024_2064_0, k0_pay3 (F := Ideal)⟩,
       ⟨Rect.unit ![0, 0] ![16, 1024] inb_S2080x1024_S16x1024_0_0, k0_pay2 (F := Ideal)⟩] B
      = readRows X B := by
  rw [View.readCov_eq_canon']
  funext j
  show View.canon _ (B.idx j) = paddedRows X (B.idx j)
  generalize (B.idx j) = y
  obtain ⟨i, e, rfl⟩ : ∃ (i : Fin 2080) (e : Fin 1024), y = ix2 i e := ⟨y 0, y 1, by idx_vars y⟩
  show _ = padded X e (i : ℕ)
  have hi := i.isLt
  unfold padded
  by_cases h1 : 16 ≤ (i : ℕ) ∧ (i : ℕ) < 2064
  · rw [dif_pos h1]
    refine (canon_hit (S := S2080x1024) _ _ _ (ix2 ⟨(i : ℕ) - 16, by omega⟩ e : S2048x1024.Idx) _ (Fin.forall_fin_two.mpr ⟨?_, ?_⟩)).trans ?_
    · show (i : ℕ) = 16 + 1 * ((i : ℕ) - 16); omega
    · show (e : ℕ) = 0 + 1 * (e : ℕ); omega
    · pointwise [k0_pay4]
  · rw [dif_neg h1]
    refine (canon_miss (S := S2080x1024) _ _ _ _ 0 rfl (show (i : ℕ) < 16 ∨ 16 + 2048 ≤ (i : ℕ) by omega)).trans ?_
    by_cases h2 : 2064 ≤ (i : ℕ)
    · refine (canon_hit (S := S2080x1024) _ _ _ (ix2 ⟨(i : ℕ) - 2064, by omega⟩ e : S16x1024.Idx) _ (Fin.forall_fin_two.mpr ⟨?_, ?_⟩)).trans ?_
      · show (i : ℕ) = 2064 + 1 * ((i : ℕ) - 2064); omega
      · show (e : ℕ) = 0 + 1 * (e : ℕ); omega
      · pointwise [k0_pay3]
    · refine (canon_miss (S := S2080x1024) _ _ _ _ 0 rfl (show (i : ℕ) < 2064 ∨ 2064 + 16 ≤ (i : ℕ) by omega)).trans ?_
      refine (canon_hit (S := S2080x1024) _ _ _ (ix2 ⟨(i : ℕ), by omega⟩ e : S16x1024.Idx) _ (Fin.forall_fin_two.mpr ⟨?_, ?_⟩)).trans ?_
      · show (i : ℕ) = 0 + 1 * (i : ℕ); omega
      · show (e : ℕ) = 0 + 1 * (e : ℕ); omega
      · pointwise [k0_pay2]

/-- Stores that leave zeros above row 8 and from row 2072 on. -/
def Edges (L : List (View.Piece (Elt Ideal) S2080x256 .f32)) : Prop :=
  ∀ y : S2080x256.Idx, ((y 0 : ℕ) < 8 ∨ 2072 ≤ (y 0 : ℕ)) → View.canon L y = (0 : EReal)

/-- The rows from 8 to 2072 written over such stores. -/
theorem canon_mid (p : Vec Ideal S2064x256 .f32) (L : List (View.Piece (Elt Ideal) S2080x256 .f32)) (hL : Edges L) (i : Fin 2080) (e : Fin 256) :
    View.canon (Val := Elt Ideal) (⟨Rect.unit ![8, 0] ![2064, 256] inb_S2080x256_S2064x256_8_0, p⟩ :: L) (ix2 i e : S2080x256.Idx)
      = if h : 8 ≤ (i : ℕ) ∧ (i : ℕ) < 2072 then p (ix2 ⟨(i : ℕ) - 8, by omega⟩ e) else (0 : EReal) := by
  by_cases h : 8 ≤ (i : ℕ) ∧ (i : ℕ) < 2072
  · rw [dif_pos h]
    refine canon_hit (S := S2080x256) (Rect.unit ![8, 0] ![2064, 256] inb_S2080x256_S2064x256_8_0) p L (ix2 ⟨(i : ℕ) - 8, by omega⟩ e : S2064x256.Idx) _ (Fin.forall_fin_two.mpr ⟨?_, ?_⟩)
    · show (i : ℕ) = 8 + 1 * ((i : ℕ) - 8); omega
    · show (e : ℕ) = 0 + 1 * (e : ℕ); omega
  · rw [dif_neg h]
    refine (canon_miss (S := S2080x256) _ _ _ _ 0 rfl (show (i : ℕ) < 8 ∨ 8 + 2064 ≤ (i : ℕ) by omega)).trans ?_
    exact hL _ (show (i : ℕ) < 8 ∨ 2072 ≤ (i : ℕ) by omega)

theorem edges_cons (p : Vec Ideal S2064x256 .f32) (L : List (View.Piece (Elt Ideal) S2080x256 .f32)) (hL : Edges L) :
    Edges (⟨Rect.unit ![8, 0] ![2064, 256] inb_S2080x256_S2064x256_8_0, p⟩ :: L) := fun y hy => by
  obtain ⟨i, e, rfl⟩ : ∃ (i : Fin 2080) (e : Fin 256), y = ix2 i e := ⟨y 0, y 1, by idx_vars y⟩
  have hy' : (i : ℕ) < 8 ∨ 2072 ≤ (i : ℕ) := hy
  rw [canon_mid p L hL, dif_neg (by omega)]

theorem edges_base (p q : Vec Ideal S8x256 .f32) (hp : p = fun _ => (0 : EReal)) (hq : q = fun _ => (0 : EReal)) :
    Edges [⟨Rect.unit ![2072, 0] ![8, 256] inb_S2080x256_S8x256_2072_0, p⟩,
      ⟨Rect.unit ![0, 0] ![8, 256] inb_S2080x256_S8x256_0_0, q⟩] := fun y hy => by
  obtain ⟨i, e, rfl⟩ : ∃ (i : Fin 2080) (e : Fin 256), y = ix2 i e := ⟨y 0, y 1, by idx_vars y⟩
  have hy' : (i : ℕ) < 8 ∨ 2072 ≤ (i : ℕ) := hy
  have hi := i.isLt
  by_cases h2 : 2072 ≤ (i : ℕ)
  · refine (canon_hit (S := S2080x256) _ _ _ (ix2 ⟨(i : ℕ) - 2072, by omega⟩ e : S8x256.Idx) _ (Fin.forall_fin_two.mpr ⟨?_, ?_⟩)).trans ?_
    · show (i : ℕ) = 2072 + 1 * ((i : ℕ) - 2072); omega
    · show (e : ℕ) = 0 + 1 * (e : ℕ); omega
    · rw [hp]
  · refine (canon_miss (S := S2080x256) _ _ _ _ 0 rfl (show (i : ℕ) < 2072 ∨ 2072 + 8 ≤ (i : ℕ) by omega)).trans ?_
    refine (canon_hit (S := S2080x256) _ _ _ (ix2 ⟨(i : ℕ), by omega⟩ e : S8x256.Idx) _ (Fin.forall_fin_two.mpr ⟨?_, ?_⟩)).trans ?_
    · show (i : ℕ) = 0 + 1 * (i : ℕ); omega
    · show (e : ℕ) = 0 + 1 * (e : ℕ); omega
    · rw [hq]

theorem edges_a : Edges [⟨Rect.unit ![2072, 0] ![8, 256] inb_S2080x256_S8x256_2072_0, k0_pay6 (F := Ideal)⟩,
      ⟨Rect.unit ![0, 0] ![8, 256] inb_S2080x256_S8x256_0_0, k0_pay5 (F := Ideal)⟩] :=
  edges_base _ _ (by funext x; pointwise [k0_pay6]) (by funext x; pointwise [k0_pay5])

theorem edges_b : Edges [⟨Rect.unit ![2072, 0] ![8, 256] inb_S2080x256_S8x256_2072_0, k0_pay8 (F := Ideal)⟩,
      ⟨Rect.unit ![0, 0] ![8, 256] inb_S2080x256_S8x256_0_0, k0_pay7 (F := Ideal)⟩] :=
  edges_base _ _ (by funext x; pointwise [k0_pay8]) (by funext x; pointwise [k0_pay7])

/-- A read of sums of pairs, the pairs' ends being what two reads brought. -/
theorem read_pair (f : Fin 256 → ℕ → EReal) (a b : ℕ) (p q : Vec Ideal S2064x256 .f32)
    (hp : ∀ (i : Fin 2064) (e : Fin 256), p (ix2 i e) = f e ((i : ℕ) + 8 - a))
    (hq : ∀ (i : Fin 2064) (e : Fin 256), q (ix2 i e) = f e ((i : ℕ) + 8 + b))
    (G : Vec Ideal S2080x256 .f32) (hG : ∀ (i : Fin 2080) (e : Fin 256), G (ix2 i e) = pair a b (f e) i)
    (v : View sig .tc .vmem S2080x256 .f32) (L : List (View.Piece (Elt Ideal) S2080x256 .f32)) (hL : Edges L) (B : LoadRect S2080x256) :
    v.readCov (⟨Rect.unit ![8, 0] ![2064, 256] inb_S2080x256_S2064x256_8_0, k0_pay9 (F := Ideal) p q⟩ :: L) B = (fun j => G (B.idx j)) := by
  rw [View.readCov_eq_canon']
  funext j
  show View.canon _ (B.idx j) = G (B.idx j)
  generalize (B.idx j) = y
  obtain ⟨i, e, rfl⟩ : ∃ (i : Fin 2080) (e : Fin 256), y = ix2 i e := ⟨y 0, y 1, by idx_vars y⟩
  rw [canon_mid _ L hL, hG]
  unfold pair
  by_cases h : 8 ≤ (i : ℕ) ∧ (i : ℕ) < 2072
  · rw [dif_pos h, if_pos h]
    refine Eq.trans (b := p (ix2 ⟨(i : ℕ) - 8, by omega⟩ e) + q (ix2 ⟨(i : ℕ) - 8, by omega⟩ e)) (by pointwise [k0_pay9]) ?_
    rw [hp, hq]
    refine congrArg₂ (· + ·) (congrArg (f e) ?_) (congrArg (f e) ?_)
    · show (i : ℕ) - 8 + 8 - a = i - a; omega
    · show (i : ℕ) - 8 + 8 + b = i + b; omega
  · rw [dif_neg h, if_neg h]

/-- The first sums of a group of channels, of reads of the rows. -/
theorem read_sum2 (X : Vec Ideal S1x2048x1024 .f32) (o : ℕ) (ho : o + 256 ≤ 1024) (h7 h8)
    (v : View sig .tc .vmem S2080x256 .f32) (L : List (View.Piece (Elt Ideal) S2080x256 .f32)) (hL : Edges L) (B : LoadRect S2080x256) :
    v.readCov (⟨Rect.unit ![8, 0] ![2064, 256] inb_S2080x256_S2064x256_8_0,
      k0_pay9 (F := Ideal) (readRows X (Rect.unit (s := S2080x1024) ![7, o] ![2064, 256] h7).toLoadRect)
        (readRows X (Rect.unit (s := S2080x1024) ![8, o] ![2064, 256] h8).toLoadRect)⟩ :: L) B = readSums sum2 X o B := by
  have key : ∀ (k : ℕ) (hk) (i : Fin 2064) (e : Fin 256), readRows X (Rect.unit (s := S2080x1024) ![k, o] ![2064, 256] hk).toLoadRect (ix2 i e)
      = padded X ⟨o + (e : ℕ), by omega⟩ (k + (i : ℕ)) := fun k hk i e => by
    show padded X _ _ = _
    refine congrArg₂ (padded X) (Fin.ext ?_) ?_
    · show o + 1 * (e : ℕ) = o + e; omega
    · show k + 1 * (i : ℕ) = k + i; omega
  refine read_pair (fun e => padded X ⟨o + (e : ℕ), by omega⟩) 1 0 _ _ (fun i e => ?_) (fun i e => ?_) (sumRows sum2 X o) (fun i e => ?_) v L hL B
  · exact (key 7 h7 i e).trans (congrArg _ (by omega))
  · exact (key 8 h8 i e).trans (congrArg _ (by omega))
  · exact dif_pos (show o + (e : ℕ) < 1024 by omega)

/-- The next sums, of reads of the sums before. -/
theorem read_next (S : (ℕ → EReal) → ℕ → EReal) (a b : ℕ) (ha : a ≤ 8) (X : Vec Ideal S1x2048x1024 .f32) (o : ℕ) (ho : o + 256 ≤ 1024)
    (r q : ℕ) (hr : r + a = 8) (hq : q = 8 + b) (h7 h8)
    (v : View sig .tc .vmem S2080x256 .f32) (L : List (View.Piece (Elt Ideal) S2080x256 .f32)) (hL : Edges L) (B : LoadRect S2080x256) :
    v.readCov (⟨Rect.unit ![8, 0] ![2064, 256] inb_S2080x256_S2064x256_8_0,
      k0_pay9 (F := Ideal) (readSums S X o (Rect.unit (s := S2080x256) ![r, 0] ![2064, 256] h7).toLoadRect)
        (readSums S X o (Rect.unit (s := S2080x256) ![q, 0] ![2064, 256] h8).toLoadRect)⟩ :: L) B
      = readSums (fun f => pair a b (S f)) X o B := by
  have key : ∀ (k : ℕ) (hk) (i : Fin 2064) (e : Fin 256), readSums S X o (Rect.unit (s := S2080x256) ![k, 0] ![2064, 256] hk).toLoadRect (ix2 i e)
      = S (padded X ⟨o + (e : ℕ), by omega⟩) (k + (i : ℕ)) := fun k hk i e => by
    have he : o + (0 + 1 * (e : ℕ)) < 1024 := by omega
    refine (dif_pos he).trans ?_
    refine congrArg₂ (fun c n => S (padded X c) n) (Fin.ext ?_) ?_
    · show o + (0 + 1 * (e : ℕ)) = o + e; omega
    · show k + 1 * (i : ℕ) = k + i; omega
  refine read_pair (fun e => S (padded X ⟨o + (e : ℕ), by omega⟩)) a b _ _ (fun i e => ?_) (fun i e => ?_)
    (sumRows (fun f => pair a b (S f)) X o) (fun i e => ?_) v L hL B
  · exact (key r h7 i e).trans (congrArg _ (by omega))
  · exact (key q h8 i e).trans (congrArg _ (by omega))
  · exact dif_pos (show o + (e : ℕ) < 1024 by omega)

theorem read_sum4 (X : Vec Ideal S1x2048x1024 .f32) (o : ℕ) (ho : o + 256 ≤ 1024) (h7 h8)
    (v : View sig .tc .vmem S2080x256 .f32) (L : List (View.Piece (Elt Ideal) S2080x256 .f32)) (hL : Edges L) (B : LoadRect S2080x256) :
    v.readCov (⟨Rect.unit ![8, 0] ![2064, 256] inb_S2080x256_S2064x256_8_0,
      k0_pay9 (F := Ideal) (readSums sum2 X o (Rect.unit (s := S2080x256) ![7, 0] ![2064, 256] h7).toLoadRect)
        (readSums sum2 X o (Rect.unit (s := S2080x256) ![9, 0] ![2064, 256] h8).toLoadRect)⟩ :: L) B = readSums sum4 X o B :=
  read_next sum2 1 1 (by decide) X o ho 7 9 rfl rfl h7 h8 v L hL B

theorem read_sum8 (X : Vec Ideal S1x2048x1024 .f32) (o : ℕ) (ho : o + 256 ≤ 1024) (h7 h8)
    (v : View sig .tc .vmem S2080x256 .f32) (L : List (View.Piece (Elt Ideal) S2080x256 .f32)) (hL : Edges L) (B : LoadRect S2080x256) :
    v.readCov (⟨Rect.unit ![8, 0] ![2064, 256] inb_S2080x256_S2064x256_8_0,
      k0_pay9 (F := Ideal) (readSums sum4 X o (Rect.unit (s := S2080x256) ![6, 0] ![2064, 256] h7).toLoadRect)
        (readSums sum4 X o (Rect.unit (s := S2080x256) ![10, 0] ![2064, 256] h8).toLoadRect)⟩ :: L) B = readSums sum8 X o B :=
  read_next sum4 2 2 (by decide) X o ho 6 10 rfl rfl h7 h8 v L hL B

theorem read_sum16 (X : Vec Ideal S1x2048x1024 .f32) (o : ℕ) (ho : o + 256 ≤ 1024) (h7 h8)
    (v : View sig .tc .vmem S2080x256 .f32) (L : List (View.Piece (Elt Ideal) S2080x256 .f32)) (hL : Edges L) (B : LoadRect S2080x256) :
    v.readCov (⟨Rect.unit ![8, 0] ![2064, 256] inb_S2080x256_S2064x256_8_0,
      k0_pay9 (F := Ideal) (readSums sum8 X o (Rect.unit (s := S2080x256) ![4, 0] ![2064, 256] h7).toLoadRect)
        (readSums sum8 X o (Rect.unit (s := S2080x256) ![12, 0] ![2064, 256] h8).toLoadRect)⟩ :: L) B = readSums sum16 X o B :=
  read_next sum8 4 4 (by decide) X o ho 4 12 rfl rfl h7 h8 v L hL B

/-- The other groups' additions are the first's. -/
theorem add2 : k0_pay28 (F := Ideal) = k0_pay9 := rfl
theorem add3 : k0_pay45 (F := Ideal) = k0_pay9 := rfl
theorem add4 : k0_pay46 (F := Ideal) = k0_pay9 := rfl
theorem add5 : k0_pay47 (F := Ideal) = k0_pay9 := rfl
theorem add6 : k0_pay64 (F := Ideal) = k0_pay9 := rfl
theorem add7 : k0_pay65 (F := Ideal) = k0_pay9 := rfl
theorem add8 : k0_pay66 (F := Ideal) = k0_pay9 := rfl
theorem add9 : k0_pay67 (F := Ideal) = k0_pay9 := rfl
theorem add1 (a b : Vec Ideal S2064x256 .f32) : k0_pay27 (F := Ideal) (k0_pay26 a b) = k0_pay9 a b := rfl

end Cert.PoolIdeal.Value
end
-- ==== Proof.PoolPoint.lean ====
/- The pooling call: one of a grid point's 32 tiles, 256 rows of 256 channels, and the array after the run. -/
module

public import proofs.«01_k».proof.Proof.PoolValue

@[expose] public section

set_option maxRecDepth 16384

noncomputable section

namespace Cert.PoolIdeal.Value

open Idealize.ShloMosaic Idealize.ShloMosaic.TcCoe Idealize.SL.Sem
open Idealize.ShloMosaic.Pipeline (Dat)
open Cert.PoolIdeal Cert.PoolIdeal.Gen
open Cert.PoolSums

/-- A tile: the sums over the counts, less the rows, by the weights and the scale. -/
def tile (h o : BitVec 32) (tot : Vec Ideal S256x256 .f32) (x : Vec Ideal S1x256x256 .f32) (w : Vec Ideal S1x256x256 .bf16)
    (s : Vec Ideal S1x256 .f32) : FVec Ideal S1x256x256 .bf16 :=
  have pos : IVec S256x256 32 := addi (broadcast S256x256 o) (iota .tc S256x256 32 [0] iota_S256x256_d0_w32)
  have hi : IVec S256x256 32 := minsi (addi pos (broadcast S256x256 h)) (broadcast S256x256 2048#32)
  have lo : IVec S256x256 32 := maxsi (subi pos (broadcast S256x256 h)) (broadcast S256x256 0#32)
  have mean : FVec Ideal S256x256 .f32 := divf tot (sitofp .f32 (subi hi lo))
  have d : FVec Ideal S256x256 .bf16 := truncf .bf16 (subf mean (shapeCast S256x256 x shapeCasts_S1x256x256_S256x256)) bitsLt_bf16_f32
  have y : FVec Ideal S256x256 .f32 := matmul dot_S256x256_S256x256_S256x256_1_0_0_1_n_n none d
    (show FVec Ideal S256x256 .bf16 from shapeCast S256x256 w shapeCasts_S1x256x256_S256x256) (constant S256x256 .f32 0x00000000#32)
  have z : FVec Ideal S256x256 .bf16 := truncf .bf16
    (mulf y (broadcastTo S256x256 (shapeCast S1x256 s shapeCasts_S1x256_S1x256) broadcasts_S1x256_S256x256)) bitsLt_bf16_f32
  shapeCast S1x256x256 z shapeCasts_S256x256_S1x256x256

theorem count_word : ∀ (g : Fin 4) (p : Fin 2048),
    IntOp.subi (IntOp.minsi (IntOp.addi (BitVec.ofNat 32 (p : ℕ)) (BitVec.ofNat 32 (half g))) 2048#32)
      (IntOp.maxsi (IntOp.subi (BitVec.ofNat 32 (p : ℕ)) (BitVec.ofNat 32 (half g))) 0#32) = BitVec.ofNat 32 (count (half g) (p : ℕ)) := by
  decide +kernel

theorem tile_at (h o : BitVec 32) (tot : Vec Ideal S256x256 .f32) (x : Vec Ideal S1x256x256 .f32) (w : Vec Ideal S1x256x256 .bf16)
    (s : Vec Ideal S1x256 .f32) (r e : Fin 256) (g : Fin 4) (p : Fin 2048) (hh : h = BitVec.ofNat 32 (half g))
    (ho : IntOp.addi o (BitVec.ofNat 32 (r : ℕ)) = BitVec.ofNat 32 (p : ℕ)) :
    tile h o tot x w s (ix3 0 r e)
      = (∑ c : Fin 256, (Ideal.div (tot (ix2 r c)) (countE (half g) p) - x (ix3 0 r c)) * w (ix3 0 c e)) * s (ix2 0 e) := by
  pointwise [tile]
  rw [ho, hh, count_word g p]
  rfl

/-- What a point leaves at row `p` and channel `256 g + e` of its batch. -/
def value (X : Vec Ideal S1x2048x1024 .f32) (W : Vec Ideal S4x256x256 .bf16) (s : Vec Ideal S1x1024 .f32) (g : Fin 4) (p : Fin 2048)
    (e : Fin 256) : EReal :=
  (∑ c : Fin 256, (Ideal.div (sumOf g (padded X ⟨256 * g + c, by omega⟩) (p + 16)) (countE (half g) p) - X (ix3 0 p ⟨256 * g + c, by omega⟩))
    * W (ix3 g c e)) * s (ix2 0 ⟨256 * g + e, by omega⟩)

def result (X : Vec Ideal S1x2048x1024 .f32) (W : Vec Ideal S4x256x256 .bf16) (s : Vec Ideal S1x1024 .f32) (y : S1x2048x1024.Idx) : EReal :=
  value X W s ⟨(y 2 : ℕ) / 256, by have h : (y 2 : ℕ) < 1024 := (y 2).isLt; omega⟩ (y 1)
    ⟨(y 2 : ℕ) % 256, by omega⟩

/-- Tile `k` of group `g`. -/
theorem piece (X : Vec Ideal S1x2048x1024 .f32) (W : Vec Ideal S4x256x256 .bf16) (s : Vec Ideal S1x1024 .f32) (g : Fin 4) (k : ℕ) (hk : k < 8)
    (S : (ℕ → EReal) → ℕ → EReal) (hS : S = sumOf g) (h o : BitVec 32) (hh : h = BitVec.ofNat 32 (half g)) (ho : o = BitVec.ofNat 32 (256 * k))
    (a b c d : ℕ) (ha : a = 16 + 256 * k) (hb : b = 256 * k) (hc : c = 256 * g) (hd : d = g) (h1 h2 h3 h4) (x : S1x256x256.Idx) (y : S1x2048x1024.Idx)
    (e1 : (y 1 : ℕ) = b + (x 1 : ℕ)) (e2 : (y 2 : ℕ) = c + (x 2 : ℕ)) :
    tile h o (readSums S X c (Rect.unit (s := S2080x256) ![a, 0] ![256, 256] h1).toLoadRect)
      (View.ld (Val := Elt Ideal) (e' := .f32) X (Rect.unit (s := S1x2048x1024) ![0, b, c] ![1, 256, 256] h2))
      (View.ld (Val := Elt Ideal) (e' := .bf16) W (Rect.unit (s := S4x256x256) ![d, 0, 0] ![1, 256, 256] h3))
      (View.ld (Val := Elt Ideal) (e' := .f32) s (Rect.unit (s := S1x1024) ![0, c] ![1, 256] h4)) x = result X W s y := by
  subst hS hb hc hd ha
  obtain ⟨r, e, rfl⟩ : ∃ r e, x = ix3 0 r e := ⟨x 1, x 2, by idx_vars x; obtain rfl : x0 = 0 := Subsingleton.elim _ _; rfl⟩
  have f1 : (y 1 : ℕ) = 256 * k + (r : ℕ) := e1
  have f2 : (y 2 : ℕ) = 256 * (g : ℕ) + (e : ℕ) := e2
  have hr := r.isLt
  have he := e.isLt
  have hg := g.isLt
  rw [tile_at h o _ _ _ _ r e g ⟨256 * k + r, by omega⟩ hh (by rw [ho]; exact (BitVec.ofNat_add _ _).symm)]
  unfold result
  have p1 : (⟨256 * k + r, by omega⟩ : Fin 2048) = y 1 := Fin.ext f1.symm
  have p2 : (⟨(y 2 : ℕ) / 256, by omega⟩ : Fin 4) = g := Fin.ext (by show (y 2 : ℕ) / 256 = g; omega)
  have p3 : (⟨(y 2 : ℕ) % 256, by omega⟩ : Fin 256) = e := Fin.ext (by show (y 2 : ℕ) % 256 = e; omega)
  rw [p2, p3, ← p1]
  unfold value
  refine congrArg₂ (· * ·) (Finset.sum_congr rfl fun c _ => congrArg₂ (· * ·) (congrArg₂ (· - ·) (congrArg₂ Ideal.div ?_ rfl) ?_) ?_) ?_
  · have hc : 256 * (g : ℕ) + (0 + 1 * (c : ℕ)) < 1024 := by omega
    refine (dif_pos hc).trans (congrArg₂ (fun c n => sumOf g (padded X c) n) (Fin.ext ?_) ?_)
    · show 256 * (g : ℕ) + (0 + 1 * (c : ℕ)) = 256 * g + c; omega
    · show 16 + 256 * k + 1 * (r : ℕ) = 256 * k + r + 16; omega
  · refine congrArg X ?_
    funext i
    match i with
    | ⟨0, _⟩ => exact Fin.ext (show 0 + 1 * 0 = 0 from rfl)
    | ⟨1, _⟩ => exact Fin.ext (show 256 * k + 1 * (r : ℕ) = 256 * k + r by omega)
    | ⟨2, _⟩ => exact Fin.ext (show 256 * (g : ℕ) + 1 * (c : ℕ) = 256 * g + c by omega)
  · refine congrArg W ?_
    funext i
    match i with
    | ⟨0, _⟩ => exact Fin.ext (show (g : ℕ) + 1 * 0 = g by omega)
    | ⟨1, _⟩ => exact Fin.ext (show 0 + 1 * (c : ℕ) = c by omega)
    | ⟨2, _⟩ => exact Fin.ext (show 0 + 1 * (e : ℕ) = e by omega)
  · refine congrArg s ?_
    funext i
    match i with
    | ⟨0, _⟩ => exact Fin.ext (show 0 + 1 * 0 = 0 from rfl)
    | ⟨1, _⟩ => exact Fin.ext (show 256 * (g : ℕ) + 1 * (e : ℕ) = 256 * g + e by omega)

variable (m : (ℓ : Loc nD τ sig) → Buf (Elt Ideal) ℓ)

/-- What a grid point leaves in its block of the result. -/
theorem point (c : Dev nD) (t : Fin cfg0.N) (y : S1x2048x1024.Idx) :
    outsAt0 m c t y = result (X0_0 m c t : Vec Ideal S1x2048x1024 .f32) (iblk m c 1 t : Vec Ideal S4x256x256 .bf16)
      (iblk m c 2 t : Vec Ideal S1x1024 .f32) y := by
  unfold outsAt0
  frame_out
  generalize (X0_0 m c t : Vec Ideal S1x2048x1024 .f32) = X
  generalize (iblk m c 1 t : Vec Ideal S4x256x256 .bf16) = W
  generalize (iblk m c 2 t : Vec Ideal S1x1024 .f32) = s
  simp only [rows_canon X, add1, add2, add3, add4, add5, add6, add7, add8, add9]
  simp (disch := first | decide | (repeat first | exact edges_a | exact edges_b | refine edges_cons _ _ ?_)) only
    [read_sum2, read_sum4, read_sum8, read_sum16]
  canon_tiles x h
  case piece0 => exact piece X W s 3 7 (by decide) sum16 rfl 8#32 1792#32 rfl rfl 1808 1792 768 3 rfl rfl rfl rfl _ _ _ _ x y h1 h2
  case piece1 => exact piece X W s 3 6 (by decide) sum16 rfl 8#32 1536#32 rfl rfl 1552 1536 768 3 rfl rfl rfl rfl _ _ _ _ x y h1 h2
  case piece2 => exact piece X W s 3 5 (by decide) sum16 rfl 8#32 1280#32 rfl rfl 1296 1280 768 3 rfl rfl rfl rfl _ _ _ _ x y h1 h2
  case piece3 => exact piece X W s 3 4 (by decide) sum16 rfl 8#32 1024#32 rfl rfl 1040 1024 768 3 rfl rfl rfl rfl _ _ _ _ x y h1 h2
  case piece4 => exact piece X W s 3 3 (by decide) sum16 rfl 8#32 768#32 rfl rfl 784 768 768 3 rfl rfl rfl rfl _ _ _ _ x y h1 h2
  case piece5 => exact piece X W s 3 2 (by decide) sum16 rfl 8#32 512#32 rfl rfl 528 512 768 3 rfl rfl rfl rfl _ _ _ _ x y h1 h2
  case piece6 => exact piece X W s 3 1 (by decide) sum16 rfl 8#32 256#32 rfl rfl 272 256 768 3 rfl rfl rfl rfl _ _ _ _ x y h1 h2
  case piece7 => exact piece X W s 3 0 (by decide) sum16 rfl 8#32 0#32 rfl rfl 16 0 768 3 rfl rfl rfl rfl _ _ _ _ x y (h1.trans (Nat.zero_add _).symm) h2
  case piece8 => exact piece X W s 2 7 (by decide) sum8 rfl 4#32 1792#32 rfl rfl 1808 1792 512 2 rfl rfl rfl rfl _ _ _ _ x y h1 h2
  case piece9 => exact piece X W s 2 6 (by decide) sum8 rfl 4#32 1536#32 rfl rfl 1552 1536 512 2 rfl rfl rfl rfl _ _ _ _ x y h1 h2
  case piece10 => exact piece X W s 2 5 (by decide) sum8 rfl 4#32 1280#32 rfl rfl 1296 1280 512 2 rfl rfl rfl rfl _ _ _ _ x y h1 h2
  case piece11 => exact piece X W s 2 4 (by decide) sum8 rfl 4#32 1024#32 rfl rfl 1040 1024 512 2 rfl rfl rfl rfl _ _ _ _ x y h1 h2
  case piece12 => exact piece X W s 2 3 (by decide) sum8 rfl 4#32 768#32 rfl rfl 784 768 512 2 rfl rfl rfl rfl _ _ _ _ x y h1 h2
  case piece13 => exact piece X W s 2 2 (by decide) sum8 rfl 4#32 512#32 rfl rfl 528 512 512 2 rfl rfl rfl rfl _ _ _ _ x y h1 h2
  case piece14 => exact piece X W s 2 1 (by decide) sum8 rfl 4#32 256#32 rfl rfl 272 256 512 2 rfl rfl rfl rfl _ _ _ _ x y h1 h2
  case piece15 => exact piece X W s 2 0 (by decide) sum8 rfl 4#32 0#32 rfl rfl 16 0 512 2 rfl rfl rfl rfl _ _ _ _ x y (h1.trans (Nat.zero_add _).symm) h2
  case piece16 => exact piece X W s 1 7 (by decide) sum4 rfl 2#32 1792#32 rfl rfl 1808 1792 256 1 rfl rfl rfl rfl _ _ _ _ x y h1 h2
  case piece17 => exact piece X W s 1 6 (by decide) sum4 rfl 2#32 1536#32 rfl rfl 1552 1536 256 1 rfl rfl rfl rfl _ _ _ _ x y h1 h2
  case piece18 => exact piece X W s 1 5 (by decide) sum4 rfl 2#32 1280#32 rfl rfl 1296 1280 256 1 rfl rfl rfl rfl _ _ _ _ x y h1 h2
  case piece19 => exact piece X W s 1 4 (by decide) sum4 rfl 2#32 1024#32 rfl rfl 1040 1024 256 1 rfl rfl rfl rfl _ _ _ _ x y h1 h2
  case piece20 => exact piece X W s 1 3 (by decide) sum4 rfl 2#32 768#32 rfl rfl 784 768 256 1 rfl rfl rfl rfl _ _ _ _ x y h1 h2
  case piece21 => exact piece X W s 1 2 (by decide) sum4 rfl 2#32 512#32 rfl rfl 528 512 256 1 rfl rfl rfl rfl _ _ _ _ x y h1 h2
  case piece22 => exact piece X W s 1 1 (by decide) sum4 rfl 2#32 256#32 rfl rfl 272 256 256 1 rfl rfl rfl rfl _ _ _ _ x y h1 h2
  case piece23 => exact piece X W s 1 0 (by decide) sum4 rfl 2#32 0#32 rfl rfl 16 0 256 1 rfl rfl rfl rfl _ _ _ _ x y (h1.trans (Nat.zero_add _).symm) h2
  case piece24 => exact piece X W s 0 7 (by decide) sum2 rfl 1#32 1792#32 rfl rfl 1808 1792 0 0 rfl rfl rfl rfl _ _ _ _ x y h1 (h2.trans (Nat.zero_add _).symm)
  case piece25 => exact piece X W s 0 6 (by decide) sum2 rfl 1#32 1536#32 rfl rfl 1552 1536 0 0 rfl rfl rfl rfl _ _ _ _ x y h1 (h2.trans (Nat.zero_add _).symm)
  case piece26 => exact piece X W s 0 5 (by decide) sum2 rfl 1#32 1280#32 rfl rfl 1296 1280 0 0 rfl rfl rfl rfl _ _ _ _ x y h1 (h2.trans (Nat.zero_add _).symm)
  case piece27 => exact piece X W s 0 4 (by decide) sum2 rfl 1#32 1024#32 rfl rfl 1040 1024 0 0 rfl rfl rfl rfl _ _ _ _ x y h1 (h2.trans (Nat.zero_add _).symm)
  case piece28 => exact piece X W s 0 3 (by decide) sum2 rfl 1#32 768#32 rfl rfl 784 768 0 0 rfl rfl rfl rfl _ _ _ _ x y h1 (h2.trans (Nat.zero_add _).symm)
  case piece29 => exact piece X W s 0 2 (by decide) sum2 rfl 1#32 512#32 rfl rfl 528 512 0 0 rfl rfl rfl rfl _ _ _ _ x y h1 (h2.trans (Nat.zero_add _).symm)
  case piece30 => exact piece X W s 0 1 (by decide) sum2 rfl 1#32 256#32 rfl rfl 272 256 0 0 rfl rfl rfl rfl _ _ _ _ x y h1 (h2.trans (Nat.zero_add _).symm)
  case piece31 => exact piece X W s 0 0 (by decide) sum2 rfl 1#32 0#32 rfl rfl 16 0 0 0 rfl rfl rfl rfl _ _ _ _ x y (h1.trans (Nat.zero_add _).symm) (h2.trans (Nat.zero_add _).symm)

/-! ## The array after the run -/

abbrev argX (c : Dev nD) : FVec Ideal S8x2048x2560 .f32 := m ((c : Thread nD τ).loc main_arg0)
abbrev argW (c : Dev nD) : FVec Ideal S2x4x256x256 .f32 := m ((c : Thread nD τ).loc main_arg1)
abbrev argS (c : Dev nD) : FVec Ideal S2x1024 .f32 := m ((c : Thread nD τ).loc main_arg2)

theorem entry_x (c : Dev nD) : V m c main_arg0 = m ((c : Thread nD τ).loc main_arg0) := by entry_read; rfl
theorem entry_w (c : Dev nD) (g : Fin 4) (d : Fin 256) (e : Fin 256) :
    (V m c main_v2 : FVec Ideal S4x256x256 .bf16) (ix3 g d e) = argW m c (ix4 1 g d e) := by
  entry_read
  pointwise
theorem entry_s (c : Dev nD) (e : Fin 1024) :
    (V m c main_v5 : FVec Ideal S1x1024 .f32) (ix2 0 e) = argS m c (ix2 1 e) := by
  entry_read
  pointwise

theorem idx : ∀ t : Fin cfg0.N, win0_0.index t = ![t.val, 0, 0] ∧ win0_1.index t = ![0, 0, 0]
    ∧ win0_2.index t = ![0, 0] ∧ win0_3.index t = ![t.val, 0, 0] :=
  (by decide +kernel : ∀ t : Fin grid0.N, _)

/-- The blocks of a grid point, read out of any array. -/
theorem block_w (A : FVec Ideal S4x256x256 .bf16) (t : Fin cfg0.N) (g : Fin 4) (d e : Fin 256) :
    ((cfg0.win 1).blk t).view.read (Elt Ideal) A (ix3 g d e : S4x256x256.Idx) = A (ix3 g d e) := by
  blk_ext [idx t]
theorem block_s (A : FVec Ideal S1x1024 .f32) (t : Fin cfg0.N) (e : Fin 1024) :
    ((cfg0.win 2).blk t).view.read (Elt Ideal) A (ix2 0 e : S1x1024.Idx) = A (ix2 0 e) := by
  blk_ext [idx t]
theorem block_x (A : FVec Ideal S8x2048x2560 .f32) (t : Fin cfg0.N) (ht : t.val < 8) (j : ((cfg0.win 0).xblock (cfg0.grid.coords t)).Idx)
    (r : Fin 2048) (e : Fin 1024) (h1 : (j 1 : ℕ) = r) (h2 : (j 2 : ℕ) = e) :
    ((cfg0.win 0).blk t).view.read (Elt Ideal) A j = A (ix3 ⟨t.val, ht⟩ r ⟨e, by omega⟩) := by
  have h0 : (j 0 : ℕ) = 0 := by
    have h : (j 0 : ℕ) < (cfg0.win 0).xsize (cfg0.grid.coords t) 0 := (j 0).isLt
    rw [xsize0_0 t 0] at h
    have h' : (j 0 : ℕ) < 1 := h
    omega
  blk_ext [idx t]

/-- A batch's rows, and the second of the weights and of the scales. -/
def batch (A : FVec Ideal S8x2048x2560 .f32) (b : Fin 8) : Vec Ideal S1x2048x1024 .f32 :=
  fun y => A (ix3 b (y 1) ⟨(y 2 : ℕ), by have h : (y 2 : ℕ) < 1024 := (y 2).isLt; omega⟩)
def weights (A : FVec Ideal S2x4x256x256 .f32) : Vec Ideal S4x256x256 .bf16 := fun y => A (ix4 1 (y 0) (y 1) (y 2))
def scales (A : FVec Ideal S2x1024 .f32) : Vec Ideal S1x1024 .f32 := fun y => A (ix2 1 (y 1))

/-- The result as one function of the arguments. -/
def pooled (X : FVec Ideal S8x2048x2560 .f32) (W : FVec Ideal S2x4x256x256 .f32) (s : FVec Ideal S2x1024 .f32) : FVec Ideal S8x2048x1024 .bf16 :=
  fun i => result (batch X (i 0)) (weights W) (scales s) (ix3 0 (i 1) (i 2))

theorem rows_eq (c : Dev nD) (t : Fin cfg0.N) (ht : t.val < 8) :
    (X0_0 m c t : Vec Ideal S1x2048x1024 .f32) = batch (argX m c) ⟨t.val, ht⟩ := by
  funext y
  unfold X0_0 Pipeline.Window.fill
  rw [dif_pos (moved0_0 t y)]
  unfold iblk
  refine (block_x (V m c main_arg0) t ht _ (y 1) (y 2) rfl rfl).trans ?_
  exact congrFun (entry_x m c) _

theorem weights_eq (c : Dev nD) (t : Fin cfg0.N) : (iblk m c 1 t : Vec Ideal S4x256x256 .bf16) = weights (argW m c) := by
  funext y
  obtain ⟨g, d, e, rfl⟩ : ∃ g d e, y = ix3 g d e := ⟨y 0, y 1, y 2, by idx_vars y⟩
  exact (block_w (V m c main_v2) t g d e).trans (entry_w m c g d e)

theorem scales_eq (c : Dev nD) (t : Fin cfg0.N) : (iblk m c 2 t : Vec Ideal S1x1024 .f32) = scales (argS m c) := by
  funext y
  obtain ⟨e, rfl⟩ : ∃ e, y = ix2 0 e := ⟨y 1, by idx_vars y; obtain rfl : y0 = 0 := Subsingleton.elim _ _; rfl⟩
  exact (block_s (V m c main_v5) t e).trans (entry_s m c e)

/-- The result array after the run. -/
theorem final (c : Dev nD) : (dats m 0 c).arrAt 3 (cfgs 0).N = pooled (argX m c) (argW m c) (argS m c) := by
  refine (dats m 0 c).arrAt_eq_of_covers 3 _ (by decide +kernel) fun t _ y => ?_
  have ht : t.val < 8 := lt_of_lt_of_eq t.isLt N_0
  have i0 : ((((cfg0.win 3).blk t).view.emb y 0 : Fin _) : ℕ) = t + (y 0 : ℕ) := by blk_simp [idx t]
  have i1 : ((((cfg0.win 3).blk t).view.emb y 1 : Fin _) : ℕ) = (y 1 : ℕ) := by blk_simp [idx t]
  have i2 : ((((cfg0.win 3).blk t).view.emb y 2 : Fin _) : ℕ) = (y 2 : ℕ) := by blk_simp [idx t]
  blk_simp
  rw [after0_3]
  refine (point m c t y).trans ?_
  rw [rows_eq m c t ht, weights_eq, scales_eq]
  generalize ((cfg0.win 3).blk t).view.emb y = i at i0 i1 i2 ⊢
  have z0 : (y 0 : ℕ) = 0 := by have : (y 0 : ℕ) < 1 := (y 0).isLt; omega
  have e0 : i 0 = ⟨t.val, ht⟩ := Fin.ext (by rw [i0, z0]; rfl)
  have e1 : i 1 = y 1 := Fin.ext i1
  have e2 : i 2 = y 2 := Fin.ext i2
  unfold pooled
  rw [e0, e1, e2]
  refine congrArg _ ?_
  clear i0 i1 i2 e0 e1 e2 z0
  idx_vars y
  obtain rfl : y0 = 0 := Subsingleton.elim _ _
  rfl

end Cert.PoolIdeal.Value
end
-- ==== Proof.PoolRef.lean ====
/- The pooling mixer's reference, read at one position: running sums over the rows, the difference of two of them over the
   number of rows between, less the row itself, times the group's weights, times the scale. -/
module

public import proofs.«01_k».proof.Proof.Gen.PoolRefIdeal.Run
public import proofs.«01_k».proof.Proof.PoolSums
public import Idealize.ShloMosaic.Lib.Pointwise
public import Idealize.ShloMosaic.Lib.Pipeline.ValueKit

@[expose] public section

set_option maxRecDepth 16384

noncomputable section

namespace Cert.PoolRefIdeal.Value

open Idealize.ShloMosaic Idealize.ShloMosaic.TcCoe Idealize.SL.Sem Idealize.ShloMosaic.StableHlo
open Cert.PoolRefIdeal Cert.PoolRefIdeal.Gen
open Cert.PoolSums

/-- The rows to be pooled. -/
def rows (X : FVec Ideal S8x2048x2560 .f32) : FVec Ideal S8x2048x1024 .f32 :=
  extractStridedSlice S8x2048x1024 ![0, 0, 0] X slices_S8x2048x2560_S8x2048x1024_0_0_0
/-- The running sums of rows. -/
def sums (x : FVec Ideal S8x2048x1024 .f32) : FVec Ideal S8x2048x1024 .f32 :=
  Host.reduceWindowAdd ![1, 2048, 1] ![1, 1, 1] ![0, 2047, 0] ![0, 0, 0] x (broadcastInDim S_ ![] bcast_S_S_ (constant S_ .f32 0x00000000#32)) reduceWindows_S8x2048x1024_S8x2048x1024_w1s1p0_0_w2048s1p2047_0_w1s1p0_0 h_S_
/-- The running sums with a zero before them. -/
def running (x : FVec Ideal S8x2048x1024 .f32) : FVec Ideal S8x2049x1024 .f32 :=
  concatenate S8x2049x1024 1 [⟨S8x1x1024, (broadcastInDim S8x1x1024 ![] bcast_S_S8x1x1024 (constant S_ .f32 0x00000000#32))⟩, ⟨S8x2048x1024, (sums x)⟩] concatenates_S8x1x1024_S8x2048x1024_S8x2049x1024_d1
/-- Where the window of each row begins, and where it ends. -/
def lo (h : BitVec 32) : IVec S2048 32 :=
  minsi (broadcastInDim S2048 ![] bcast_S_S2048 (id (constantI S_ 32 2048#32))) (maxsi (broadcastInDim S2048 ![] bcast_S_S2048 (id (constantI S_ 32 0#32))) (subi (iotaInDim S2048 32 0) (broadcastInDim S2048 ![] bcast_S_S2048 (constantI S_ 32 h))))
def hi (h : BitVec 32) : IVec S2048 32 :=
  minsi (broadcastInDim S2048 ![] bcast_S_S2048 (id (constantI S_ 32 2048#32))) (maxsi (broadcastInDim S2048 ![] bcast_S_S2048 (id (constantI S_ 32 0#32))) (addi (iotaInDim S2048 32 0) (broadcastInDim S2048 ![] bcast_S_S2048 (constantI S_ 32 h))))
/-- The same words, counted from the end where negative. -/
def column (w : IVec S2048 32) : IVec S2048x1 32 :=
  broadcastInDim S2048x1 ![0] bcast_S2048_S2048x1_0 (select (cmpi .slt w (broadcastInDim S2048 ![] bcast_S_S2048 (constantI S_ 32 0#32))) (addi w (broadcastInDim S2048 ![] bcast_S_S2048 (constantI S_ 32 2049#32))) w)
/-- The running sums at given rows. -/
def pick (C : FVec Ideal S8x2049x256 .f32) (w : IVec S2048 32) : FVec Ideal S8x2048x256 .f32 :=
  Host.gather gather_S8x2049x256_S2048x1_S8x2048x256_02_1_n_n_1_1_81256 C (column w)
/-- The mean of each row's window less the row, in one group of channels. -/
def means (C : FVec Ideal S8x2049x256 .f32) (x : FVec Ideal S8x2048x256 .f32) (h : BitVec 32) : FVec Ideal S8x2048x256 .f32 :=
  subf (Host.divf (subf (pick C (hi h)) (pick C (lo h))) (broadcastInDim S8x2048x256 ![0, 1, 2] bcast_S1x2048x1_S8x2048x256_0_1_2 (broadcastInDim S1x2048x1 ![1] bcast_S2048_S1x2048x1_1 (sitofp .f32 (subi (hi h) (lo h)))))) x
/-- The group of the windows of 2 rows. -/
def group0 (x : FVec Ideal S8x2048x1024 .f32) : FVec Ideal S8x2048x256 .f32 :=
  means (extractStridedSlice S8x2049x256 ![0, 0, 0] (running x) slices_S8x2049x1024_S8x2049x256_0_0_0) (extractStridedSlice S8x2048x256 ![0, 0, 0] x slices_S8x2048x1024_S8x2048x256_0_0_0) 1#32
/-- The group of the windows of 4 rows. -/
def group1 (x : FVec Ideal S8x2048x1024 .f32) : FVec Ideal S8x2048x256 .f32 :=
  means (extractStridedSlice S8x2049x256 ![0, 0, 256] (running x) slices_S8x2049x1024_S8x2049x256_0_0_256) (extractStridedSlice S8x2048x256 ![0, 0, 256] x slices_S8x2048x1024_S8x2048x256_0_0_256) 2#32
/-- The group of the windows of 8 rows. -/
def group2 (x : FVec Ideal S8x2048x1024 .f32) : FVec Ideal S8x2048x256 .f32 :=
  means (extractStridedSlice S8x2049x256 ![0, 0, 512] (running x) slices_S8x2049x1024_S8x2049x256_0_0_512) (extractStridedSlice S8x2048x256 ![0, 0, 512] x slices_S8x2048x1024_S8x2048x256_0_0_512) 4#32
/-- The group of the windows of 16 rows. -/
def group3 (x : FVec Ideal S8x2048x1024 .f32) : FVec Ideal S8x2048x256 .f32 :=
  means (extractStridedSlice S8x2049x256 ![0, 0, 768] (running x) slices_S8x2049x1024_S8x2049x256_0_0_768) (extractStridedSlice S8x2048x256 ![0, 0, 768] x slices_S8x2048x1024_S8x2048x256_0_0_768) 8#32
/-- The four groups side by side. -/
def stacked (x : FVec Ideal S8x2048x1024 .f32) : FVec Ideal S8x2048x4x256 .f32 :=
  concatenate S8x2048x4x256 2 [⟨S8x2048x1x256, (broadcastInDim S8x2048x1x256 ![0, 1, 3] bcast_S8x2048x256_S8x2048x1x256_0_1_3 (group0 x))⟩, ⟨S8x2048x1x256, (broadcastInDim S8x2048x1x256 ![0, 1, 3] bcast_S8x2048x256_S8x2048x1x256_0_1_3 (group1 x))⟩, ⟨S8x2048x1x256, (broadcastInDim S8x2048x1x256 ![0, 1, 3] bcast_S8x2048x256_S8x2048x1x256_0_1_3 (group2 x))⟩, ⟨S8x2048x1x256, (broadcastInDim S8x2048x1x256 ![0, 1, 3] bcast_S8x2048x256_S8x2048x1x256_0_1_3 (group3 x))⟩] concatenates_S8x2048x1x256_S8x2048x1x256_S8x2048x1x256_S8x2048x1x256_S8x2048x4x256_d2
/-- The groups times their weights, times the scale. -/
def mixed (D : FVec Ideal S8x2048x4x256 .f32) (W : FVec Ideal S2x4x256x256 .f32) (s : FVec Ideal S2x1024 .f32) : FVec Ideal S8x2048x1024 .bf16 :=
  truncf .bf16 (mulf (shapeCast _ (transpose S8x2048x4x256 [2, 3, 0, 1] (Host.dotGeneral dot_S4x256x256_S8x2048x4x256_S4x256x8x2048_1_3_2_01_0_2 none (shapeCast _ (extractStridedSlice S1x4x256x256 ![1, 0, 0, 0] W slices_S2x4x256x256_S1x4x256x256_1_0_0_0) shapeCasts_S1x4x256x256_S4x256x256) D) transposes_S4x256x8x2048_S8x2048x4x256_2_3_0_1) shapeCasts_S8x2048x4x256_S8x2048x1024) (broadcastInDim S8x2048x1024 ![0, 1, 2] bcast_S1x1x1024_S8x2048x1024_0_1_2 (broadcastInDim S1x1x1024 ![2] bcast_S1024_S1x1x1024_2 (shapeCast _ (extractStridedSlice S1x1024 ![1, 0] s slices_S2x1024_S1x1024_1_0) shapeCasts_S1x1024_S1024)))) bitsLt_bf16_f32

/-- The reference's result as a function of its arguments. -/
def REF (X : FVec Ideal S8x2048x2560 .f32) (W : FVec Ideal S2x4x256x256 .f32) (s : FVec Ideal S2x1024 .f32) : FVec Ideal S8x2048x1024 .bf16 :=
  mixed (stacked (rows X)) W s

/-- A sum over the places of a one-column window is one over its rows. -/
theorem sum_column {α : Type} [AddCommMonoid α] (f : (⟨3, ![1, 2048, 1]⟩ : Shape).Idx → α) :
    (∑ w, f w) = ∑ k : Fin 2048, f (ix3 0 k 0) := by
  refine Fintype.sum_equiv ⟨fun w => (w 1 : Fin 2048), fun k => ix3 0 k 0, fun w => ?_, fun k => rfl⟩ _ _ fun w => congrArg f ?_
  all_goals
    funext a
    match a with
    | ⟨0, _⟩ => exact Subsingleton.elim (α := Fin 1) _ _
    | ⟨1, _⟩ => rfl
    | ⟨2, _⟩ => exact Subsingleton.elim (α := Fin 1) _ _

/-- Adding a list's terms one after the other to a first value. -/
theorem fold_add {ι : Type} (F : ι → EReal) (l : List ι) (v : EReal) : l.foldl (fun r n => r + F n) v = v + (l.map F).sum := by
  induction l generalizing v with
  | nil => exact (add_zero v).symm
  | cons a l ih => rw [List.foldl_cons, ih, List.map_cons, List.sum_cons, add_assoc]

/-- One column of an array, zero beyond its rows. -/
def col (x : FVec Ideal S8x2048x1024 .f32) (b : Fin 8) (e : Fin 1024) (k : ℕ) : EReal := if h : k < 2048 then x (ix3 b ⟨k, h⟩ e) else 0

/-- The term a place of a window adds: the element it names, or a given value where it names none. -/
def term {r t : Shape} {window strides low high : Fin r.rank → ℕ} (h : r.ReduceWindows window strides low high t) (x : r.Idx → EReal) (v : EReal)
    (j : t.Idx) (w : (⟨r.rank, window⟩ : Shape).Idx) : EReal :=
  let p : Fin r.rank → ℕ := fun a => (j (a.cast h.1.symm)).val * strides a + (w a).val
  if hin : ∀ a, low a ≤ p a ∧ p a - low a < r.size a then x (fun a => ⟨p a - low a, (hin a).2⟩) else v

theorem term_hit {r t : Shape} {window strides low high : Fin r.rank → ℕ} (h : r.ReduceWindows window strides low high t) (x : r.Idx → EReal) (v : EReal)
    (j : t.Idx) (w : (⟨r.rank, window⟩ : Shape).Idx) (i : r.Idx)
    (hi : ∀ a, low a ≤ (j (a.cast h.1.symm)).val * strides a + (w a).val ∧ (j (a.cast h.1.symm)).val * strides a + (w a).val - low a = i a) :
    term h x v j w = x i :=
  (dif_pos fun a => ⟨(hi a).1, (hi a).2.trans_lt (i a).2⟩).trans (congrArg x (funext fun a => Fin.ext (hi a).2))

theorem term_miss {r t : Shape} {window strides low high : Fin r.rank → ℕ} (h : r.ReduceWindows window strides low high t) (x : r.Idx → EReal) (v : EReal)
    (j : t.Idx) (w : (⟨r.rank, window⟩ : Shape).Idx) (a : Fin r.rank) (ha : (j (a.cast h.1.symm)).val * strides a + (w a).val < low a) :
    term h x v j w = v := dif_neg fun hin => absurd (hin a).1 (Nat.not_le.mpr ha)

/-- A windowed sum is its first value and the sum of the window's terms. -/
theorem window_sum {r t : Shape} {window strides low high : Fin r.rank → ℕ} (h : r.ReduceWindows window strides low high t) (x : r.Idx → EReal) (v : EReal)
    (j : t.Idx) : Ideal.hostReduceWindowAdd window strides low high h x v j = v + ∑ w, term h x v j w := by
  unfold Ideal.hostReduceWindowAdd Host.reduceWindow
  have e := fold_add (fun n => term h x v j ((⟨r.rank, window⟩ : Shape).rowMajor.symm n)) (List.finRange (⟨r.rank, window⟩ : Shape).numel) v
  rw [← Fin.sum_univ_def, Equiv.sum_comp (Shape.rowMajor ⟨r.rank, window⟩).symm (term h x v j)] at e
  refine Eq.trans ?_ e
  refine congrArg (fun F => List.foldl F v (List.finRange (⟨r.rank, window⟩ : Shape).numel)) (funext fun y => funext fun n => congrArg (y + ·) ?_)
  unfold term
  dsimp only
  split
  next hin => rfl
  next hin => rfl

abbrev win : S8x2048x1024.ReduceWindows ![1, 2048, 1] ![1, 1, 1] ![0, 2047, 0] ![0, 0, 0] S8x2048x1024 :=
  reduceWindows_S8x2048x1024_S8x2048x1024_w1s1p0_0_w2048s1p2047_0_w1s1p0_0

theorem term_at (x : FVec Ideal S8x2048x1024 .f32) (b : Fin 8) (t : Fin 2048) (e : Fin 1024) (k : Fin 2048) :
    term win x 0 (ix3 b t e) (ix3 0 k 0) = if 2047 ≤ t + (k : ℕ) then col x b e (t + k - 2047) else 0 := by
  unfold col
  by_cases h : 2047 ≤ t + (k : ℕ)
  · rw [if_pos h, dif_pos (show (t : ℕ) + k - 2047 < 2048 by omega)]
    refine term_hit win x 0 _ _ _ fun a => ?_
    match a with
    | ⟨0, _⟩ => exact ⟨Nat.zero_le _, show (b : ℕ) * 1 + 0 - 0 = b by omega⟩
    | ⟨1, _⟩ => exact ⟨show 2047 ≤ (t : ℕ) * 1 + k by omega, show (t : ℕ) * 1 + k - 2047 = t + k - 2047 by omega⟩
    | ⟨2, _⟩ => exact ⟨Nat.zero_le _, show (e : ℕ) * 1 + 0 - 0 = e by omega⟩
  · rw [if_neg h]
    exact term_miss win x 0 _ _ (1 : Fin 3) (show (t : ℕ) * 1 + k < 2047 by omega)

theorem sums_at (x : FVec Ideal S8x2048x1024 .f32) (b : Fin 8) (t : Fin 2048) (e : Fin 1024) :
    sums x (ix3 b t e) = ∑ k ∈ Finset.range (t + 1), col x b e k := by
  unfold sums
  unfold Host.reduceWindowAdd
  rw [Ideal.hostReduceWindowAdd_def, window_sum,
    show (broadcastInDim S_ ![] bcast_S_S_ (constant S_ .f32 0x00000000#32) : FVec Ideal S_ .f32) (Shape.Idx.first h_S_) = (0 : EReal) by
      pointwise, zero_add]
  refine (sum_column _).trans ?_
  rw [Finset.sum_congr rfl fun k _ => term_at x b t e k]
  rw [Fin.sum_univ_eq_sum_range (fun k : ℕ => if 2047 ≤ t + k then col x b e (t + k - 2047) else 0) 2048,
    (congrArg Finset.range (show 2048 = (2047 - (t : ℕ)) + (t + 1) by omega)), Finset.sum_range_add,
    Finset.sum_eq_zero fun k hk => if_neg (by have := Finset.mem_range.mp hk; omega), zero_add]
  refine Finset.sum_congr rfl fun k hk => ?_
  rw [if_pos (by omega), show (t : ℕ) + (2047 - t + k) - 2047 = k by omega]

theorem running_at (x : FVec Ideal S8x2048x1024 .f32) (b : Fin 8) (n : Fin 2049) (e : Fin 1024) :
    running x (ix3 b n e) = ∑ k ∈ Finset.range n, col x b e k := by
  pointwise [running]
  split
  next h =>
    rw [show (n : ℕ) = 0 by omega]
    simp [Ideal.ofBits, Ideal.ieee]
  next h =>
    rw [sums_at]
    refine congrArg (fun r => ∑ k ∈ Finset.range r, col x b e k) ?_
    show (n : ℕ) - 1 + 1 = n
    omega

/-- Which row of the running sums a word names. -/
abbrev rowDims (wf : GatherDims.WF S8x2049x256 S2048x1 S8x2048x256 [0, 2] [1] [] [1] [] 1 ![8, 1, 256]) :
    GatherDims S8x2049x256 S2048x1 S8x2048x256 where
  offsetDims := [0, 2]
  collapsedSliceDims := [1]
  operandBatchingDims := []
  startIndicesBatchingDims := []
  startIndexMap := [1]
  indexVectorDim := 1
  sliceSizes := ![8, 1, 256]
  wf := wf

/-- The running sums picked by a column of words: row `w` of them, kept inside. -/
theorem gather_rows (wf) (x : FVec Ideal S8x2049x256 .f32) (w : IVec S2048x1 32) (b : Fin 8) (t : Fin 2048) (e : Fin 256) :
    Host.gather (rowDims wf) x w (ix3 b t e)
      = x (ix3 b ⟨min (w (ix2 t (0 : Fin 1))).toInt.toNat 2048, by omega⟩ e) := by
  unfold Host.gather
  refine congrArg x (funext fun k => Fin.ext ?_)
  show (rowDims wf).start (ix3 b t e) w k + (rowDims wf).batchCoord (ix3 b t e) k + (rowDims wf).offCoord (ix3 b t e) k = _
  rw [GatherDims.batchCoord_eq_zero _ _ _ List.not_mem_nil]
  have hk : k = 0 ∨ k = 1 ∨ k = 2 := by
    match k with
    | ⟨0, _⟩ => exact .inl rfl
    | ⟨1, _⟩ => exact .inr (.inl rfl)
    | ⟨2, _⟩ => exact .inr (.inr rfl)
  rcases hk with rfl | rfl | rfl
  · unfold GatherDims.start
    rw [dif_neg (show (0 : Fin 3) ∉ [(1 : Fin 3)] by decide)]
    show 0 + 0 + _ = (b : ℕ)
    unfold GatherDims.offCoord
    rw [dif_pos ((GatherDims.mem_sKept _ _).2 ⟨show (0 : Fin 3) ∉ [(1 : Fin 3)] by decide, List.not_mem_nil⟩)]
    rw [Nat.add_zero, Nat.zero_add]
    rfl
  · rw [GatherDims.offCoord_eq_zero _ _ _ (fun h => ((GatherDims.mem_sKept _ _).mp h).1 (show (1 : Fin 3) ∈ [(1 : Fin 3)] by decide))]
    unfold GatherDims.start
    rw [dif_pos (show (1 : Fin 3) ∈ [(1 : Fin 3)] by decide)]
    have hs : (rowDims wf).siIdx (ix3 b t e) ⟨List.idxOf (1 : Fin 3) (rowDims wf).startIndexMap,
        List.idxOf_lt_length_iff.2 (show (1 : Fin 3) ∈ [(1 : Fin 3)] by decide)⟩ = ix2 t (0 : Fin 1) := by
      funext a; refine Fin.ext ?_
      match a with
      | ⟨0, _⟩ => rfl
      | ⟨1, _⟩ => rfl
    rw [hs]
    rfl
  · unfold GatherDims.start
    rw [dif_neg (show (2 : Fin 3) ∉ [(1 : Fin 3)] by decide)]
    show 0 + 0 + _ = (e : ℕ)
    unfold GatherDims.offCoord
    rw [dif_pos ((GatherDims.mem_sKept _ _).2 ⟨show (2 : Fin 3) ∉ [(1 : Fin 3)] by decide, List.not_mem_nil⟩)]
    rw [Nat.add_zero, Nat.zero_add]
    rfl

/-- The words of a window's ends, and their difference. -/
theorem ends_at (g : Fin 4) (t : Fin 2048) :
    min ((column (lo (BitVec.ofNat 32 (half g))) (ix2 t 0)).toInt.toNat) 2048 = t - half g
    ∧ min ((column (hi (BitVec.ofNat 32 (half g))) (ix2 t 0)).toInt.toNat) 2048 = min (t + half g) 2048
    ∧ subi (hi (BitVec.ofNat 32 (half g))) (lo (BitVec.ofNat 32 (half g))) (ix1 t) = BitVec.ofNat 32 (count (half g) t) := by
  pointwise [column, lo, hi]
  revert t g
  decide +kernel

theorem means_at (C : FVec Ideal S8x2049x256 .f32) (x : FVec Ideal S8x2048x256 .f32) (g : Fin 4) (b : Fin 8) (t : Fin 2048) (c : Fin 256) :
    means C x (BitVec.ofNat 32 (half g)) (ix3 b t c)
      = Ideal.div (C (ix3 b ⟨min (t + half g) 2048, by omega⟩ c) - C (ix3 b ⟨t - half g, by omega⟩ c)) (countE (half g) t) - x (ix3 b t c) := by
  obtain ⟨h1, h2, h3⟩ := ends_at g t
  have e1 : pick C (lo (BitVec.ofNat 32 (half g))) (ix3 b t c) = C (ix3 b ⟨t - half g, by omega⟩ c) :=
    (gather_rows _ _ _ _ _ _).trans (congrArg (fun n => C (ix3 b n c)) (Fin.ext h1))
  have e2 : pick C (hi (BitVec.ofNat 32 (half g))) (ix3 b t c) = C (ix3 b ⟨min (t + half g) 2048, by omega⟩ c) :=
    (gather_rows _ _ _ _ _ _).trans (congrArg (fun n => C (ix3 b n c)) (Fin.ext h2))
  rw [← e1, ← e2]
  unfold countE
  rw [← h3]
  pointwise [means]

/-- The mean of a row's window less the row, in group `g`. -/
def delta (x : FVec Ideal S8x2048x1024 .f32) (b : Fin 8) (t : Fin 2048) (g : Fin 4) (c : Fin 256) : EReal :=
  Ideal.div ((∑ k ∈ Finset.range (min (t + half g) 2048), col x b ⟨256 * g + c, by omega⟩ k)
      - ∑ k ∈ Finset.range (t - half g), col x b ⟨256 * g + c, by omega⟩ k) (countE (half g) t)
    - x (ix3 b t ⟨256 * g + c, by omega⟩)

theorem group0_at (x : FVec Ideal S8x2048x1024 .f32) (b : Fin 8) (t : Fin 2048) (c : Fin 256) : group0 x (ix3 b t c) = delta x b t 0 c := by
  refine (means_at _ _ 0 b t c).trans ?_
  unfold delta
  rw [← running_at x b ⟨min (t + half 0) 2048, by omega⟩, ← running_at x b ⟨t - half 0, by omega⟩]
  pointwise
theorem stacked0_at (x : FVec Ideal S8x2048x1024 .f32) (b : Fin 8) (t : Fin 2048) (c : Fin 256) : stacked x (ix4 b t 0 c) = group0 x (ix3 b t c) := by
  pointwise [stacked]

theorem group1_at (x : FVec Ideal S8x2048x1024 .f32) (b : Fin 8) (t : Fin 2048) (c : Fin 256) : group1 x (ix3 b t c) = delta x b t 1 c := by
  refine (means_at _ _ 1 b t c).trans ?_
  unfold delta
  rw [← running_at x b ⟨min (t + half 1) 2048, by omega⟩, ← running_at x b ⟨t - half 1, by omega⟩]
  pointwise
theorem stacked1_at (x : FVec Ideal S8x2048x1024 .f32) (b : Fin 8) (t : Fin 2048) (c : Fin 256) : stacked x (ix4 b t 1 c) = group1 x (ix3 b t c) := by
  pointwise [stacked]

theorem group2_at (x : FVec Ideal S8x2048x1024 .f32) (b : Fin 8) (t : Fin 2048) (c : Fin 256) : group2 x (ix3 b t c) = delta x b t 2 c := by
  refine (means_at _ _ 2 b t c).trans ?_
  unfold delta
  rw [← running_at x b ⟨min (t + half 2) 2048, by omega⟩, ← running_at x b ⟨t - half 2, by omega⟩]
  pointwise
theorem stacked2_at (x : FVec Ideal S8x2048x1024 .f32) (b : Fin 8) (t : Fin 2048) (c : Fin 256) : stacked x (ix4 b t 2 c) = group2 x (ix3 b t c) := by
  pointwise [stacked]

theorem group3_at (x : FVec Ideal S8x2048x1024 .f32) (b : Fin 8) (t : Fin 2048) (c : Fin 256) : group3 x (ix3 b t c) = delta x b t 3 c := by
  refine (means_at _ _ 3 b t c).trans ?_
  unfold delta
  rw [← running_at x b ⟨min (t + half 3) 2048, by omega⟩, ← running_at x b ⟨t - half 3, by omega⟩]
  pointwise
theorem stacked3_at (x : FVec Ideal S8x2048x1024 .f32) (b : Fin 8) (t : Fin 2048) (c : Fin 256) : stacked x (ix4 b t 3 c) = group3 x (ix3 b t c) := by
  pointwise [stacked]

theorem stacked_at (x : FVec Ideal S8x2048x1024 .f32) (b : Fin 8) (t : Fin 2048) (g : Fin 4) (c : Fin 256) :
    stacked x (ix4 b t g c) = delta x b t g c := by
  match g with
  | ⟨0, _⟩ => exact (stacked0_at x b t c).trans (group0_at x b t c)
  | ⟨1, _⟩ => exact (stacked1_at x b t c).trans (group1_at x b t c)
  | ⟨2, _⟩ => exact (stacked2_at x b t c).trans (group2_at x b t c)
  | ⟨3, _⟩ => exact (stacked3_at x b t c).trans (group3_at x b t c)

theorem mixed_at (D : FVec Ideal S8x2048x4x256 .f32) (W : FVec Ideal S2x4x256x256 .f32) (s : FVec Ideal S2x1024 .f32) (b : Fin 8) (t : Fin 2048)
    (e : Fin 1024) : mixed D W s (ix3 b t e) = (∑ c : Fin 256, W (ix4 1 ⟨e / 256, by omega⟩ c ⟨e % 256, by omega⟩)
      * D (ix4 b t ⟨e / 256, by omega⟩ c)) * s (ix2 1 e) := by
  pointwise [mixed]

theorem result0 (m : (ℓ : Loc nD τ sig) → Buf (Elt Ideal) ℓ) (c : Dev nD) :
    truncf .bf16 (mulf (shapeCast _ (transpose S8x2048x4x256 [2, 3, 0, 1] (Host.dotGeneral (φ₁ := .f32) (φ₂ := .f32) dot_S4x256x256_S8x2048x4x256_S4x256x8x2048_1_3_2_01_0_2 none (shapeCast _ (extractStridedSlice (α := Elt Ideal .f32) S1x4x256x256 ![1, 0, 0, 0] ((launchContents m c) (Proc.devRef .tc main_arg1) : FVec Ideal S2x4x256x256 .f32) slices_S2x4x256x256_S1x4x256x256_1_0_0_0) shapeCasts_S1x4x256x256_S4x256x256) (res_main_v125 (launchContents m c))) transposes_S4x256x8x2048_S8x2048x4x256_2_3_0_1) shapeCasts_S8x2048x4x256_S8x2048x1024) (broadcastInDim S8x2048x1024 ![0, 1, 2] bcast_S1x1x1024_S8x2048x1024_0_1_2 (broadcastInDim S1x1x1024 ![2] bcast_S1024_S1x1x1024_2 (shapeCast _ (extractStridedSlice S1x1024 ![1, 0] ((launchContents m c) (Proc.devRef .tc main_arg2) : FVec Ideal S2x1024 .f32) slices_S2x1024_S1x1024_1_0) shapeCasts_S1x1024_S1024)))) bitsLt_bf16_f32
      = REF (m ((c.tc : Thread nD τ).loc main_arg0)) (m ((c.tc : Thread nD τ).loc main_arg1)) (m ((c.tc : Thread nD τ).loc main_arg2)) := rfl

end Cert.PoolRefIdeal.Value
end
-- ==== Proof.PoolEq.lean ====
/- The pooling mixer: on finite rows the kernel's result is the reference's. -/
module

public import proofs.«01_k».proof.Proof.PoolPoint
public import proofs.«01_k».proof.Proof.PoolRef
public import proofs.«01_k».proof.Proof.GqaEq
public import proofs.«01_k».proof.Proof.Gen.Pre_finite_pool
public import Idealize.ShloMosaic.Lib.ReduceAll

@[expose] public section

set_option maxRecDepth 16384

noncomputable section

namespace Cert.PoolEq

open Idealize.ShloMosaic
open Cert.Numbers Cert.PoolSums
open Cert.GqaEq (ofBits_top)
open Cert.PoolIdeal (S8x2048x2560 S2x4x256x256 S2x1024 S8x2048x1024)
open Cert.PoolIdeal.Value (padded batch pooled result value)
open Cert.PoolRefIdeal.Value (rows col delta REF)

/-- The precondition says that every row to be pooled is real. -/
theorem finite (X : FVec Ideal S8x2048x2560 .f32) (W : FVec Ideal S2x4x256x256 .f32) (s : FVec Ideal S2x1024 .f32)
    (h : Cert.Pre_finite_pool.fn X W s = fun _ => 1#1) (b : Fin 8) (t : Fin 2048) (e : Fin 1024) :
    ∃ r : ℝ, X (ix3 b t ⟨e, by omega⟩) = (r : EReal) := by
  have h0 := congrFun h (fun a => a.elim0)
  unfold Cert.Pre_finite_pool.fn at h0
  haveI : Subsingleton Cert.Pre_finite_pool.S_.Idx := ⟨fun a b => funext fun i => i.elim0⟩
  refine real_of_cmp _ ?_
  have e := Host.reduce_andi_all _ _ _ _ _ h0 (ix3 b t e)
  rw [← ofBits_top]
  revert e
  pointwise
  exact id

/-- The kernel's window sum is the difference of the reference's running sums. -/
theorem window_eq (X : FVec Ideal S8x2048x2560 .f32) (hX : ∀ (b : Fin 8) (t : Fin 2048) (e : Fin 1024), ∃ r : ℝ, X (ix3 b t ⟨e, by omega⟩) = (r : EReal))
    (b : Fin 8) (e : Fin 1024) (g : Fin 4) (t : Fin 2048) :
    sumOf g (padded (batch X b) e) (t + 16) = (∑ k ∈ Finset.range (min (t + half g) 2048), col (rows X) b e k)
      - ∑ k ∈ Finset.range (t - half g), col (rows X) b e k := by
  choose r hr using hX
  have hp : padded (batch X b) e = fun k => (between (fun i => if h : i < 2048 then r b ⟨i, h⟩ e else 0) k : EReal) := by
    funext k
    unfold padded between
    by_cases h : 16 ≤ k ∧ k < 2064
    · rw [dif_pos h, if_pos h]
      beta_reduce
      rw [dif_pos (show k - 16 < 2048 by omega)]
      exact hr b ⟨k - 16, by omega⟩ e
    · rw [dif_neg h, if_neg h]
      rfl
  have hc : ∀ k, col (rows X) b e k = ((if h : k < 2048 then r b ⟨k, h⟩ e else 0 : ℝ) : EReal) := by
    intro k
    unfold col
    by_cases h : k < 2048
    · rw [dif_pos h, dif_pos h]
      pointwise [rows]
      exact hr b ⟨k, h⟩ e
    · rw [dif_neg h, dif_neg h]
      rfl
  simp only [hc, coe_sum]
  rw [hp, window _ g t t.isLt]
  rfl

theorem result_eq (X : FVec Ideal S8x2048x2560 .f32) (W : FVec Ideal S2x4x256x256 .f32) (s : FVec Ideal S2x1024 .f32)
    (hX : ∀ (b : Fin 8) (t : Fin 2048) (e : Fin 1024), ∃ r : ℝ, X (ix3 b t ⟨e, by omega⟩) = (r : EReal)) :
    pooled X W s = REF X W s := by
  funext i
  idx_vars i
  unfold REF
  refine Eq.trans ?_ (Cert.PoolRefIdeal.Value.mixed_at _ W s _ _ _).symm
  refine congrArg₂ (· * ·) (Finset.sum_congr rfl fun c _ => ?_) ?_
  · rw [mul_comm, Cert.PoolRefIdeal.Value.stacked_at]
    refine congrArg₂ (· * ·) rfl ?_
    unfold delta
    rw [← window_eq X hX]
    pointwise [rows]
    rfl
  · refine congrArg (fun e => s (ix2 1 e)) (Fin.ext ?_)
    exact Nat.div_add_mod _ 256

end Cert.PoolEq
end
-- ==== Proof.ClaimPool.lean ====
/- The claims about the pooling mixer's call: the reference leaves its arguments and no signal behind, and the kernel's result
   is the reference's. -/
module

public import proofs.«01_k».proof.Defs
public import proofs.«01_k».proof.Proof.PoolEq
public import proofs.«01_k».proof.Proof.Gen.Pool.Frame
public import Idealize.ShloMosaic.Lib.Claim
public import Idealize.ShloMosaic.Lib.Quiescent

@[expose] public section

set_option maxRecDepth 16384

noncomputable section

namespace Cert.ClaimPool

open Idealize.ShloMosaic Idealize.SL.Sem

theorem frame_ref : quiescent_PoolRefIdeal := fun m g _ =>
  (θ_run Cert.PoolRefIdeal.defs _ _).mono
    (fun r h => ⟨fun c => (h c).2, sem_eq_zero_of_no_sems (by decide) r.2⟩)
    (Cert.PoolRefIdeal.Value.run m g)

theorem algebraic : algebraic_PoolIdeal_PoolRefIdeal_pre_finite_pool := by
  pair_intro
  · run_from Cert.PoolIdeal.Gen.run_main m g
  · run_from Cert.PoolRefIdeal.Value.run m' g'
    obtain ⟨e₀, e₁, e₂⟩ := hagree c
    rw [← e₁, ← e₂]
    refine (Cert.PoolRefIdeal.Value.result0 m' c).trans ?_
    rw [e₀, e₁, e₂]
    exact ((Cert.PoolIdeal.Value.final m c).trans (Cert.PoolEq.result_eq _ _ _ (Cert.PoolEq.finite _ _ _ (hpre c)))).symm

end Cert.ClaimPool
end
-- ==== Proof.PrepRope.lean ====
/- Rotary positions: a normalised row of 128 lanes, and its pairs of lanes turned by the position's angles. -/
module

public import Idealize.ShloMosaic.Lib.Pointwise

@[expose] public section

noncomputable section

namespace Cert.PrepRope

open Idealize.ShloMosaic

/-- A row over the root of its mean square, times the gain. -/
def normed (x : Fin 128 → EReal) (g : Fin 128 → EReal) (e : Fin 128) : EReal :=
  x e * Ideal.rsqrt (Ideal.div (∑ d : Fin 128, x d * x d) (Ideal.ofBits .f32 0x43000000#32) + Ideal.ofBits .f32 0x358637BD#32) * g e

/-- The frequency of a lane pair: the base to the power of minus its number over 32. -/
def freq (j : ℕ) : EReal :=
  Ideal.pow (Ideal.ofBits .f32 0x461C4000#32) (Ideal.div (-(((BitVec.ofNat 32 j).toInt : ℝ) : EReal)) (Ideal.ofBits .f32 0x42000000#32))

/-- The angle of a lane pair at a position: the first 32 pairs turn with the row of 64 positions, the others with the place in it. -/
def angle (p : Fin 2048) (j : Fin 64) : EReal :=
  if (j : ℕ) < 32 then (((BitVec.ofNat 32 ((p : ℕ) / 64)).toInt : ℝ) : EReal) * freq j
  else (((BitVec.ofNat 32 ((p : ℕ) % 64)).toInt : ℝ) : EReal) * freq ((j : ℕ) - 32)

/-- A lane's pair, and the other lane of it. -/
def pairOf (e : Fin 128) : Fin 64 := ⟨(e : ℕ) / 2, by omega⟩
def partner (e : Fin 128) : Fin 128 := ⟨if (e : ℕ) % 2 = 0 then (e : ℕ) + 1 else (e : ℕ) - 1, by split <;> omega⟩

/-- A row turned by the angles of position `p`. -/
def turned (n : Fin 128 → EReal) (p : Fin 2048) (e : Fin 128) : EReal :=
  if (e : ℕ) % 2 = 0 then n e * Ideal.cos (angle p (pairOf e)) - n (partner e) * Ideal.sin (angle p (pairOf e))
  else n (partner e) * Ideal.sin (angle p (pairOf e)) + n e * Ideal.cos (angle p (pairOf e))

/-- The sign a lane's sine carries where the turn is one sum. -/
def sign (e : Fin 128) : EReal := if (e : ℕ) % 2 = 0 then -1 else 1

theorem turned_eq (n : Fin 128 → EReal) (p : Fin 2048) (e : Fin 128) :
    n e * Ideal.cos (angle p (pairOf e)) + n (partner e) * (Ideal.sin (angle p (pairOf e)) * sign e) = turned n p e := by
  unfold turned sign
  split
  · rw [mul_neg, mul_one, mul_neg]; rfl
  · rw [mul_one, add_comm]

end Cert.PrepRope
end
-- ==== Proof.PrepTables.lean ====
/- The rotary call's tables: the cosines and the signed sines of every position, entry by entry. -/
module

public import proofs.«01_k».proof.Proof.Gen.PrepIdeal.Value
public import proofs.«01_k».proof.Proof.PrepRope
public import Idealize.ShloMosaic.Lib.Pointwise
public import Idealize.ShloMosaic.Lib.Pipeline.ValueKit

@[expose] public section

set_option maxRecDepth 16384

noncomputable section

namespace Cert.PrepIdeal.Value

open Idealize.ShloMosaic Idealize.ShloMosaic.TcCoe Idealize.SL.Sem
open Idealize.ShloMosaic.Pipeline (Dat)
open Cert.PrepIdeal Cert.PrepIdeal.Gen
open Cert.PrepRope

/-- The positions, and the 64 of a row of them. -/
def places : IVec S2048 32 := iotaInDim S2048 32 0
def width : IVec S_ 32 := constantI S_ 32 64#32

/-- The quotient of the positions by the width, and the remainder. -/
def quots : IVec S2048 32 := Host.divsi places (broadcastInDim S2048 ![] bcast_S_S2048 width)
def rows : IVec S2048 32 :=
  select (andi (cmpi .ne (signi places) (broadcastInDim S2048 ![] bcast_S_S2048 (signi width)))
    (cmpi .ne (Host.remsi places (broadcastInDim S2048 ![] bcast_S_S2048 width)) (broadcastInDim S2048 ![] bcast_S_S2048 (constantI S_ 32 0#32))))
    (subi quots (broadcastInDim S2048 ![] bcast_S_S2048 (constantI S_ 32 1#32))) quots
def divisor (w : IVec S_ 32) : IVec S_ 32 := select (cmpi .eq w (constantI S_ 32 0#32)) (constantI S_ 32 1#32) w
def rems : IVec S2048 32 := Host.remsi places (broadcastInDim S2048 ![] bcast_S_S2048 (divisor width))
def cols : IVec S2048 32 :=
  select (andi (cmpi .ne (cmpi .slt rems (broadcastInDim S2048 ![] bcast_S_S2048 (constantI S_ 32 0#32)))
      (broadcastInDim S2048 ![] bcast_S_S2048 (cmpi .slt (divisor width) (constantI S_ 32 0#32))))
    (cmpi .ne rems (broadcastInDim S2048 ![] bcast_S_S2048 (constantI S_ 32 0#32))))
    (addi rems (broadcastInDim S2048 ![] bcast_S_S2048 (divisor width))) rems

/-- The frequencies of the pairs. -/
def freqs : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The angles of 32 pairs at every position, out of the positions' words; and all 64. -/
def turns (w : IVec S2048 32) : FVec Ideal S2048x32 .f32 :=
  mulf (broadcastInDim S2048x32 ![0, 1] bcast_S2048x1_S2048x32_0_1 (broadcastInDim S2048x1 ![0] bcast_S2048_S2048x1_0 (sitofp .f32 w : FVec Ideal S2048 .f32)))
    (broadcastInDim S2048x32 ![0, 1] bcast_S1x32_S2048x32_0_1 (broadcastInDim S1x32 ![1] bcast_S32_S1x32_1 freqs))
def angles : FVec Ideal S2048x64 .f32 :=
  concatenate S2048x64 1 [⟨S2048x32, turns rows⟩, ⟨S2048x32, turns cols⟩] concatenates_S2048x32_S2048x32_S2048x64_d1

/-- The lanes' remainders by two, and their signs. -/
def lanes : IVec S128 32 := iotaInDim S128 32 0
def two : IVec S_ 32 := constantI S_ 32 2#32
def laneRems : IVec S128 32 := Host.remsi lanes (broadcastInDim S128 ![] bcast_S_S128 (divisor two))
def parity : IVec S128 32 :=
  select (andi (cmpi .ne (cmpi .slt laneRems (broadcastInDim S128 ![] bcast_S_S128 (constantI S_ 32 0#32)))
      (broadcastInDim S128 ![] bcast_S_S128 (cmpi .slt (divisor two) (constantI S_ 32 0#32))))
    (cmpi .ne laneRems (broadcastInDim S128 ![] bcast_S_S128 (constantI S_ 32 0#32))))
    (addi laneRems (broadcastInDim S128 ![] bcast_S_S128 (divisor two))) laneRems
def signs : FVec Ideal S128 .f32 :=
  select (cmpi .eq parity (broadcastInDim S128 ![] bcast_S_S128 (constantI S_ 32 0#32)))
    (broadcastInDim S128 ![] bcast_S_S128 (constant S_ .f32 0xBF800000#32)) (broadcastInDim S128 ![] bcast_S_S128 (constant S_ .f32 0x3F800000#32))

/-- The two tables. -/
def cosines : FVec Ideal S2048x128 .f32 :=
  shapeCast S2048x128 (broadcastInDim S2048x64x2 ![0, 1] bcast_S2048x64_S2048x64x2_0_1 (Host.cos angles)) shapeCasts_S2048x64x2_S2048x128
def sines : FVec Ideal S2048x128 .f32 :=
  mulf (shapeCast S2048x128 (broadcastInDim S2048x64x2 ![0, 1] bcast_S2048x64_S2048x64x2_0_1 (Host.sin angles)) shapeCasts_S2048x64x2_S2048x128)
    (broadcastInDim S2048x128 ![0, 1] bcast_S1x128_S2048x128_0_1 (broadcastInDim S1x128 ![1] bcast_S128_S1x128_1 signs))

theorem rows_at (p : Fin 2048) : rows (ix1 p) = BitVec.ofNat 32 ((p : ℕ) / 64) := by
  pointwise [rows, quots, places, width]
  revert p
  decide +kernel
theorem cols_at (p : Fin 2048) : cols (ix1 p) = BitVec.ofNat 32 ((p : ℕ) % 64) := by
  pointwise [cols, rems, divisor, places, width]
  revert p
  decide +kernel
theorem parity_at (e : Fin 128) : parity (ix1 e) = BitVec.ofNat 32 ((e : ℕ) % 2) := by
  pointwise [parity, laneRems, lanes, divisor, two]
  revert e
  decide +kernel
theorem freqs_at (j : Fin 32) : freqs (ix1 j) = freq j := by
  pointwise [freqs, freq]
  rfl
theorem turns_at (w : IVec S2048 32) (p : Fin 2048) (j : Fin 32) :
    turns w (ix2 p j) = (((w (ix1 p)).toInt : ℝ) : EReal) * freq j := by
  pointwise [turns]
  rw [freqs_at]
  rfl
theorem angles_at (p : Fin 2048) (j : Fin 64) : angles (ix2 p j) = angle p j := by
  pointwise [angles]
  unfold angle
  split <;> simp only [turns_at, rows_at, cols_at]
theorem cosines_at (p : Fin 2048) (e : Fin 128) : cosines (ix2 p e) = Ideal.cos (angle p (pairOf e)) := by
  pointwise [cosines]
  exact congrArg Ideal.cos (angles_at _ _)
theorem minus_one : Ideal.ofBits .f32 0xBF800000#32 = (-1 : EReal) := by
  simp [Ideal.ofBits, Ideal.ieee, ← EReal.coe_mul]
  norm_num
theorem parity_word : ∀ e : Fin 128, IntOp.cmpi CmpIPredicate.eq (BitVec.ofNat 32 ((e : ℕ) % 2)) 0#32 = if (e : ℕ) % 2 = 0 then 1#1 else 0#1 := by
  decide +kernel
theorem sines_at (p : Fin 2048) (e : Fin 128) : sines (ix2 p e) = Ideal.sin (angle p (pairOf e)) * sign e := by
  pointwise [sines, signs]
  rw [parity_at, parity_word, minus_one, angles_at]
  refine congrArg₂ (· * ·) rfl ?_
  unfold sign
  split <;> rfl

variable (m : (ℓ : Loc nD τ sig) → Buf (Elt Ideal) ℓ)

theorem entry_cos (c : Dev nD) : (V m c main_v24 : FVec Ideal S2048x128 .f32) = cosines := by
  unfold V
  simp only [List.flatten_cons, List.flatten_nil, List.append_nil, List.cons_append, List.nil_append]
  entry_read
  simp only [StableHlo.TRef.toBuf, StableHlo.TRef.ofBuf, cast_eq]
  rfl
theorem entry_sin (c : Dev nD) : (V m c main_v36 : FVec Ideal S2048x128 .f32) = sines := by
  unfold V
  simp only [List.flatten_cons, List.flatten_nil, List.append_nil, List.cons_append, List.nil_append]
  entry_read
  simp only [StableHlo.TRef.toBuf, StableHlo.TRef.ofBuf, cast_eq]
  rfl

end Cert.PrepIdeal.Value
end
-- ==== Proof.PrepValue.lean ====
/- The query, key and value call: what one grid point computes, head by head, and the three arrays after the run. -/
module

public import proofs.«01_k».proof.Proof.PrepTables

@[expose] public section

set_option maxRecDepth 16384
set_option maxHeartbeats 1000000

noncomputable section

namespace Cert.PrepIdeal.Value

open Idealize.ShloMosaic Idealize.ShloMosaic.TcCoe Idealize.SL.Sem
open Idealize.ShloMosaic.Pipeline (Dat)
open Cert.PrepIdeal Cert.PrepIdeal.Gen
open Cert.PrepRope

/-! ## One head's tile -/

/-- The rows over the roots of their mean squares, times the gain. -/
def normTile (x : FVec Ideal S512x128 .f32) (g : FVec Ideal S1x128 .f32) : FVec Ideal S512x128 .f32 :=
  mulf (mulf x (broadcastTo S512x128 (rsqrt (addf (divf (shapeCast S512x1 (multiReduction .add [1] S512 (mulf x x) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128))
    (broadcastTo S512x128 (shapeCast S1x128 g shapeCasts_S1x128_S1x128) broadcasts_S1x128_S512x128)

/-- The lanes of even number. -/
def even : IVec S512x128 1 := cmpi .eq (andi (iota .tc S512x128 32 [1] iota_S512x128_d1_w32) (broadcast S512x128 1#32)) (broadcast S512x128 0#32)

/-- The rows turned by the tables' angles, times a factor. -/
def turnTile (n c s : FVec Ideal S512x128 .f32) (k : EReal) : FVec Ideal S512x128 .f32 :=
  mulf (addf (mulf n (shapeCast S512x128 c shapeCasts_S512x128_S512x128))
    (mulf (select even (dynamicRotate 1 127#32 none n rotates_S512x128_d1) (dynamicRotate 1 1#32 none n rotates_S512x128_d1)) (shapeCast S512x128 s shapeCasts_S512x128_S512x128)))
    (broadcast S512x128 k)

/-- The named factor of the queries. -/
def scale : EReal := Named.named κ "score_scale" (φ := .f32) (F := Ideal) 0x3E0293EE#32

theorem normTile_at (x : FVec Ideal S512x128 .f32) (g : FVec Ideal S1x128 .f32) (r : Fin 512) (e : Fin 128) :
    normTile x g (ix2 r e) = normed (fun d => x (ix2 r d)) (fun d => g (ix2 0 d)) e := by
  pointwise [normTile, normed]

theorem one_bits : Ideal.ofBits .f32 0x3F800000#32 = (1 : EReal) := by
  simp [Ideal.ofBits, Ideal.ieee, ← EReal.coe_mul]
  norm_num

theorem even_word : ∀ e : Fin 128, IntOp.cmpi CmpIPredicate.eq (IntOp.andi (BitVec.ofNat 32 (e : ℕ)) 1#32) 0#32 = if (e : ℕ) % 2 = 0 then 1#1 else 0#1 := by
  decide +kernel

theorem turnTile_at (n c s : FVec Ideal S512x128 .f32) (k : EReal) (r : Fin 512) (e : Fin 128) :
    turnTile n c s k (ix2 r e) = (n (ix2 r e) * c (ix2 r e) + n (ix2 r (partner e)) * s (ix2 r e)) * k := by
  pointwise [turnTile, even]
  rw [even_word]
  refine congrArg (· * k) (congrArg (n (ix2 r e) * c (ix2 r e) + ·) (congrArg (· * s (ix2 r e)) ?_))
  have he := e.isLt
  by_cases h : (e : ℕ) % 2 = 0
  · rw [if_pos h]
    refine congrArg (fun j => n (ix2 r j)) (Fin.ext ?_)
    show ((e : ℕ) + 128 - 127) % 128 = if (e : ℕ) % 2 = 0 then (e : ℕ) + 1 else (e : ℕ) - 1
    rw [if_pos h]
    omega
  · rw [if_neg h]
    refine congrArg (fun j => n (ix2 r j)) (Fin.ext ?_)
    show ((e : ℕ) + 128 - 1) % 128 = if (e : ℕ) % 2 = 0 then (e : ℕ) + 1 else (e : ℕ) - 1
    rw [if_neg h]
    omega

/-- A head's tile at a row whose tables hold the angles of position `p`. -/
theorem turn_at (x : FVec Ideal S512x128 .f32) (g : FVec Ideal S1x128 .f32) (C S : FVec Ideal S512x128 .f32) (k : EReal) (r : Fin 512) (p : Fin 2048)
    (hC : ∀ e : Fin 128, C (ix2 r e) = Ideal.cos (angle p (pairOf e))) (hS : ∀ e : Fin 128, S (ix2 r e) = Ideal.sin (angle p (pairOf e)) * sign e)
    (e : Fin 128) :
    turnTile (normTile x g) C S k (ix2 r e) = turned (normed (fun d => x (ix2 r d)) (fun d => g (ix2 0 d))) p e * k := by
  rw [turnTile_at, hC, hS, normTile_at, normTile_at, turned_eq]

variable (m : (ℓ : Loc nD τ sig) → Buf (Elt Ideal) ℓ)

/-! ## The operands the launch finds -/

/-- The projection's rows, the queries' gains and the keys'. -/
abbrev argP (c : Dev nD) : FVec Ideal S16384x2560 .f32 := m ((c : Thread nD τ).loc main_arg0)
abbrev argQ (c : Dev nD) : FVec Ideal S2x128 .f32 := m ((c : Thread nD τ).loc main_arg1)
abbrev argK (c : Dev nD) : FVec Ideal S2x128 .f32 := m ((c : Thread nD τ).loc main_arg2)

theorem entry_p (c : Dev nD) : V m c main_arg0 = m ((c : Thread nD τ).loc main_arg0) := by
  unfold V
  simp only [List.flatten_cons, List.flatten_nil, List.append_nil, List.cons_append, List.nil_append]
  entry_read
  rfl
theorem entry_q (c : Dev nD) (e : Fin 128) : (V m c main_v41 : FVec Ideal S1x128 .f32) (ix2 0 e) = argQ m c (ix2 1 e) := by
  unfold V
  simp only [List.flatten_cons, List.flatten_nil, List.append_nil, List.cons_append, List.nil_append]
  entry_read
  pointwise
theorem entry_k (c : Dev nD) (e : Fin 128) : (V m c main_v42 : FVec Ideal S1x128 .f32) (ix2 0 e) = argK m c (ix2 1 e) := by
  unfold V
  simp only [List.flatten_cons, List.flatten_nil, List.append_nil, List.cons_append, List.nil_append]
  entry_read
  pointwise

theorem idx : ∀ t : Fin cfg0.N, win0_0.index t = ![t.val, 1] ∧ win0_1.index t = ![t.val, 8] ∧ win0_2.index t = ![t.val, 9]
    ∧ win0_3.index t = ![0, 0] ∧ win0_4.index t = ![0, 0] ∧ win0_5.index t = ![t.val % 4, 0] ∧ win0_6.index t = ![t.val % 4, 0]
    ∧ win0_7.index t = ![t.val, 0] ∧ win0_8.index t = ![t.val / 4, 0, t.val % 4] ∧ win0_9.index t = ![t.val, 0] :=
  (by decide +kernel : ∀ t : Fin grid0.N, _)

/-- The blocks of a grid point, read out of any array. -/
theorem block_q (A : FVec Ideal S16384x2560 .f32) (t : Fin cfg0.N) (ht : t.val < 32) (j : ((cfg0.win 0).xblock (cfg0.grid.coords t)).Idx)
    (r : Fin 512) (e : Fin 1024) (h0 : (j 0 : ℕ) = r) (h1 : (j 1 : ℕ) = e) :
    ((cfg0.win 0).blk t).view.read (Elt Ideal) A j = A (ix2 ⟨t * 512 + r, by omega⟩ ⟨1024 + e, by omega⟩) := by
  blk_ext [idx t]
theorem block_k (A : FVec Ideal S16384x2560 .f32) (t : Fin cfg0.N) (ht : t.val < 32) (r : Fin 512) (e : Fin 256) :
    ((cfg0.win 1).blk t).view.read (Elt Ideal) A (ix2 r e : S512x256.Idx) = A (ix2 ⟨t * 512 + r, by omega⟩ ⟨2048 + e, by omega⟩) := by
  blk_ext [idx t]
theorem block_v (A : FVec Ideal S16384x2560 .f32) (t : Fin cfg0.N) (ht : t.val < 32) (r : Fin 512) (e : Fin 256) :
    ((cfg0.win 2).blk t).view.read (Elt Ideal) A (ix2 r e : S512x256.Idx) = A (ix2 ⟨t * 512 + r, by omega⟩ ⟨2304 + e, by omega⟩) := by
  blk_ext [idx t]
theorem block_qn (A : FVec Ideal S1x128 .f32) (t : Fin cfg0.N) (e : Fin 128) :
    ((cfg0.win 3).blk t).view.read (Elt Ideal) A (ix2 0 e : S1x128.Idx) = A (ix2 0 e) := by
  blk_ext [idx t]
theorem block_kn (A : FVec Ideal S1x128 .f32) (t : Fin cfg0.N) (e : Fin 128) :
    ((cfg0.win 4).blk t).view.read (Elt Ideal) A (ix2 0 e : S1x128.Idx) = A (ix2 0 e) := by
  blk_ext [idx t]
theorem block_cos (A : FVec Ideal S2048x128 .f32) (t : Fin cfg0.N) (r : Fin 512) (e : Fin 128) :
    ((cfg0.win 5).blk t).view.read (Elt Ideal) A (ix2 r e : S512x128.Idx) = A (ix2 ⟨t % 4 * 512 + r, by omega⟩ e) := by
  blk_ext [idx t]
theorem block_sin (A : FVec Ideal S2048x128 .f32) (t : Fin cfg0.N) (r : Fin 512) (e : Fin 128) :
    ((cfg0.win 6).blk t).view.read (Elt Ideal) A (ix2 r e : S512x128.Idx) = A (ix2 ⟨t % 4 * 512 + r, by omega⟩ e) := by
  blk_ext [idx t]

/-- The position of a point's row. -/
def posOf (t : ℕ) (r : Fin 512) : Fin 2048 := ⟨t % 4 * 512 + r, by omega⟩

theorem cos_at (c : Dev nD) (t : Fin cfg0.N) (r : Fin 512) (e : Fin 128) :
    (iblk m c 5 t : Vec Ideal S512x128 .f32) (ix2 r e) = Ideal.cos (angle (posOf t r) (pairOf e)) :=
  (block_cos (V m c main_v24) t r e).trans ((congrFun (entry_cos m c) _).trans (cosines_at _ _))
theorem sin_at (c : Dev nD) (t : Fin cfg0.N) (r : Fin 512) (e : Fin 128) :
    (iblk m c 6 t : Vec Ideal S512x128 .f32) (ix2 r e) = Ideal.sin (angle (posOf t r) (pairOf e)) * sign e :=
  (block_sin (V m c main_v36) t r e).trans ((congrFun (entry_sin m c) _).trans (sines_at _ _))
theorem qn_at (c : Dev nD) (t : Fin cfg0.N) (e : Fin 128) : (iblk m c 3 t : Vec Ideal S1x128 .f32) (ix2 0 e) = argQ m c (ix2 1 e) :=
  (block_qn (V m c main_v41) t e).trans (entry_q m c e)
theorem kn_at (c : Dev nD) (t : Fin cfg0.N) (e : Fin 128) : (iblk m c 4 t : Vec Ideal S1x128 .f32) (ix2 0 e) = argK m c (ix2 1 e) :=
  (block_kn (V m c main_v42) t e).trans (entry_k m c e)
theorem q_at (c : Dev nD) (t : Fin cfg0.N) (ht : t.val < 32) (r : Fin 512) (e : Fin 1024) :
    (X0_0 m c t : Vec Ideal S512x1024 .f32) (ix2 r e) = argP m c (ix2 ⟨t * 512 + r, by omega⟩ ⟨1024 + e, by omega⟩) := by
  unfold X0_0 Pipeline.Window.fill
  rw [dif_pos (moved0_0 t _)]
  unfold iblk
  exact (block_q (V m c main_arg0) t ht _ r e rfl rfl).trans (congrFun (entry_p m c) _)
theorem k_at (c : Dev nD) (t : Fin cfg0.N) (ht : t.val < 32) (r : Fin 512) (e : Fin 256) :
    (iblk m c 1 t : Vec Ideal S512x256 .f32) (ix2 r e) = argP m c (ix2 ⟨t * 512 + r, by omega⟩ ⟨2048 + e, by omega⟩) :=
  (block_k (V m c main_arg0) t ht r e).trans (congrFun (entry_p m c) _)
theorem v_at (c : Dev nD) (t : Fin cfg0.N) (ht : t.val < 32) (r : Fin 512) (e : Fin 256) :
    (iblk m c 2 t : Vec Ideal S512x256 .f32) (ix2 r e) = argP m c (ix2 ⟨t * 512 + r, by omega⟩ ⟨2304 + e, by omega⟩) :=
  (block_v (V m c main_arg0) t ht r e).trans (congrFun (entry_p m c) _)

/-! ## The three results as functions of the arguments -/

/-- Head `h`'s row: of the queries it is the row's columns from 1024 on, of the keys from 2048 on. -/
def queries (P : FVec Ideal S16384x2560 .f32) (Q : FVec Ideal S2x128 .f32) (i : Fin 16384) (h : Fin 8) (e : Fin 128) : EReal :=
  turned (normed (fun d => P (ix2 i ⟨1024 + (h * 128 + d), by omega⟩)) (fun d => Q (ix2 1 d))) ⟨(i : ℕ) % 2048, by omega⟩ e * scale
def keys (P : FVec Ideal S16384x2560 .f32) (K : FVec Ideal S2x128 .f32) (i : Fin 16384) (h : Fin 2) (e : Fin 128) : EReal :=
  turned (normed (fun d => P (ix2 i ⟨2048 + (h * 128 + d), by omega⟩)) (fun d => K (ix2 1 d))) ⟨(i : ℕ) % 2048, by omega⟩ e
def values (P : FVec Ideal S16384x2560 .f32) (i : Fin 16384) (h : Fin 4) (e : Fin 128) : EReal :=
  if (h : ℕ) % 2 = 0 then P (ix2 i ⟨2304 + ((h : ℕ) / 2 * 128 + e), by omega⟩) else 1

/-- A head's number and the lane in it. -/
theorem head_lt {n : ℕ} (j : Fin (n * 128)) : (j : ℕ) / 128 < n := by have := j.isLt; omega

def result7 (P : FVec Ideal S16384x2560 .f32) (Q : FVec Ideal S2x128 .f32) : FVec Ideal S16384x1024 .bf16 := fun i =>
  queries P Q (i 0) ⟨(i 1 : ℕ) / 128, head_lt (n := 8) (i 1)⟩ ⟨(i 1 : ℕ) % 128, by omega⟩
def result8 (P : FVec Ideal S16384x2560 .f32) (K : FVec Ideal S2x128 .f32) : FVec Ideal S8x256x2048 .bf16 := fun i =>
  keys P K ⟨(i 0 : ℕ) * 2048 + (i 2 : ℕ), by have h0 : (i 0 : ℕ) < 8 := (i 0).isLt; have h2 : (i 2 : ℕ) < 2048 := (i 2).isLt; omega⟩
    ⟨(i 1 : ℕ) / 128, head_lt (n := 2) (i 1)⟩ ⟨(i 1 : ℕ) % 128, by omega⟩
def result9 (P : FVec Ideal S16384x2560 .f32) : FVec Ideal S16384x512 .bf16 := fun i =>
  values P (i 0) ⟨(i 1 : ℕ) / 128, head_lt (n := 4) (i 1)⟩ ⟨(i 1 : ℕ) % 128, by omega⟩

/-- A stored tile of the queries, head `h`. -/
theorem piece7 (c : Dev nD) (t : Fin cfg0.N) (ht : t.val < 32) (h : ℕ) (hh : h < 8) (a : ℕ) (ha : a = h * 128) (hr) (x : S512x128.Idx) (i : S16384x1024.Idx)
    (i0 : (i 0 : ℕ) = t * 512 + (x 0 : ℕ)) (i1 : (i 1 : ℕ) = a + (x 1 : ℕ)) :
    turnTile (normTile (View.ld (Val := Elt Ideal) (e' := .f32) (X0_0 m c t : Vec Ideal S512x1024 .f32) (Rect.unit (s := S512x1024) ![0, a] ![512, 128] hr))
      (iblk m c 3 t : Vec Ideal S1x128 .f32)) (iblk m c 5 t : Vec Ideal S512x128 .f32) (iblk m c 6 t : Vec Ideal S512x128 .f32) scale x
      = result7 (argP m c) (argQ m c) i := by
  subst ha
  obtain ⟨r, e, rfl⟩ : ∃ r e, x = ix2 r e := ⟨x 0, x 1, by idx_vars x⟩
  have i0' : (i 0 : ℕ) = t * 512 + (r : ℕ) := i0
  have i1' : (i 1 : ℕ) = h * 128 + (e : ℕ) := i1
  have hr' := r.isLt
  have he' := e.isLt
  rw [turn_at _ _ _ _ _ r (posOf t r) (cos_at m c t r) (sin_at m c t r) e]
  unfold result7 queries
  have e0 : i 0 = ⟨t * 512 + r, by omega⟩ := Fin.ext i0'
  have e1 : (⟨(i 1 : ℕ) / 128, head_lt (n := 8) (i 1)⟩ : Fin 8) = ⟨h, hh⟩ := Fin.ext (by show (i 1 : ℕ) / 128 = h; omega)
  have e2 : (⟨(i 1 : ℕ) % 128, by omega⟩ : Fin 128) = e := Fin.ext (by show (i 1 : ℕ) % 128 = e; omega)
  have e3 : (⟨(i 0 : ℕ) % 2048, by omega⟩ : Fin 2048) = posOf t r := Fin.ext (by show (i 0 : ℕ) % 2048 = t % 4 * 512 + (r : ℕ); omega)
  rw [e1, e2, e3, e0]
  refine congrArg (· * scale) (congrArg₂ (fun x g => turned (normed x g) (posOf t r) e) (funext fun d => ?_) (funext fun d => qn_at m c t d))
  pointwise
  exact (q_at m c t ht _ _).trans (congrArg (argP m c) (by rfl))

/-- A stored tile of the keys, head `h`, its axes exchanged. -/
theorem piece8 (c : Dev nD) (t : Fin cfg0.N) (ht : t.val < 32) (h : ℕ) (hh : h < 2) (a : ℕ) (ha : a = h * 128) (hr) (x : S1x128x512.Idx) (i : S8x256x2048.Idx)
    (i0 : (i 0 : ℕ) = t / 4 + (x 0 : ℕ)) (i1 : (i 1 : ℕ) = a + (x 1 : ℕ)) (i2 : (i 2 : ℕ) = t % 4 * 512 + (x 2 : ℕ)) :
    shapeCast S1x128x512 (transpose S128x512 [1, 0] (turnTile (normTile (View.ld (Val := Elt Ideal) (e' := .f32) (iblk m c 1 t : Vec Ideal S512x256 .f32) (Rect.unit (s := S512x256) ![0, a] ![512, 128] hr))
      (iblk m c 4 t : Vec Ideal S1x128 .f32)) (iblk m c 5 t : Vec Ideal S512x128 .f32) (iblk m c 6 t : Vec Ideal S512x128 .f32) (Ideal.ofBits .f32 0x3F800000#32)) transposes_S512x128_p1_0_S128x512)
      shapeCasts_S128x512_S1x128x512 x
      = result8 (argP m c) (argK m c) i := by
  subst ha
  obtain ⟨e, r, rfl⟩ : ∃ e r, x = ix3 0 e r := ⟨x 1, x 2, by idx_vars x; obtain rfl : x0 = 0 := Subsingleton.elim _ _; rfl⟩
  have i0' : (i 0 : ℕ) = t / 4 + 0 := i0
  have i1' : (i 1 : ℕ) = h * 128 + (e : ℕ) := i1
  have i2' : (i 2 : ℕ) = t % 4 * 512 + (r : ℕ) := i2
  have hr' := r.isLt
  have he' := e.isLt
  generalize hT : turnTile _ _ _ _ = T
  pointwise
  subst hT
  rw [turn_at _ _ _ _ _ r (posOf t r) (cos_at m c t r) (sin_at m c t r) e]
  unfold result8 keys
  have e0 : (⟨(i 0 : ℕ) * 2048 + (i 2 : ℕ), by have h0 : (i 0 : ℕ) < 8 := (i 0).isLt; have h2 : (i 2 : ℕ) < 2048 := (i 2).isLt; omega⟩ : Fin 16384)
    = ⟨t * 512 + r, by omega⟩ := Fin.ext (by show (i 0 : ℕ) * 2048 + (i 2 : ℕ) = t * 512 + (r : ℕ); omega)
  have e1 : (⟨(i 1 : ℕ) / 128, head_lt (n := 2) (i 1)⟩ : Fin 2) = ⟨h, hh⟩ := Fin.ext (by show (i 1 : ℕ) / 128 = h; omega)
  have e2 : (⟨(i 1 : ℕ) % 128, by omega⟩ : Fin 128) = e := Fin.ext (by show (i 1 : ℕ) % 128 = e; omega)
  have e3 : (⟨(t * 512 + r : ℕ) % 2048, by omega⟩ : Fin 2048) = posOf t r := Fin.ext (by show (t * 512 + r : ℕ) % 2048 = t % 4 * 512 + (r : ℕ); omega)
  rw [e1, e2, e0]
  show _ = turned _ ⟨(t * 512 + r : ℕ) % 2048, by omega⟩ e
  rw [e3, one_bits, mul_one]
  refine congrArg₂ (fun x g => turned (normed x g) (posOf t r) e) (funext fun d => ?_) (funext fun d => kn_at m c t d)
  pointwise
  exact (k_at m c t ht _ _).trans (congrArg (argP m c) (by rfl))

/-- A stored tile of the values, and one of ones. -/
theorem piece9 (c : Dev nD) (t : Fin cfg0.N) (ht : t.val < 32) (h : ℕ) (hh : h < 2) (a b : ℕ) (ha : a = h * 128) (hb : b = 2 * h * 128) (hr) (x : S512x128.Idx)
    (i : S16384x512.Idx) (i0 : (i 0 : ℕ) = t * 512 + (x 0 : ℕ)) (i1 : (i 1 : ℕ) = b + (x 1 : ℕ)) :
    View.ld (Val := Elt Ideal) (e' := .f32) (iblk m c 2 t : Vec Ideal S512x256 .f32) (Rect.unit (s := S512x256) ![0, a] ![512, 128] hr) x
      = result9 (argP m c) i := by
  subst ha hb
  obtain ⟨r, e, rfl⟩ : ∃ r e, x = ix2 r e := ⟨x 0, x 1, by idx_vars x⟩
  have i0' : (i 0 : ℕ) = t * 512 + (r : ℕ) := i0
  have i1' : (i 1 : ℕ) = 2 * h * 128 + (e : ℕ) := i1
  have hr' := r.isLt
  have he' := e.isLt
  unfold result9 values
  have e0 : i 0 = ⟨t * 512 + r, by omega⟩ := Fin.ext i0'
  rw [if_pos (show (i 1 : ℕ) / 128 % 2 = 0 by omega), e0]
  pointwise
  refine (v_at m c t ht _ _).trans (congrArg (argP m c) (congrArg (ix2 _) (Fin.ext ?_)))
  show 2304 + (h * 128 + (e : ℕ)) = 2304 + ((i 1 : ℕ) / 128 / 2 * 128 + (i 1 : ℕ) % 128)
  omega
theorem ones9 (P : FVec Ideal S16384x2560 .f32) (h : ℕ) (b : ℕ) (hb : b = (2 * h + 1) * 128) (x : S512x128.Idx)
    (i : S16384x512.Idx) (i1 : (i 1 : ℕ) = b + (x 1 : ℕ)) : k0_pay42 (F := Ideal) x = result9 P i := by
  subst hb
  have hx : (x 1 : ℕ) < 128 := (x 1).isLt
  unfold result9 values
  rw [if_neg (show ¬ (i 1 : ℕ) / 128 % 2 = 0 by omega)]
  pointwise [k0_pay42]

/-! ## A point's blocks and the arrays after the run -/

theorem point7 (c : Dev nD) (t : Fin cfg0.N) (y : S512x1024.Idx) (i : S16384x1024.Idx)
    (i0 : (i 0 : ℕ) = t.val * 512 + (y 0 : ℕ)) (i1 : (i 1 : ℕ) = (y 1 : ℕ)) :
    (outsAt0 m c t).1 y = result7 (argP m c) (argQ m c) i := by
  have ht : t.val < 32 := lt_of_lt_of_eq t.isLt N_0
  unfold outsAt0
  frame_out
  canon_tiles x h
  case piece0 => exact piece7 m c t ht 7 (by decide) 896 rfl _ x i (by rw [i0, h0]) (by rw [i1, h1])
  case piece1 => exact piece7 m c t ht 6 (by decide) 768 rfl _ x i (by rw [i0, h0]) (by rw [i1, h1])
  case piece2 => exact piece7 m c t ht 5 (by decide) 640 rfl _ x i (by rw [i0, h0]) (by rw [i1, h1])
  case piece3 => exact piece7 m c t ht 4 (by decide) 512 rfl _ x i (by rw [i0, h0]) (by rw [i1, h1])
  case piece4 => exact piece7 m c t ht 3 (by decide) 384 rfl _ x i (by rw [i0, h0]) (by rw [i1, h1])
  case piece5 => exact piece7 m c t ht 2 (by decide) 256 rfl _ x i (by rw [i0, h0]) (by rw [i1, h1])
  case piece6 => exact piece7 m c t ht 1 (by decide) 128 rfl _ x i (by rw [i0, h0]) (by rw [i1, h1])
  case piece7 => exact piece7 m c t ht 0 (by decide) 0 rfl _ x i (by rw [i0, h0]) (by rw [i1, h1, Nat.zero_add])
theorem point8 (c : Dev nD) (t : Fin cfg0.N) (y : S1x256x512.Idx) (i : S8x256x2048.Idx)
    (i0 : (i 0 : ℕ) = t.val / 4 + (y 0 : ℕ)) (i1 : (i 1 : ℕ) = (y 1 : ℕ)) (i2 : (i 2 : ℕ) = t.val % 4 * 512 + (y 2 : ℕ)) :
    (outsAt0 m c t).2.1 y = result8 (argP m c) (argK m c) i := by
  have ht : t.val < 32 := lt_of_lt_of_eq t.isLt N_0
  unfold outsAt0
  frame_out
  canon_tiles x h
  case piece0 => exact piece8 m c t ht 1 (by decide) 128 rfl _ x i (by rw [i0, h0]) (by rw [i1, h1]) (by rw [i2, h2])
  case piece1 => exact piece8 m c t ht 0 (by decide) 0 rfl _ x i (by rw [i0, h0]) (by rw [i1, h1, Nat.zero_add]) (by rw [i2, h2])
theorem point9 (c : Dev nD) (t : Fin cfg0.N) (y : S512x512.Idx) (i : S16384x512.Idx)
    (i0 : (i 0 : ℕ) = t.val * 512 + (y 0 : ℕ)) (i1 : (i 1 : ℕ) = (y 1 : ℕ)) :
    (outsAt0 m c t).2.2 y = result9 (argP m c) i := by
  have ht : t.val < 32 := lt_of_lt_of_eq t.isLt N_0
  unfold outsAt0
  frame_out
  canon_tiles x h
  case piece0 => exact ones9 _ 1 384 rfl x i (by rw [i1, h1])
  case piece1 => exact piece9 m c t ht 1 (by decide) 128 256 rfl rfl _ x i (by rw [i0, h0]) (by rw [i1, h1])
  case piece2 => exact ones9 _ 0 128 rfl x i (by rw [i1, h1])
  case piece3 => exact piece9 m c t ht 0 (by decide) 0 0 rfl rfl _ x i (by rw [i0, h0]) (by rw [i1, h1, Nat.zero_add])

/-- The three result arrays after the run. -/
theorem final7 (c : Dev nD) : (dats m 0 c).arrAt 7 (cfgs 0).N = result7 (argP m c) (argQ m c) := by
  refine (dats m 0 c).arrAt_eq_of_covers 7 _ (by decide +kernel) fun t _ y => ?_
  have i0 : ((((cfg0.win 7).blk t).view.emb y 0 : Fin _) : ℕ) = t.val * 512 + (y 0 : ℕ) := by blk_simp [idx t]
  have i1 : ((((cfg0.win 7).blk t).view.emb y 1 : Fin _) : ℕ) = (y 1 : ℕ) := by blk_simp [idx t]
  blk_simp
  rw [after0_7]
  exact point7 m c t y _ i0 i1
theorem final8 (c : Dev nD) : (dats m 0 c).arrAt 8 (cfgs 0).N = result8 (argP m c) (argK m c) := by
  refine (dats m 0 c).arrAt_eq_of_covers 8 _ (by decide +kernel) fun t _ y => ?_
  have i0 : ((((cfg0.win 8).blk t).view.emb y 0 : Fin _) : ℕ) = t.val / 4 + (y 0 : ℕ) := by blk_simp [idx t]
  have i1 : ((((cfg0.win 8).blk t).view.emb y 1 : Fin _) : ℕ) = (y 1 : ℕ) := by blk_simp [idx t]
  have i2 : ((((cfg0.win 8).blk t).view.emb y 2 : Fin _) : ℕ) = t.val % 4 * 512 + (y 2 : ℕ) := by blk_simp [idx t]
  blk_simp
  rw [after0_8]
  exact point8 m c t y _ i0 i1 i2
theorem final9 (c : Dev nD) : (dats m 0 c).arrAt 9 (cfgs 0).N = result9 (argP m c) := by
  refine (dats m 0 c).arrAt_eq_of_covers 9 _ (by decide +kernel) fun t _ y => ?_
  have i0 : ((((cfg0.win 9).blk t).view.emb y 0 : Fin _) : ℕ) = t.val * 512 + (y 0 : ℕ) := by blk_simp [idx t]
  have i1 : ((((cfg0.win 9).blk t).view.emb y 1 : Fin _) : ℕ) = (y 1 : ℕ) := by blk_simp [idx t]
  blk_simp
  rw [after0_9]
  exact point9 m c t y _ i0 i1

end Cert.PrepIdeal.Value
end
-- ==== Proof.PrepRef.lean ====
/- The rotary call's reference, read at one position: every head's lanes over the root of their mean square, times the gains,
   their pairs turned by the position's angles. -/
module

public import proofs.«01_k».proof.Proof.Gen.PrepRefIdeal.Run
public import proofs.«01_k».proof.Proof.PrepTables
public import Idealize.ShloMosaic.Lib.Pointwise
public import Idealize.ShloMosaic.Lib.Pipeline.ValueKit

@[expose] public section

set_option maxRecDepth 16384

noncomputable section

namespace Cert.PrepRefIdeal.Value

open Idealize.ShloMosaic Idealize.ShloMosaic.TcCoe Idealize.SL.Sem Idealize.ShloMosaic.StableHlo
open Cert.PrepRefIdeal Cert.PrepRefIdeal.Gen
open Cert.PrepRope
open Cert.PrepIdeal.Value (angles angles_at)

/-- The projection, batch by batch. -/
def proj (X : FVec Ideal S16384x2560 .f32) : FVec Ideal S8x2048x2560 .f32 := shapeCast _ X shapeCasts_S16384x2560_S8x2048x2560

theorem cos_angles (p : Fin 2048) (j : Fin 64) : Host.cos angles (ix2 p j) = Ideal.cos (angle p j) := congrArg Ideal.cos (angles_at p j)
theorem sin_angles (p : Fin 2048) (j : Fin 64) : Host.sin angles (ix2 p j) = Ideal.sin (angle p j) := congrArg Ideal.sin (angles_at p j)

/-! ## The queries -/

/-- Their columns of the projection, head by head. -/
def headsQ (X : FVec Ideal S16384x2560 .f32) : FVec Ideal S8x2048x8x128 .f32 :=
  shapeCast _ (extractStridedSlice S8x2048x1024 ![0, 0, 1024] (proj X) slices_S8x2048x2560_S8x2048x1024_0_0_1024) shapeCasts_S8x2048x1024_S8x2048x8x128
/-- Each head's lanes over the root of their mean square, times the gains. -/
def scaledQ (x : FVec Ideal S8x2048x8x128 .f32) (G : FVec Ideal S2x128 .f32) : FVec Ideal S8x2048x8x128 .f32 :=
  mulf (mulf x (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf x x) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32))))))
    (broadcastInDim S8x2048x8x128 ![0, 1, 2, 3] bcast_S1x1x1x128_S8x2048x8x128_0_1_2_3 (broadcastInDim S1x1x1x128 ![3] bcast_S128_S1x1x1x128_3 (shapeCast _ (extractStridedSlice S1x128 ![1, 0] G slices_S2x128_S1x128_1_0) shapeCasts_S1x128_S128)))
/-- The even lanes and the odd ones. -/
def evenQ (n : FVec Ideal S8x2048x8x128 .f32) : FVec Ideal S8x2048x8x64 .f32 :=
  shapeCast _ (extractStridedSlice S8x2048x8x64x1 ![0, 0, 0, 0, 0] (shapeCast S8x2048x8x64x2 n shapeCasts_S8x2048x8x128_S8x2048x8x64x2) slices_S8x2048x8x64x2_S8x2048x8x64x1_0_0_0_0_0) shapeCasts_S8x2048x8x64x1_S8x2048x8x64
def oddQ (n : FVec Ideal S8x2048x8x128 .f32) : FVec Ideal S8x2048x8x64 .f32 :=
  shapeCast _ (extractStridedSlice S8x2048x8x64x1 ![0, 0, 0, 0, 1] (shapeCast S8x2048x8x64x2 n shapeCasts_S8x2048x8x128_S8x2048x8x64x2) slices_S8x2048x8x64x2_S8x2048x8x64x1_0_0_0_0_1) shapeCasts_S8x2048x8x64x1_S8x2048x8x64
/-- A table of the positions, the same in every batch and head. -/
def spreadQ (T : FVec Ideal S2048x64 .f32) : FVec Ideal S8x2048x8x64 .f32 :=
  broadcastInDim S8x2048x8x64 ![0, 1, 2, 3] bcast_S1x2048x1x64_S8x2048x8x64_0_1_2_3 (broadcastInDim S1x2048x1x64 ![1, 3] bcast_S2048x64_S1x2048x1x64_1_3 T)
/-- The pairs of lanes turned. -/
def turnedQ (n : FVec Ideal S8x2048x8x128 .f32) (T : FVec Ideal S2048x64 .f32) : FVec Ideal S8x2048x8x128 .f32 :=
  shapeCast _ (concatenate S8x2048x8x64x2 4
    [⟨S8x2048x8x64x1, (broadcastInDim S8x2048x8x64x1 ![0, 1, 2, 3] bcast_S8x2048x8x64_S8x2048x8x64x1_0_1_2_3 (subf (mulf (evenQ n) (spreadQ (Host.cos T))) (mulf (oddQ n) (spreadQ (Host.sin T)))))⟩,
     ⟨S8x2048x8x64x1, (broadcastInDim S8x2048x8x64x1 ![0, 1, 2, 3] bcast_S8x2048x8x64_S8x2048x8x64x1_0_1_2_3 (addf (mulf (evenQ n) (spreadQ (Host.sin T))) (mulf (oddQ n) (spreadQ (Host.cos T)))))⟩]
    concatenates_S8x2048x8x64x1_S8x2048x8x64x1_S8x2048x8x64x2_d4) shapeCasts_S8x2048x8x64x2_S8x2048x8x128

theorem headsQ_at (X : FVec Ideal S16384x2560 .f32) (b : Fin 8) (p : Fin 2048) (h : Fin 8) (e : Fin 128) :
    headsQ X (ix4 b p h e) = X (ix2 ⟨(b : ℕ) * 2048 + p, by omega⟩ ⟨1024 + ((h : ℕ) * 128 + e), by omega⟩) := by
  pointwise [headsQ, proj]
theorem scaledQ_at (x : FVec Ideal S8x2048x8x128 .f32) (G : FVec Ideal S2x128 .f32) (b : Fin 8) (p : Fin 2048) (h : Fin 8) (e : Fin 128) :
    scaledQ x G (ix4 b p h e) = normed (fun d => x (ix4 b p h d)) (fun d => G (ix2 1 d)) e := by
  pointwise [scaledQ, normed]
theorem evenQ_at (n : FVec Ideal S8x2048x8x128 .f32) (b : Fin 8) (p : Fin 2048) (h : Fin 8) (j : Fin 64) :
    evenQ n (ix4 b p h j) = n (ix4 b p h ⟨(j : ℕ) * 2, by omega⟩) := by
  pointwise [evenQ]
theorem oddQ_at (n : FVec Ideal S8x2048x8x128 .f32) (b : Fin 8) (p : Fin 2048) (h : Fin 8) (j : Fin 64) :
    oddQ n (ix4 b p h j) = n (ix4 b p h ⟨(j : ℕ) * 2 + 1, by omega⟩) := by
  pointwise [oddQ]
theorem spreadQ_at (T : FVec Ideal S2048x64 .f32) (b : Fin 8) (p : Fin 2048) (h : Fin 8) (j : Fin 64) :
    spreadQ T (ix4 b p h j) = T (ix2 p j) := by
  pointwise [spreadQ]
theorem turnedQ_at (n : FVec Ideal S8x2048x8x128 .f32) (b : Fin 8) (p : Fin 2048) (h : Fin 8) (e : Fin 128) :
    turnedQ n angles (ix4 b p h e) = turned (fun d => n (ix4 b p h d)) p e := by
  have he := e.isLt
  pointwise [turnedQ]
  simp only [spreadQ_at, evenQ_at, oddQ_at, cos_angles, sin_angles]
  unfold turned
  by_cases h0 : (e : ℕ) % 2 = 0
  · have e1 : (⟨(e : ℕ) / 2 * 2, by omega⟩ : Fin 128) = e := Fin.ext (by show (e : ℕ) / 2 * 2 = e; omega)
    have e2 : (⟨(e : ℕ) / 2 * 2 + 1, by omega⟩ : Fin 128) = partner e :=
      Fin.ext (by show (e : ℕ) / 2 * 2 + 1 = if (e : ℕ) % 2 = 0 then (e : ℕ) + 1 else (e : ℕ) - 1; rw [if_pos h0]; omega)
    rw [dif_pos (by omega), if_pos h0, e1, e2]
    rfl
  · have e1 : (⟨(e : ℕ) / 2 * 2, by omega⟩ : Fin 128) = partner e :=
      Fin.ext (by show (e : ℕ) / 2 * 2 = if (e : ℕ) % 2 = 0 then (e : ℕ) + 1 else (e : ℕ) - 1; rw [if_neg h0]; omega)
    have e2 : (⟨(e : ℕ) / 2 * 2 + 1, by omega⟩ : Fin 128) = e := Fin.ext (by show (e : ℕ) / 2 * 2 + 1 = e; omega)
    rw [dif_neg (by omega), if_neg h0, e1, e2]
    rfl

/-! ## The keys -/

/-- Their columns of the projection, head by head. -/
def headsK (X : FVec Ideal S16384x2560 .f32) : FVec Ideal S8x2048x2x128 .f32 :=
  shapeCast _ (extractStridedSlice S8x2048x256 ![0, 0, 2048] (proj X) slices_S8x2048x2560_S8x2048x256_0_0_2048) shapeCasts_S8x2048x256_S8x2048x2x128
/-- Each head's lanes over the root of their mean square, times the gains. -/
def scaledK (x : FVec Ideal S8x2048x2x128 .f32) (G : FVec Ideal S2x128 .f32) : FVec Ideal S8x2048x2x128 .f32 :=
  mulf (mulf x (broadcastInDim S8x2048x2x128 ![0, 1, 2, 3] bcast_S8x2048x2x1_S8x2048x2x128_0_1_2_3 (Host.rsqrt (addf (Host.divf (broadcastInDim S8x2048x2x1 ![0, 1, 2] bcast_S8x2048x2_S8x2048x2x1_0_1_2 (Host.reduceAdd (mulf x x) (constant S_ .f32 0x00000000#32) reducesTo_S8x2048x2x128_S8x2048x2_d3 h_S_)) (broadcastInDim S8x2048x2x1 ![] bcast_S_S8x2048x2x1 (constant S_ .f32 0x43000000#32))) (broadcastInDim S8x2048x2x1 ![] bcast_S_S8x2048x2x1 (constant S_ .f32 0x358637BD#32))))))
    (broadcastInDim S8x2048x2x128 ![0, 1, 2, 3] bcast_S1x1x1x128_S8x2048x2x128_0_1_2_3 (broadcastInDim S1x1x1x128 ![3] bcast_S128_S1x1x1x128_3 (shapeCast _ (extractStridedSlice S1x128 ![1, 0] G slices_S2x128_S1x128_1_0) shapeCasts_S1x128_S128)))
/-- The even lanes and the odd ones. -/
def evenK (n : FVec Ideal S8x2048x2x128 .f32) : FVec Ideal S8x2048x2x64 .f32 :=
  shapeCast _ (extractStridedSlice S8x2048x2x64x1 ![0, 0, 0, 0, 0] (shapeCast S8x2048x2x64x2 n shapeCasts_S8x2048x2x128_S8x2048x2x64x2) slices_S8x2048x2x64x2_S8x2048x2x64x1_0_0_0_0_0) shapeCasts_S8x2048x2x64x1_S8x2048x2x64
def oddK (n : FVec Ideal S8x2048x2x128 .f32) : FVec Ideal S8x2048x2x64 .f32 :=
  shapeCast _ (extractStridedSlice S8x2048x2x64x1 ![0, 0, 0, 0, 1] (shapeCast S8x2048x2x64x2 n shapeCasts_S8x2048x2x128_S8x2048x2x64x2) slices_S8x2048x2x64x2_S8x2048x2x64x1_0_0_0_0_1) shapeCasts_S8x2048x2x64x1_S8x2048x2x64
/-- A table of the positions, the same in every batch and head. -/
def spreadK (T : FVec Ideal S2048x64 .f32) : FVec Ideal S8x2048x2x64 .f32 :=
  broadcastInDim S8x2048x2x64 ![0, 1, 2, 3] bcast_S1x2048x1x64_S8x2048x2x64_0_1_2_3 (broadcastInDim S1x2048x1x64 ![1, 3] bcast_S2048x64_S1x2048x1x64_1_3 T)
/-- The pairs of lanes turned. -/
def turnedK (n : FVec Ideal S8x2048x2x128 .f32) (T : FVec Ideal S2048x64 .f32) : FVec Ideal S8x2048x2x128 .f32 :=
  shapeCast _ (concatenate S8x2048x2x64x2 4
    [⟨S8x2048x2x64x1, (broadcastInDim S8x2048x2x64x1 ![0, 1, 2, 3] bcast_S8x2048x2x64_S8x2048x2x64x1_0_1_2_3 (subf (mulf (evenK n) (spreadK (Host.cos T))) (mulf (oddK n) (spreadK (Host.sin T)))))⟩,
     ⟨S8x2048x2x64x1, (broadcastInDim S8x2048x2x64x1 ![0, 1, 2, 3] bcast_S8x2048x2x64_S8x2048x2x64x1_0_1_2_3 (addf (mulf (evenK n) (spreadK (Host.sin T))) (mulf (oddK n) (spreadK (Host.cos T)))))⟩]
    concatenates_S8x2048x2x64x1_S8x2048x2x64x1_S8x2048x2x64x2_d4) shapeCasts_S8x2048x2x64x2_S8x2048x2x128

theorem headsK_at (X : FVec Ideal S16384x2560 .f32) (b : Fin 8) (p : Fin 2048) (h : Fin 2) (e : Fin 128) :
    headsK X (ix4 b p h e) = X (ix2 ⟨(b : ℕ) * 2048 + p, by omega⟩ ⟨2048 + ((h : ℕ) * 128 + e), by omega⟩) := by
  pointwise [headsK, proj]
theorem scaledK_at (x : FVec Ideal S8x2048x2x128 .f32) (G : FVec Ideal S2x128 .f32) (b : Fin 8) (p : Fin 2048) (h : Fin 2) (e : Fin 128) :
    scaledK x G (ix4 b p h e) = normed (fun d => x (ix4 b p h d)) (fun d => G (ix2 1 d)) e := by
  pointwise [scaledK, normed]
theorem evenK_at (n : FVec Ideal S8x2048x2x128 .f32) (b : Fin 8) (p : Fin 2048) (h : Fin 2) (j : Fin 64) :
    evenK n (ix4 b p h j) = n (ix4 b p h ⟨(j : ℕ) * 2, by omega⟩) := by
  pointwise [evenK]
theorem oddK_at (n : FVec Ideal S8x2048x2x128 .f32) (b : Fin 8) (p : Fin 2048) (h : Fin 2) (j : Fin 64) :
    oddK n (ix4 b p h j) = n (ix4 b p h ⟨(j : ℕ) * 2 + 1, by omega⟩) := by
  pointwise [oddK]
theorem spreadK_at (T : FVec Ideal S2048x64 .f32) (b : Fin 8) (p : Fin 2048) (h : Fin 2) (j : Fin 64) :
    spreadK T (ix4 b p h j) = T (ix2 p j) := by
  pointwise [spreadK]
theorem turnedK_at (n : FVec Ideal S8x2048x2x128 .f32) (b : Fin 8) (p : Fin 2048) (h : Fin 2) (e : Fin 128) :
    turnedK n angles (ix4 b p h e) = turned (fun d => n (ix4 b p h d)) p e := by
  have he := e.isLt
  pointwise [turnedK]
  simp only [spreadK_at, evenK_at, oddK_at, cos_angles, sin_angles]
  unfold turned
  by_cases h0 : (e : ℕ) % 2 = 0
  · have e1 : (⟨(e : ℕ) / 2 * 2, by omega⟩ : Fin 128) = e := Fin.ext (by show (e : ℕ) / 2 * 2 = e; omega)
    have e2 : (⟨(e : ℕ) / 2 * 2 + 1, by omega⟩ : Fin 128) = partner e :=
      Fin.ext (by show (e : ℕ) / 2 * 2 + 1 = if (e : ℕ) % 2 = 0 then (e : ℕ) + 1 else (e : ℕ) - 1; rw [if_pos h0]; omega)
    rw [dif_pos (by omega), if_pos h0, e1, e2]
    rfl
  · have e1 : (⟨(e : ℕ) / 2 * 2, by omega⟩ : Fin 128) = partner e :=
      Fin.ext (by show (e : ℕ) / 2 * 2 = if (e : ℕ) % 2 = 0 then (e : ℕ) + 1 else (e : ℕ) - 1; rw [if_neg h0]; omega)
    have e2 : (⟨(e : ℕ) / 2 * 2 + 1, by omega⟩ : Fin 128) = e := Fin.ext (by show (e : ℕ) / 2 * 2 + 1 = e; omega)
    rw [dif_neg (by omega), if_neg h0, e1, e2]
    rfl

/-! ## The three results -/

/-- The scores' factor. -/
def factor : FVec Ideal S_ .f32 :=
  Host.divf (constant S_ .f32 0x3F800000#32) (mulf (Host.sqrt (constant S_ .f32 0x43000000#32)) (Host.log (constant S_ .f32 0x40000000#32)))
def REF0 (X : FVec Ideal S16384x2560 .f32) (G : FVec Ideal S2x128 .f32) : FVec Ideal S16384x1024 .bf16 :=
  truncf .bf16 (shapeCast _ (mulf (turnedQ (scaledQ (headsQ X) G) angles) (broadcastInDim S8x2048x8x128 ![] bcast_S_S8x2048x8x128 factor)) shapeCasts_S8x2048x8x128_S16384x1024) bitsLt_bf16_f32
def REF1 (X : FVec Ideal S16384x2560 .f32) (G : FVec Ideal S2x128 .f32) : FVec Ideal S8x256x2048 .bf16 :=
  truncf .bf16 (shapeCast _ (transpose S8x2x128x2048 [0, 2, 3, 1] (turnedK (scaledK (headsK X) G) angles) transposes_S8x2048x2x128_S8x2x128x2048_0_2_3_1) shapeCasts_S8x2x128x2048_S8x256x2048) bitsLt_bf16_f32
/-- The values' columns, head by head, and ones beside them. -/
def headsV (X : FVec Ideal S16384x2560 .f32) : FVec Ideal S8x2048x2x128 .f32 :=
  shapeCast _ (extractStridedSlice S8x2048x256 ![0, 0, 2304] (proj X) slices_S8x2048x2560_S8x2048x256_0_0_2304) shapeCasts_S8x2048x256_S8x2048x2x128
def REF2 (X : FVec Ideal S16384x2560 .f32) : FVec Ideal S16384x512 .bf16 :=
  truncf .bf16 (shapeCast _ (concatenate S8x2048x2x256 3 [⟨S8x2048x2x128, headsV X⟩, ⟨S8x2048x2x128, (broadcastInDim S8x2048x2x128 ![] bcast_S_S8x2048x2x128 (constant S_ .f32 0x3F800000#32))⟩] concatenates_S8x2048x2x128_S8x2048x2x128_S8x2048x2x256_d3) shapeCasts_S8x2048x2x256_S16384x512) bitsLt_bf16_f32

theorem REF0_at (X : FVec Ideal S16384x2560 .f32) (G : FVec Ideal S2x128 .f32) (i : Fin 16384) (j : Fin 1024) :
    REF0 X G (ix2 i j) = turned (normed (fun d => X (ix2 i ⟨1024 + ((j : ℕ) / 128 * 128 + (d : ℕ)), by omega⟩)) (fun d => G (ix2 1 d))) ⟨(i : ℕ) % 2048, by omega⟩ ⟨(j : ℕ) % 128, by omega⟩
      * Ideal.div (Ideal.ofBits .f32 0x3F800000#32) (Ideal.sqrt (Ideal.ofBits .f32 0x43000000#32) * Ideal.log (Ideal.ofBits .f32 0x40000000#32)) := by
  pointwise [REF0, factor]
  refine congrArg (· * _) ?_
  have hb : (⟨(⟨(i : ℕ) / 2048, by omega⟩ : Fin 8) * 2048 + ((⟨(i : ℕ) % 2048, by omega⟩ : Fin 2048) : ℕ), by show (i : ℕ) / 2048 * 2048 + (i : ℕ) % 2048 < 16384; omega⟩ : Fin 16384) = i :=
    Fin.ext (by show (i : ℕ) / 2048 * 2048 + (i : ℕ) % 2048 = i; omega)
  rw [turnedQ_at]
  simp only [scaledQ_at, headsQ_at, hb]
theorem REF1_at (X : FVec Ideal S16384x2560 .f32) (G : FVec Ideal S2x128 .f32) (b : Fin 8) (f : Fin 256) (p : Fin 2048) :
    REF1 X G (ix3 b f p) = turned (normed (fun d => X (ix2 ⟨(b : ℕ) * 2048 + p, by omega⟩ ⟨2048 + ((f : ℕ) / 128 * 128 + (d : ℕ)), by omega⟩)) (fun d => G (ix2 1 d))) p ⟨(f : ℕ) % 128, by omega⟩ := by
  pointwise [REF1]
  rw [turnedK_at]
  simp only [scaledK_at, headsK_at]
theorem REF2_at (X : FVec Ideal S16384x2560 .f32) (i : Fin 16384) (j : Fin 512) :
    REF2 X (ix2 i j) = if (j : ℕ) / 128 % 2 = 0 then X (ix2 i ⟨2304 + ((j : ℕ) / 128 / 2 * 128 + (j : ℕ) % 128), by omega⟩) else Ideal.ofBits .f32 0x3F800000#32 := by
  pointwise [REF2, headsV, proj]
  have hj := j.isLt
  by_cases h : (j : ℕ) % 256 < 128
  · rw [dif_pos h, if_pos (by omega)]
    refine congrArg (fun e => X (ix2 i e)) (Fin.ext ?_)
    show 2304 + ((j : ℕ) / 256 * 128 + (j : ℕ) % 256) = 2304 + ((j : ℕ) / 128 / 2 * 128 + (j : ℕ) % 128)
    omega
  · rw [dif_neg h, if_neg (by omega)]

end Cert.PrepRefIdeal.Value
end
-- ==== Proof.PrepEq.lean ====
/- The rotary call: the kernel's three results are the reference's. -/
module

public import proofs.«01_k».proof.Proof.PrepValue
public import proofs.«01_k».proof.Proof.PrepRef

@[expose] public section

set_option maxRecDepth 16384

noncomputable section

namespace Cert.PrepEq

open Idealize.ShloMosaic
open Cert.PrepIdeal.Value (result7 result8 result9 queries keys values scale one_bits)
open Cert.PrepRefIdeal.Value (REF0 REF1 REF2 REF0_at REF1_at REF2_at)

/-- The named factor is one over the root of 128 and the logarithm of two. -/
theorem factor_eq : scale = Ideal.div (Ideal.ofBits .f32 0x3F800000#32) (Ideal.sqrt (Ideal.ofBits .f32 0x43000000#32) * Ideal.log (Ideal.ofBits .f32 0x40000000#32)) := by
  have h128 : Ideal.ofBits .f32 0x43000000#32 = ((128 : ℝ) : EReal) := by
    simp [Ideal.ofBits, Ideal.ieee, ← EReal.coe_mul]
    norm_num
  have h2 : Ideal.ofBits .f32 0x40000000#32 = ((2 : ℝ) : EReal) := by
    simp [Ideal.ofBits, Ideal.ieee, ← EReal.coe_mul]
    norm_num
  have hl : Real.log 2 ≠ 0 := (Real.log_pos (by norm_num)).ne'
  rw [one_bits, h128, h2, Ideal.sqrt_coe, if_neg (by norm_num), Ideal.log_coe, if_neg (by norm_num), ← EReal.coe_mul, Ideal.div_coe (by positivity), one_mul]
  show (((Real.sqrt 128)⁻¹ * (Real.log 2)⁻¹ : ℝ) : EReal) = _
  refine congrArg _ ?_
  rw [one_div, mul_inv]

theorem queries_eq (P : FVec Ideal Cert.PrepIdeal.S16384x2560 .f32) (G : FVec Ideal Cert.PrepIdeal.S2x128 .f32) : result7 P G = REF0 P G := by
  funext i
  idx_vars i
  refine Eq.trans ?_ (REF0_at P G i0 i1).symm
  unfold result7 queries
  rw [factor_eq]
  rfl
theorem keys_eq (P : FVec Ideal Cert.PrepIdeal.S16384x2560 .f32) (G : FVec Ideal Cert.PrepIdeal.S2x128 .f32) : result8 P G = REF1 P G := by
  funext i
  idx_vars i
  refine Eq.trans ?_ (REF1_at P G i0 i1 i2).symm
  unfold result8 keys
  have e : (⟨((i0 : ℕ) * 2048 + (i2 : ℕ)) % 2048, by omega⟩ : Fin 2048) = i2 := Fin.ext (by show ((i0 : ℕ) * 2048 + (i2 : ℕ)) % 2048 = i2; omega)
  show Cert.PrepRope.turned _ (⟨((i0 : ℕ) * 2048 + (i2 : ℕ)) % 2048, by omega⟩ : Fin 2048) _ = _
  rw [e]
  rfl
theorem values_eq (P : FVec Ideal Cert.PrepIdeal.S16384x2560 .f32) : result9 P = REF2 P := by
  funext i
  idx_vars i
  refine Eq.trans ?_ (REF2_at P i0 i1).symm
  unfold result9 values
  rw [one_bits]
  rfl

end Cert.PrepEq
end
-- ==== Proof.PrepRun.lean ====
/- The rotary call's reference run: its three results are those of the reading, by their definitions. -/
module

public import proofs.«01_k».proof.Proof.PrepRef

@[expose] public section

set_option maxRecDepth 16384

noncomputable section

namespace Cert.PrepRefIdeal.Value

open Idealize.ShloMosaic Idealize.ShloMosaic.TcCoe Idealize.SL.Sem Idealize.ShloMosaic.StableHlo
open Cert.PrepRefIdeal Cert.PrepRefIdeal.Gen
open Cert.PrepIdeal.Value (angles)

variable (m : (ℓ : Loc nD τ sig) → Buf (Elt Ideal) ℓ)

theorem result0 (c : Dev nD) :
    truncf .bf16 (shapeCast _ (mulf (shapeCast _ (concatenate S8x2048x8x64x2 4 [⟨S8x2048x8x64x1, (broadcastInDim S8x2048x8x64x1 ![0, 1, 2, 3] bcast_S8x2048x8x64_S8x2048x8x64x1_0_1_2_3 (subf (mulf (res_main_v49 (launchContents m c)) (broadcastInDim S8x2048x8x64 ![0, 1, 2, 3] bcast_S1x2048x1x64_S8x2048x8x64_0_1_2_3 (res_main_v44 (launchContents m c)))) (mulf (res_main_v51 (launchContents m c)) (broadcastInDim S8x2048x8x64 ![0, 1, 2, 3] bcast_S1x2048x1x64_S8x2048x8x64_0_1_2_3 (res_main_v46 (launchContents m c))))))⟩, ⟨S8x2048x8x64x1, (broadcastInDim S8x2048x8x64x1 ![0, 1, 2, 3] bcast_S8x2048x8x64_S8x2048x8x64x1_0_1_2_3 (addf (mulf (res_main_v49 (launchContents m c)) (broadcastInDim S8x2048x8x64 ![0, 1, 2, 3] bcast_S1x2048x1x64_S8x2048x8x64_0_1_2_3 (res_main_v46 (launchContents m c)))) (mulf (res_main_v51 (launchContents m c)) (broadcastInDim S8x2048x8x64 ![0, 1, 2, 3] bcast_S1x2048x1x64_S8x2048x8x64_0_1_2_3 (res_main_v44 (launchContents m c))))))⟩] concatenates_S8x2048x8x64x1_S8x2048x8x64x1_S8x2048x8x64x2_d4) shapeCasts_S8x2048x8x64x2_S8x2048x8x128) (broadcastInDim S8x2048x8x128 ![] bcast_S_S8x2048x8x128 (Host.divf (constant S_ .f32 0x3F800000#32) (mulf (Host.sqrt (constant S_ .f32 0x43000000#32)) (Host.log (constant S_ .f32 0x40000000#32)))))) shapeCasts_S8x2048x8x128_S16384x1024) bitsLt_bf16_f32
      = REF0 (m ((c.tc : Thread nD τ).loc main_arg0)) (m ((c.tc : Thread nD τ).loc main_arg1)) := rfl
theorem result1 (c : Dev nD) :
    truncf .bf16 (shapeCast _ (transpose S8x2x128x2048 [0, 2, 3, 1] (shapeCast _ (concatenate S8x2048x2x64x2 4 [⟨S8x2048x2x64x1, (broadcastInDim S8x2048x2x64x1 ![0, 1, 2, 3] bcast_S8x2048x2x64_S8x2048x2x64x1_0_1_2_3 (subf (mulf (res_main_v110 (launchContents m c)) (broadcastInDim S8x2048x2x64 ![0, 1, 2, 3] bcast_S1x2048x1x64_S8x2048x2x64_0_1_2_3 (res_main_v105 (launchContents m c)))) (mulf (res_main_v112 (launchContents m c)) (broadcastInDim S8x2048x2x64 ![0, 1, 2, 3] bcast_S1x2048x1x64_S8x2048x2x64_0_1_2_3 (res_main_v107 (launchContents m c))))))⟩, ⟨S8x2048x2x64x1, (broadcastInDim S8x2048x2x64x1 ![0, 1, 2, 3] bcast_S8x2048x2x64_S8x2048x2x64x1_0_1_2_3 (addf (mulf (res_main_v110 (launchContents m c)) (broadcastInDim S8x2048x2x64 ![0, 1, 2, 3] bcast_S1x2048x1x64_S8x2048x2x64_0_1_2_3 (res_main_v107 (launchContents m c)))) (mulf (res_main_v112 (launchContents m c)) (broadcastInDim S8x2048x2x64 ![0, 1, 2, 3] bcast_S1x2048x1x64_S8x2048x2x64_0_1_2_3 (res_main_v105 (launchContents m c))))))⟩] concatenates_S8x2048x2x64x1_S8x2048x2x64x1_S8x2048x2x64x2_d4) shapeCasts_S8x2048x2x64x2_S8x2048x2x128) transposes_S8x2048x2x128_S8x2x128x2048_0_2_3_1) shapeCasts_S8x2x128x2048_S8x256x2048) bitsLt_bf16_f32
      = REF1 (m ((c.tc : Thread nD τ).loc main_arg0)) (m ((c.tc : Thread nD τ).loc main_arg2)) := rfl
theorem result2 (c : Dev nD) :
    truncf .bf16 (shapeCast _ (concatenate S8x2048x2x256 3 [⟨S8x2048x2x128, (shapeCast _ (extractStridedSlice S8x2048x256 ![0, 0, 2304] (res_main_v0 (launchContents m c)) slices_S8x2048x2560_S8x2048x256_0_0_2304) shapeCasts_S8x2048x256_S8x2048x2x128)⟩, ⟨S8x2048x2x128, (broadcastInDim S8x2048x2x128 ![] bcast_S_S8x2048x2x128 (constant S_ .f32 0x3F800000#32))⟩] concatenates_S8x2048x2x128_S8x2048x2x128_S8x2048x2x256_d3) shapeCasts_S8x2048x2x256_S16384x512) bitsLt_bf16_f32
      = REF2 (m ((c.tc : Thread nD τ).loc main_arg0)) := rfl

end Cert.PrepRefIdeal.Value
end
-- ==== Proof.ClaimPrep.lean ====
/- The claims about the rotary call: the reference leaves its arguments and no signal behind, and the kernel's three results are
   the reference's. -/
module

public import proofs.«01_k».proof.Defs
public import proofs.«01_k».proof.Proof.PrepEq
public import proofs.«01_k».proof.Proof.PrepRun
public import proofs.«01_k».proof.Proof.Gen.Prep.Frame
public import Idealize.ShloMosaic.Lib.Claim
public import Idealize.ShloMosaic.Lib.Quiescent

@[expose] public section

set_option maxRecDepth 16384
set_option maxHeartbeats 2000000

noncomputable section

namespace Cert.ClaimPrep

open Idealize.ShloMosaic Idealize.SL.Sem

theorem frame_ref : quiescent_PrepRefIdeal := fun m g _ =>
  (θ_run Cert.PrepRefIdeal.defs _ _).mono
    (fun r h => ⟨fun c => (h c).2.2.2, sem_eq_zero_of_no_sems (by decide) r.2⟩)
    (Cert.PrepRefIdeal.Value.run m g)

/-- The named factor of the queries is the table's real number at the ideal instance and the literal at every other. -/
theorem preserves : preserves_Prep_PrepIdeal :=
  IdealRules.named_const.statement Cert.PrepIdeal.κ "score_scale" .f32 0x3E0293EE#32 (((Real.sqrt 128)⁻¹ * (Real.log 2)⁻¹ : ℝ) : EReal) rfl

theorem algebraic : algebraic_PrepIdeal_PrepRefIdeal := by
  pair_intro
  · run_from Cert.PrepIdeal.Gen.run_main m g
    · exact Cert.PrepIdeal.Gen.V_main_arg1 m _
    · exact Cert.PrepIdeal.Gen.V_main_arg2 m _
  · run_from Cert.PrepRefIdeal.Value.run m' g'
    all_goals obtain ⟨e₀, e₁, e₂⟩ := hagree c
    · refine (Cert.PrepRefIdeal.Value.result0 m' c).trans ?_
      rw [e₀, e₁]
      exact ((Cert.PrepIdeal.Value.final7 m c).trans (Cert.PrepEq.queries_eq _ _)).symm
    · refine (Cert.PrepRefIdeal.Value.result1 m' c).trans ?_
      rw [e₀, e₂]
      exact ((Cert.PrepIdeal.Value.final8 m c).trans (Cert.PrepEq.keys_eq _ _)).symm
    · refine (Cert.PrepRefIdeal.Value.result2 m' c).trans ?_
      rw [e₀]
      exact ((Cert.PrepIdeal.Value.final9 m c).trans (Cert.PrepEq.values_eq _)).symm

end Cert.ClaimPrep
end
-- ==== Proof.lean ====
module

public import proofs.«01_k».proof.Defs
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Pre_finite_qk
public import proofs.«01_k».proof.Proof.Gen.Pre_finite_gate
public import proofs.«01_k».proof.Proof.Gen.GqaIdeal.Value
public import proofs.«01_k».proof.Proof.Gen.GqaRefIdeal.Run
public import proofs.«01_k».proof.Proof.Gen.UpIdeal.Value
public import proofs.«01_k».proof.Proof.Gen.UpRefIdeal.Run
public import proofs.«01_k».proof.Proof.Gen.DownIdeal.Value
public import proofs.«01_k».proof.Proof.Gen.DownRefIdeal.Run
public import proofs.«01_k».proof.Proof.ClaimGqa
public import proofs.«01_k».proof.Proof.ClaimUp
public import proofs.«01_k».proof.Proof.ClaimDown
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixIdeal.Value
public import proofs.«01_k».proof.Proof.Gen.MixRefIdeal.Run
public import proofs.«01_k».proof.Proof.Gen.AbIn
public import proofs.«01_k».proof.Proof.Gen.AbIn.Skeleton
public import proofs.«01_k».proof.Proof.Gen.AbIn.Launch
public import proofs.«01_k».proof.Proof.Gen.AbIn.Points
public import proofs.«01_k».proof.Proof.Gen.AbIn.Frame
public import proofs.«01_k».proof.Proof.Gen.AbInIdeal
public import proofs.«01_k».proof.Proof.Gen.AbInIdeal.Skeleton
public import proofs.«01_k».proof.Proof.Gen.AbInIdeal.Launch
public import proofs.«01_k».proof.Proof.Gen.AbInIdeal.Points
public import proofs.«01_k».proof.Proof.Gen.AbInIdeal.Frame
public import proofs.«01_k».proof.Proof.Gen.AbInRefIdeal
public import proofs.«01_k».proof.Proof.Gen.AbInIdeal.Value
public import proofs.«01_k».proof.Proof.Gen.AbInRefIdeal.Run
public import proofs.«01_k».proof.Proof.Gen.CdIn
public import proofs.«01_k».proof.Proof.Gen.CdIn.Skeleton
public import proofs.«01_k».proof.Proof.Gen.CdIn.Launch
public import proofs.«01_k».proof.Proof.Gen.CdIn.Points
public import proofs.«01_k».proof.Proof.Gen.CdIn.Frame
public import proofs.«01_k».proof.Proof.Gen.CdInIdeal
public import proofs.«01_k».proof.Proof.Gen.CdInIdeal.Skeleton
public import proofs.«01_k».proof.Proof.Gen.CdInIdeal.Launch
public import proofs.«01_k».proof.Proof.Gen.CdInIdeal.Points
public import proofs.«01_k».proof.Proof.Gen.CdInIdeal.Frame
public import proofs.«01_k».proof.Proof.Gen.CdInRefIdeal
public import proofs.«01_k».proof.Proof.Gen.CdInIdeal.Value
public import proofs.«01_k».proof.Proof.Gen.CdInRefIdeal.Run
public import proofs.«01_k».proof.Proof.ClaimMix
public import proofs.«01_k».proof.Proof.ClaimAbIn
public import proofs.«01_k».proof.Proof.ClaimCdIn
public import proofs.«01_k».proof.Proof.Gen.Na
public import proofs.«01_k».proof.Proof.Gen.Na.Skeleton
public import proofs.«01_k».proof.Proof.Gen.Na.Launch
public import proofs.«01_k».proof.Proof.Gen.Na.Points
public import proofs.«01_k».proof.Proof.Gen.Na.Frame
public import proofs.«01_k».proof.Proof.Gen.NaIdeal
public import proofs.«01_k».proof.Proof.Gen.NaIdeal.Skeleton
public import proofs.«01_k».proof.Proof.Gen.NaIdeal.Launch
public import proofs.«01_k».proof.Proof.Gen.NaIdeal.Points
public import proofs.«01_k».proof.Proof.Gen.NaIdeal.Frame
public import proofs.«01_k».proof.Proof.Gen.NaRefIdeal
public import proofs.«01_k».proof.Proof.Gen.NaIdeal.Value
public import proofs.«01_k».proof.Proof.Gen.NaRefIdeal.Run
public import proofs.«01_k».proof.Proof.Gen.Pre_finite_na
public import proofs.«01_k».proof.Proof.Gen.Pre_finite_pool
public import proofs.«01_k».proof.Proof.ClaimNa
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.PoolIdeal.Value
public import proofs.«01_k».proof.Proof.Gen.PoolRefIdeal.Run
public import proofs.«01_k».proof.Proof.ClaimPool
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepIdeal.Value
public import proofs.«01_k».proof.Proof.Gen.PrepRefIdeal.Run
public import proofs.«01_k».proof.Proof.ClaimPrep
public import Idealize.ShloMosaic.Adequacy
public import Idealize.ShloMosaic.Init

@[expose] public section

noncomputable section

namespace Cert.Proof

open Idealize.ShloMosaic Idealize.SL.Sem Cert.Gqa

theorem claim : Cert.Claim :=
  ⟨Cert.Gqa.Gen.facts,
   Cert.GqaIdeal.Gen.facts,
   Cert.GqaRefIdeal.Gen.facts,
   Cert.Up.Gen.facts,
   Cert.UpIdeal.Gen.facts,
   Cert.UpRefIdeal.Gen.facts,
   Cert.Down.Gen.facts,
   Cert.DownIdeal.Gen.facts,
   Cert.DownRefIdeal.Gen.facts,
   Cert.Mix.Gen.facts,
   Cert.MixIdeal.Gen.facts,
   Cert.MixRefIdeal.Gen.facts,
   Cert.AbIn.Gen.facts,
   Cert.AbInIdeal.Gen.facts,
   Cert.AbInRefIdeal.Gen.facts,
   Cert.CdIn.Gen.facts,
   Cert.CdInIdeal.Gen.facts,
   Cert.CdInRefIdeal.Gen.facts,
   Cert.Na.Gen.facts,
   Cert.NaIdeal.Gen.facts,
   Cert.NaRefIdeal.Gen.facts,
   Cert.Pool.Gen.facts,
   Cert.PoolIdeal.Gen.facts,
   Cert.PoolRefIdeal.Gen.facts,
   Cert.Prep.Gen.facts,
   Cert.PrepIdeal.Gen.facts,
   Cert.PrepRefIdeal.Gen.facts,
   Cert.Pre_finite_qk.Gen.facts,
   Cert.Pre_finite_gate.Gen.facts,
   Cert.Pre_finite_na.Gen.facts,
   Cert.Pre_finite_pool.Gen.facts,
   fun m ρ _ => Cert.Gqa.Gen.frame m ρ,
   fun m ρ _ => Cert.GqaIdeal.Gen.frame m ρ,
   fun m ρ _ => Cert.GqaIdeal.Gen.frame m ρ,
   Cert.ClaimGqa.frame_ref,
   fun m ρ _ => Cert.ClaimGqa.frame_ref m ρ trivial,
   fun m ρ _ => Cert.Up.Gen.frame m ρ,
   fun m ρ _ => Cert.UpIdeal.Gen.frame m ρ,
   fun m ρ _ => Cert.UpIdeal.Gen.frame m ρ,
   Cert.ClaimUp.frame_ref,
   fun m ρ _ => Cert.ClaimUp.frame_ref m ρ trivial,
   fun m ρ _ => Cert.Down.Gen.frame m ρ,
   fun m ρ _ => Cert.DownIdeal.Gen.frame m ρ,
   Cert.ClaimDown.frame_ref,
   fun m ρ _ => Cert.Mix.Gen.frame m ρ,
   fun m ρ _ => Cert.MixIdeal.Gen.frame m ρ,
   Cert.ClaimMix.frame_ref,
   fun m ρ _ => Cert.AbIn.Gen.frame m ρ,
   fun m ρ _ => Cert.AbInIdeal.Gen.frame m ρ,
   Cert.ClaimAbIn.frame_ref,
   fun m ρ _ => Cert.CdIn.Gen.frame m ρ,
   fun m ρ _ => Cert.CdInIdeal.Gen.frame m ρ,
   Cert.ClaimCdIn.frame_ref,
   fun m ρ _ => Cert.Na.Gen.frame m ρ,
   fun m ρ _ => Cert.NaIdeal.Gen.frame m ρ,
   fun m ρ _ => Cert.NaIdeal.Gen.frame m ρ,
   Cert.ClaimNa.frame_ref,
   fun m ρ _ => Cert.ClaimNa.frame_ref m ρ trivial,
   fun m ρ _ => Cert.Pool.Gen.frame m ρ,
   fun m ρ _ => Cert.PoolIdeal.Gen.frame m ρ,
   fun m ρ _ => Cert.PoolIdeal.Gen.frame m ρ,
   Cert.ClaimPool.frame_ref,
   fun m ρ _ => Cert.ClaimPool.frame_ref m ρ trivial,
   fun m ρ _ => Cert.Prep.Gen.frame m ρ,
   fun m ρ _ => Cert.PrepIdeal.Gen.frame m ρ,
   Cert.ClaimPrep.frame_ref,
   trivial,
   Cert.ClaimGqa.algebraic,
   trivial,
   Cert.ClaimUp.algebraic,
   trivial,
   Cert.ClaimDown.algebraic,
   trivial,
   Cert.ClaimMix.algebraic,
   trivial,
   Cert.ClaimAbIn.algebraic,
   trivial,
   Cert.ClaimCdIn.algebraic,
   Cert.ClaimNa.preserves,
   Cert.ClaimNa.algebraic,
   trivial,
   Cert.ClaimPool.algebraic,
   Cert.ClaimPrep.preserves,
   Cert.ClaimPrep.algebraic⟩

end Cert.Proof

end
